-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite [hPre_scores_finite : Cert.Pre_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite [hPre_scores_finite : Cert.Pre_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_scores_finite [hKernelIdeal : Cert.KernelIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_scores_finite [hReferenceIdeal : Cert.ReferenceIdeal.Facts] [hPre_scores_finite : Cert.Pre_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6)
      ∧ r.2.mem ((c.tc : Thread Cert.Kernel17.nD Cert.Kernel17.τ).loc Cert.Kernel17.main_arg7) = m ((c.tc : Thread Cert.Kernel17.nD Cert.Kernel17.τ).loc Cert.Kernel17.main_arg7)
      ∧ r.2.mem ((c.tc : Thread Cert.Kernel17.nD Cert.Kernel17.τ).loc Cert.Kernel17.main_arg8) = m ((c.tc : Thread Cert.Kernel17.nD Cert.Kernel17.τ).loc Cert.Kernel17.main_arg8)
      ∧ r.2.mem ((c.tc : Thread Cert.Kernel17.nD Cert.Kernel17.τ).loc Cert.Kernel17.main_arg9) = m ((c.tc : Thread Cert.Kernel17.nD Cert.Kernel17.τ).loc Cert.Kernel17.main_arg9)
      ∧ r.2.mem ((c.tc : Thread Cert.Kernel17.nD Cert.Kernel17.τ).loc Cert.Kernel17.main_arg10) = m ((c.tc : Thread Cert.Kernel17.nD Cert.Kernel17.τ).loc Cert.Kernel17.main_arg10))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
      ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
      ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
      ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
      ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6)
      ∧ r.2.mem ((c.tc : Thread Cert.Reference17Ideal.nD Cert.Reference17Ideal.τ).loc Cert.Reference17Ideal.main_arg7) = m ((c.tc : Thread Cert.Reference17Ideal.nD Cert.Reference17Ideal.τ).loc Cert.Reference17Ideal.main_arg7)
      ∧ r.2.mem ((c.tc : Thread Cert.Reference17Ideal.nD Cert.Reference17Ideal.τ).loc Cert.Reference17Ideal.main_arg8) = m ((c.tc : Thread Cert.Reference17Ideal.nD Cert.Reference17Ideal.τ).loc Cert.Reference17Ideal.main_arg8)
      ∧ r.2.mem ((c.tc : Thread Cert.Reference17Ideal.nD Cert.Reference17Ideal.τ).loc Cert.Reference17Ideal.main_arg9) = m ((c.tc : Thread Cert.Reference17Ideal.nD Cert.Reference17Ideal.τ).loc Cert.Reference17Ideal.main_arg9)
      ∧ r.2.mem ((c.tc : Thread Cert.Reference17Ideal.nD Cert.Reference17Ideal.τ).loc Cert.Reference17Ideal.main_arg10) = m ((c.tc : Thread Cert.Reference17Ideal.nD Cert.Reference17Ideal.τ).loc Cert.Reference17Ideal.main_arg10))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5)
      ∧ r.2.mem ((c.tc : Thread Cert.Kernel18.nD Cert.Kernel18.τ).loc Cert.Kernel18.main_arg6) = m ((c.tc : Thread Cert.Kernel18.nD Cert.Kernel18.τ).loc Cert.Kernel18.main_arg6)
      ∧ r.2.mem ((c.tc : Thread Cert.Kernel18.nD Cert.Kernel18.τ).loc Cert.Kernel18.main_arg7) = m ((c.tc : Thread Cert.Kernel18.nD Cert.Kernel18.τ).loc Cert.Kernel18.main_arg7)
      ∧ r.2.mem ((c.tc : Thread Cert.Kernel18.nD Cert.Kernel18.τ).loc Cert.Kernel18.main_arg8) = m ((c.tc : Thread Cert.Kernel18.nD Cert.Kernel18.τ).loc Cert.Kernel18.main_arg8))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
      ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
      ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
      ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5)
      ∧ r.2.mem ((c.tc : Thread Cert.Reference18Ideal.nD Cert.Reference18Ideal.τ).loc Cert.Reference18Ideal.main_arg6) = m ((c.tc : Thread Cert.Reference18Ideal.nD Cert.Reference18Ideal.τ).loc Cert.Reference18Ideal.main_arg6)
      ∧ r.2.mem ((c.tc : Thread Cert.Reference18Ideal.nD Cert.Reference18Ideal.τ).loc Cert.Reference18Ideal.main_arg7) = m ((c.tc : Thread Cert.Reference18Ideal.nD Cert.Reference18Ideal.τ).loc Cert.Reference18Ideal.main_arg7)
      ∧ r.2.mem ((c.tc : Thread Cert.Reference18Ideal.nD Cert.Reference18Ideal.τ).loc Cert.Reference18Ideal.main_arg8) = m ((c.tc : Thread Cert.Reference18Ideal.nD Cert.Reference18Ideal.τ).loc Cert.Reference18Ideal.main_arg8))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5)
      ∧ r.2.mem ((c.tc : Thread Cert.Kernel20.nD Cert.Kernel20.τ).loc Cert.Kernel20.main_arg6) = m ((c.tc : Thread Cert.Kernel20.nD Cert.Kernel20.τ).loc Cert.Kernel20.main_arg6))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
      ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5)
      ∧ r.2.mem ((c.tc : Thread Cert.Reference20Ideal.nD Cert.Reference20Ideal.τ).loc Cert.Reference20Ideal.main_arg6) = m ((c.tc : Thread Cert.Reference20Ideal.nD Cert.Reference20Ideal.τ).loc Cert.Reference20Ideal.main_arg6))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2)
      ∧ r.2.mem ((c.tc : Thread Cert.Kernel23.nD Cert.Kernel23.τ).loc Cert.Kernel23.main_arg3) = m ((c.tc : Thread Cert.Kernel23.nD Cert.Kernel23.τ).loc Cert.Kernel23.main_arg3))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
      ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2)
      ∧ r.2.mem ((c.tc : Thread Cert.Reference23Ideal.nD Cert.Reference23Ideal.τ).loc Cert.Reference23Ideal.main_arg3) = m ((c.tc : Thread Cert.Reference23Ideal.nD Cert.Reference23Ideal.τ).loc Cert.Reference23Ideal.main_arg3))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1))
      ∧ r.2.sem = fun _ => 0)

def preserves_Kernel_KernelIdeal : Prop :=
  True

def algebraic_KernelIdeal_ReferenceIdeal_pre_scores_finite [hKernelIdeal : Cert.KernelIdeal.Facts] [hReferenceIdeal : Cert.ReferenceIdeal.Facts] [hPre_scores_finite : Cert.Pre_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v72) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v15) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_v23) = v1 c
          ∧ r.2.mem ((c.tc : Thread Cert.Reference5Ideal.nD Cert.Reference5Ideal.τ).loc Cert.Reference5Ideal.main_v75) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v5) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v38) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_v73) = v2 c
          ∧ r.2.mem ((c.tc : Thread Cert.Reference8Ideal.nD Cert.Reference8Ideal.τ).loc Cert.Reference8Ideal.main_v56) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v8) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_v15) = v1 c
          ∧ r.2.mem ((c.tc : Thread Cert.Reference10Ideal.nD Cert.Reference10Ideal.τ).loc Cert.Reference10Ideal.main_v28) = v2 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_v15) = v1 c
          ∧ r.2.mem ((c.tc : Thread Cert.Reference11Ideal.nD Cert.Reference11Ideal.τ).loc Cert.Reference11Ideal.main_v28) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v9) = v0 c
          ∧ r.2.mem ((c.tc : Thread Cert.Reference12Ideal.nD Cert.Reference12Ideal.τ).loc Cert.Reference12Ideal.main_v8) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v7_0)) (v1 : (c : Dev Cert.Kernel14Ideal.nD) → Buf (Elt Ideal) ((c.tc : Thread Cert.Kernel14Ideal.nD Cert.Kernel14Ideal.τ).loc Cert.Kernel14Ideal.main_v7_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v7_0) = v0 c
          ∧ r.2.mem ((c.tc : Thread Cert.Kernel14Ideal.nD Cert.Kernel14Ideal.τ).loc Cert.Kernel14Ideal.main_v7_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v9) = v0 c
          ∧ r.2.mem ((c.tc : Thread Cert.Reference14Ideal.nD Cert.Reference14Ideal.τ).loc Cert.Reference14Ideal.main_v11) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_v15) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)
      ∧ m' ((c.tc : Thread Cert.Reference17Ideal.nD Cert.Reference17Ideal.τ).loc Cert.Reference17Ideal.main_arg7) = m ((c.tc : Thread Cert.Kernel17Ideal.nD Cert.Kernel17Ideal.τ).loc Cert.Kernel17Ideal.main_arg7)
      ∧ m' ((c.tc : Thread Cert.Reference17Ideal.nD Cert.Reference17Ideal.τ).loc Cert.Reference17Ideal.main_arg8) = m ((c.tc : Thread Cert.Kernel17Ideal.nD Cert.Kernel17Ideal.τ).loc Cert.Kernel17Ideal.main_arg8)
      ∧ m' ((c.tc : Thread Cert.Reference17Ideal.nD Cert.Reference17Ideal.τ).loc Cert.Reference17Ideal.main_arg9) = m ((c.tc : Thread Cert.Kernel17Ideal.nD Cert.Kernel17Ideal.τ).loc Cert.Kernel17Ideal.main_arg9)
      ∧ m' ((c.tc : Thread Cert.Reference17Ideal.nD Cert.Reference17Ideal.τ).loc Cert.Reference17Ideal.main_arg10) = m ((c.tc : Thread Cert.Kernel17Ideal.nD Cert.Kernel17Ideal.τ).loc Cert.Kernel17Ideal.main_arg10)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6)
          ∧ r.2.mem ((c.tc : Thread Cert.Kernel17Ideal.nD Cert.Kernel17Ideal.τ).loc Cert.Kernel17Ideal.main_arg7) = m ((c.tc : Thread Cert.Kernel17Ideal.nD Cert.Kernel17Ideal.τ).loc Cert.Kernel17Ideal.main_arg7)
          ∧ r.2.mem ((c.tc : Thread Cert.Kernel17Ideal.nD Cert.Kernel17Ideal.τ).loc Cert.Kernel17Ideal.main_arg8) = m ((c.tc : Thread Cert.Kernel17Ideal.nD Cert.Kernel17Ideal.τ).loc Cert.Kernel17Ideal.main_arg8)
          ∧ r.2.mem ((c.tc : Thread Cert.Kernel17Ideal.nD Cert.Kernel17Ideal.τ).loc Cert.Kernel17Ideal.main_arg9) = m ((c.tc : Thread Cert.Kernel17Ideal.nD Cert.Kernel17Ideal.τ).loc Cert.Kernel17Ideal.main_arg9)
          ∧ r.2.mem ((c.tc : Thread Cert.Kernel17Ideal.nD Cert.Kernel17Ideal.τ).loc Cert.Kernel17Ideal.main_arg10) = m ((c.tc : Thread Cert.Kernel17Ideal.nD Cert.Kernel17Ideal.τ).loc Cert.Kernel17Ideal.main_arg10))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v40) = v0 c
          ∧ r.2.mem ((c.tc : Thread Cert.Reference17Ideal.nD Cert.Reference17Ideal.τ).loc Cert.Reference17Ideal.main_v23) = v1 c
          ∧ r.2.mem ((c.tc : Thread Cert.Reference17Ideal.nD Cert.Reference17Ideal.τ).loc Cert.Reference17Ideal.main_v75) = v2 c
          ∧ r.2.mem ((c.tc : Thread Cert.Reference17Ideal.nD Cert.Reference17Ideal.τ).loc Cert.Reference17Ideal.main_v58) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6)
          ∧ r.2.mem ((c.tc : Thread Cert.Reference17Ideal.nD Cert.Reference17Ideal.τ).loc Cert.Reference17Ideal.main_arg7) = m' ((c.tc : Thread Cert.Reference17Ideal.nD Cert.Reference17Ideal.τ).loc Cert.Reference17Ideal.main_arg7)
          ∧ r.2.mem ((c.tc : Thread Cert.Reference17Ideal.nD Cert.Reference17Ideal.τ).loc Cert.Reference17Ideal.main_arg8) = m' ((c.tc : Thread Cert.Reference17Ideal.nD Cert.Reference17Ideal.τ).loc Cert.Reference17Ideal.main_arg8)
          ∧ r.2.mem ((c.tc : Thread Cert.Reference17Ideal.nD Cert.Reference17Ideal.τ).loc Cert.Reference17Ideal.main_arg9) = m' ((c.tc : Thread Cert.Reference17Ideal.nD Cert.Reference17Ideal.τ).loc Cert.Reference17Ideal.main_arg9)
          ∧ r.2.mem ((c.tc : Thread Cert.Reference17Ideal.nD Cert.Reference17Ideal.τ).loc Cert.Reference17Ideal.main_arg10) = m' ((c.tc : Thread Cert.Reference17Ideal.nD Cert.Reference17Ideal.τ).loc Cert.Reference17Ideal.main_arg10))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)
      ∧ m' ((c.tc : Thread Cert.Reference18Ideal.nD Cert.Reference18Ideal.τ).loc Cert.Reference18Ideal.main_arg6) = m ((c.tc : Thread Cert.Kernel18Ideal.nD Cert.Kernel18Ideal.τ).loc Cert.Kernel18Ideal.main_arg6)
      ∧ m' ((c.tc : Thread Cert.Reference18Ideal.nD Cert.Reference18Ideal.τ).loc Cert.Reference18Ideal.main_arg7) = m ((c.tc : Thread Cert.Kernel18Ideal.nD Cert.Kernel18Ideal.τ).loc Cert.Kernel18Ideal.main_arg7)
      ∧ m' ((c.tc : Thread Cert.Reference18Ideal.nD Cert.Reference18Ideal.τ).loc Cert.Reference18Ideal.main_arg8) = m ((c.tc : Thread Cert.Kernel18Ideal.nD Cert.Kernel18Ideal.τ).loc Cert.Kernel18Ideal.main_arg8)) →
    ∃ (v0 : (c : Dev Cert.Kernel18Ideal.nD) → Buf (Elt Ideal) ((c.tc : Thread Cert.Kernel18Ideal.nD Cert.Kernel18Ideal.τ).loc Cert.Kernel18Ideal.main_v0_0)) (v1 : (c : Dev Cert.Kernel18Ideal.nD) → Buf (Elt Ideal) ((c.tc : Thread Cert.Kernel18Ideal.nD Cert.Kernel18Ideal.τ).loc Cert.Kernel18Ideal.main_v0_1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0_0) = v0 c
          ∧ r.2.mem ((c.tc : Thread Cert.Kernel18Ideal.nD Cert.Kernel18Ideal.τ).loc Cert.Kernel18Ideal.main_v0_1) = v1 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5)
          ∧ r.2.mem ((c.tc : Thread Cert.Kernel18Ideal.nD Cert.Kernel18Ideal.τ).loc Cert.Kernel18Ideal.main_arg6) = m ((c.tc : Thread Cert.Kernel18Ideal.nD Cert.Kernel18Ideal.τ).loc Cert.Kernel18Ideal.main_arg6)
          ∧ r.2.mem ((c.tc : Thread Cert.Kernel18Ideal.nD Cert.Kernel18Ideal.τ).loc Cert.Kernel18Ideal.main_arg7) = m ((c.tc : Thread Cert.Kernel18Ideal.nD Cert.Kernel18Ideal.τ).loc Cert.Kernel18Ideal.main_arg7)
          ∧ r.2.mem ((c.tc : Thread Cert.Kernel18Ideal.nD Cert.Kernel18Ideal.τ).loc Cert.Kernel18Ideal.main_arg8) = m ((c.tc : Thread Cert.Kernel18Ideal.nD Cert.Kernel18Ideal.τ).loc Cert.Kernel18Ideal.main_arg8))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v40) = v0 c
          ∧ r.2.mem ((c.tc : Thread Cert.Reference18Ideal.nD Cert.Reference18Ideal.τ).loc Cert.Reference18Ideal.main_v23) = v1 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5)
          ∧ r.2.mem ((c.tc : Thread Cert.Reference18Ideal.nD Cert.Reference18Ideal.τ).loc Cert.Reference18Ideal.main_arg6) = m' ((c.tc : Thread Cert.Reference18Ideal.nD Cert.Reference18Ideal.τ).loc Cert.Reference18Ideal.main_arg6)
          ∧ r.2.mem ((c.tc : Thread Cert.Reference18Ideal.nD Cert.Reference18Ideal.τ).loc Cert.Reference18Ideal.main_arg7) = m' ((c.tc : Thread Cert.Reference18Ideal.nD Cert.Reference18Ideal.τ).loc Cert.Reference18Ideal.main_arg7)
          ∧ r.2.mem ((c.tc : Thread Cert.Reference18Ideal.nD Cert.Reference18Ideal.τ).loc Cert.Reference18Ideal.main_arg8) = m' ((c.tc : Thread Cert.Reference18Ideal.nD Cert.Reference18Ideal.τ).loc Cert.Reference18Ideal.main_arg8))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v24) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)
      ∧ m' ((c.tc : Thread Cert.Reference20Ideal.nD Cert.Reference20Ideal.τ).loc Cert.Reference20Ideal.main_arg6) = m ((c.tc : Thread Cert.Kernel20Ideal.nD Cert.Kernel20Ideal.τ).loc Cert.Kernel20Ideal.main_arg6)) →
    ∃ (v0 : (c : Dev Cert.Kernel20Ideal.nD) → Buf (Elt Ideal) ((c.tc : Thread Cert.Kernel20Ideal.nD Cert.Kernel20Ideal.τ).loc Cert.Kernel20Ideal.main_v0_0)) (v1 : (c : Dev Cert.Kernel20Ideal.nD) → Buf (Elt Ideal) ((c.tc : Thread Cert.Kernel20Ideal.nD Cert.Kernel20Ideal.τ).loc Cert.Kernel20Ideal.main_v0_1)) (v2 : (c : Dev Cert.Kernel20Ideal.nD) → Buf (Elt Ideal) ((c.tc : Thread Cert.Kernel20Ideal.nD Cert.Kernel20Ideal.τ).loc Cert.Kernel20Ideal.main_v0_2)) (v3 : (c : Dev Cert.Kernel20Ideal.nD) → Buf (Elt Ideal) ((c.tc : Thread Cert.Kernel20Ideal.nD Cert.Kernel20Ideal.τ).loc Cert.Kernel20Ideal.main_v0_3)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0_0) = v0 c
          ∧ r.2.mem ((c.tc : Thread Cert.Kernel20Ideal.nD Cert.Kernel20Ideal.τ).loc Cert.Kernel20Ideal.main_v0_1) = v1 c
          ∧ r.2.mem ((c.tc : Thread Cert.Kernel20Ideal.nD Cert.Kernel20Ideal.τ).loc Cert.Kernel20Ideal.main_v0_2) = v2 c
          ∧ r.2.mem ((c.tc : Thread Cert.Kernel20Ideal.nD Cert.Kernel20Ideal.τ).loc Cert.Kernel20Ideal.main_v0_3) = v3 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5)
          ∧ r.2.mem ((c.tc : Thread Cert.Kernel20Ideal.nD Cert.Kernel20Ideal.τ).loc Cert.Kernel20Ideal.main_arg6) = m ((c.tc : Thread Cert.Kernel20Ideal.nD Cert.Kernel20Ideal.τ).loc Cert.Kernel20Ideal.main_arg6))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v12) = v0 c
          ∧ r.2.mem ((c.tc : Thread Cert.Reference20Ideal.nD Cert.Reference20Ideal.τ).loc Cert.Reference20Ideal.main_v36) = v1 c
          ∧ r.2.mem ((c.tc : Thread Cert.Reference20Ideal.nD Cert.Reference20Ideal.τ).loc Cert.Reference20Ideal.main_v17) = v2 c
          ∧ r.2.mem ((c.tc : Thread Cert.Reference20Ideal.nD Cert.Reference20Ideal.τ).loc Cert.Reference20Ideal.main_v23) = v3 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5)
          ∧ r.2.mem ((c.tc : Thread Cert.Reference20Ideal.nD Cert.Reference20Ideal.τ).loc Cert.Reference20Ideal.main_arg6) = m' ((c.tc : Thread Cert.Reference20Ideal.nD Cert.Reference20Ideal.τ).loc Cert.Reference20Ideal.main_arg6))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)
      ∧ m' ((c.tc : Thread Cert.Reference23Ideal.nD Cert.Reference23Ideal.τ).loc Cert.Reference23Ideal.main_arg3) = m ((c.tc : Thread Cert.Kernel23Ideal.nD Cert.Kernel23Ideal.τ).loc Cert.Kernel23Ideal.main_arg3)) →
    ∃ (v0 : (c : Dev Cert.Kernel23Ideal.nD) → Buf (Elt Ideal) ((c.tc : Thread Cert.Kernel23Ideal.nD Cert.Kernel23Ideal.τ).loc Cert.Kernel23Ideal.main_v0_0)) (v1 : (c : Dev Cert.Kernel23Ideal.nD) → Buf (Elt Ideal) ((c.tc : Thread Cert.Kernel23Ideal.nD Cert.Kernel23Ideal.τ).loc Cert.Kernel23Ideal.main_v0_1)) (v2 : (c : Dev Cert.Kernel23Ideal.nD) → Buf (Elt Ideal) ((c.tc : Thread Cert.Kernel23Ideal.nD Cert.Kernel23Ideal.τ).loc Cert.Kernel23Ideal.main_v0_2)) (v3 : (c : Dev Cert.Kernel23Ideal.nD) → Buf (Elt Ideal) ((c.tc : Thread Cert.Kernel23Ideal.nD Cert.Kernel23Ideal.τ).loc Cert.Kernel23Ideal.main_v0_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0_0) = v0 c
          ∧ r.2.mem ((c.tc : Thread Cert.Kernel23Ideal.nD Cert.Kernel23Ideal.τ).loc Cert.Kernel23Ideal.main_v0_1) = v1 c
          ∧ r.2.mem ((c.tc : Thread Cert.Kernel23Ideal.nD Cert.Kernel23Ideal.τ).loc Cert.Kernel23Ideal.main_v0_2) = v2 c
          ∧ r.2.mem ((c.tc : Thread Cert.Kernel23Ideal.nD Cert.Kernel23Ideal.τ).loc Cert.Kernel23Ideal.main_v0_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2)
          ∧ r.2.mem ((c.tc : Thread Cert.Kernel23Ideal.nD Cert.Kernel23Ideal.τ).loc Cert.Kernel23Ideal.main_arg3) = m ((c.tc : Thread Cert.Kernel23Ideal.nD Cert.Kernel23Ideal.τ).loc Cert.Kernel23Ideal.main_arg3))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v0) = v0 c
          ∧ r.2.mem ((c.tc : Thread Cert.Reference23Ideal.nD Cert.Reference23Ideal.τ).loc Cert.Reference23Ideal.main_v24) = v1 c
          ∧ r.2.mem ((c.tc : Thread Cert.Reference23Ideal.nD Cert.Reference23Ideal.τ).loc Cert.Reference23Ideal.main_v5) = v2 c
          ∧ r.2.mem ((c.tc : Thread Cert.Reference23Ideal.nD Cert.Reference23Ideal.τ).loc Cert.Reference23Ideal.main_v11) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2)
          ∧ r.2.mem ((c.tc : Thread Cert.Reference23Ideal.nD Cert.Reference23Ideal.τ).loc Cert.Reference23Ideal.main_arg3) = m' ((c.tc : Thread Cert.Reference23Ideal.nD Cert.Reference23Ideal.τ).loc Cert.Reference23Ideal.main_arg3))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)) →
    ∃ (v0 : (c : Dev Cert.Kernel24Ideal.nD) → Buf (Elt Ideal) ((c.tc : Thread Cert.Kernel24Ideal.nD Cert.Kernel24Ideal.τ).loc Cert.Kernel24Ideal.main_v0)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v0) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v5) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v6) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)) →
    ∃ (v0 : (c : Dev Cert.Kernel26Ideal.nD) → Buf (Elt Ideal) ((c.tc : Thread Cert.Kernel26Ideal.nD Cert.Kernel26Ideal.τ).loc Cert.Kernel26Ideal.main_v0)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0) = v0 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hPre_scores_finite : Cert.Pre_scores_finite.Facts),
    quiescent_Kernel (hKernel := hKernel)
    ∧ quiescent_KernelIdeal (hKernelIdeal := hKernelIdeal)
    ∧ quiescent_KernelIdeal_pre_scores_finite (hKernelIdeal := hKernelIdeal) (hPre_scores_finite := hPre_scores_finite)
    ∧ quiescent_ReferenceIdeal (hReferenceIdeal := hReferenceIdeal)
    ∧ quiescent_ReferenceIdeal_pre_scores_finite (hReferenceIdeal := hReferenceIdeal) (hPre_scores_finite := hPre_scores_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ preserves_Kernel_KernelIdeal
    ∧ algebraic_KernelIdeal_ReferenceIdeal_pre_scores_finite (hKernelIdeal := hKernelIdeal) (hReferenceIdeal := hReferenceIdeal) (hPre_scores_finite := hPre_scores_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
-- ==== Pre_scores_finite.lean ====
abbrev S4096x1024 : Shape := ⟨2, ![4096, 1024]⟩
abbrev S256x2048 : Shape := ⟨2, ![256, 2048]⟩
abbrev S256x1024 : Shape := ⟨2, ![256, 1024]⟩
abbrev S4352x1024 : Shape := ⟨2, ![4352, 1024]⟩
abbrev S_ : Shape := ⟨0, ![]⟩

class Facts : Prop where
  slices_S256x2048_S256x1024_0_0 : S256x2048.Slices ![0, 0] S256x1024
  concatenates_S4096x1024_S256x1024_S4352x1024_d0 : Shape.Concatenates [S4096x1024, S256x1024] S4352x1024 0
  bitsLt_bf16_f32 : FTy.bits .bf16 < FTy.bits .f32
  bcast_S_S4352x1024 : S_.BroadcastsInDim S4352x1024 (![] : Fin 0 → Fin S4352x1024.rank)

variable [Facts]

def fn {F : FTy → Type} [FloatOps F] (main_arg0 : FVec F S4096x1024 .bf16) (main_arg1 : FVec F S256x2048 .bf16) (main_arg2 : FVec F S4096x1024 .bf16) : IVec S4352x1024 1 :=
  let main_v0 : FVec F S256x1024 .bf16 := (extractStridedSlice S256x1024 ![0, 0] · slices_S256x2048_S256x1024_0_0) main_arg1
  let main_v1 : FVec F S4352x1024 .bf16 := (fun a b => concatenate S4352x1024 0 [⟨S4096x1024, a⟩, ⟨S256x1024, b⟩] concatenates_S4096x1024_S256x1024_S4352x1024_d0) main_arg0 main_v0
  let main_v2 : FVec F S4352x1024 .f32 := (extf .f32 · bitsLt_bf16_f32) main_v1
  let main_v3 : FVec F S4352x1024 .f32 := Host.absf main_v2
  let main_cst : FVec F S_ .f32 := constant S_ .f32 0x7F800000#32
  let main_v4 : FVec F S4352x1024 .f32 := broadcastInDim S4352x1024 ![] bcast_S_S4352x1024 main_cst
  let main_v5 : IVec S4352x1024 1 := cmpf .olt main_v3 main_v4
  main_v5
-- ==== Kernel.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S32x256 : Shape := ⟨2, ![32, 256]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .bf16⟩
  | .hbm, ⟨4, _⟩ => ⟨S256x2048, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S256x2048, .bf16⟩
  | .local _ .vmem, ⟨8, _⟩ => ⟨S256x2048, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v2735 : BitVec 1 := Scalar.cmpi .eq arg0 c7_i32
  let v2736 : BitVec 32 := Scalar.extui v2735
  let c0_i32_412 : BitVec 32 := 0#32
  let v2737 : BitVec 1 := Scalar.cmpi .ne v2736 c0_i32_412
  v2737

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== ReferenceIdeal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 93
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .hbm, ⟨3, _⟩ => ⟨S4096x1024, .f32⟩
  | .hbm, ⟨4, _⟩ => ⟨S256x2048, .f32⟩
  | .hbm, ⟨5, _⟩ => ⟨S4096x4x256, .f32⟩
  | .hbm, ⟨6, _⟩ => ⟨S256x1024, .f32⟩
  | .hbm, ⟨7, _⟩ => ⟨S256x4x256, .f32⟩
  | .hbm, ⟨8, _⟩ => ⟨S256x1024, .f32⟩
  | .hbm, ⟨9, _⟩ => ⟨S256x4x256, .f32⟩
  | .hbm, ⟨10, _⟩ => ⟨S4x4096x256, .f32⟩
  | .hbm, ⟨11, _⟩ => ⟨S_, .f32⟩
  | .hbm, ⟨12, _⟩ => ⟨S4x4096x256, .f32⟩
  | .hbm, ⟨13, _⟩ => ⟨S4x4096x256, .f32⟩
  | .hbm, ⟨14, _⟩ => ⟨S_, .f32⟩
  | .hbm, ⟨15, _⟩ => ⟨S4x4096, .f32⟩
  | .hbm, ⟨16, _⟩ => ⟨S4x4096x1, .f32⟩
  | .hbm, ⟨17, _⟩ => ⟨S4x4096x256, .f32⟩
  | .hbm, ⟨18, _⟩ => ⟨S4x4096x256, .i1⟩
  | .hbm, ⟨19, _⟩ => ⟨S4x4096x256, .f32⟩
  | .hbm, ⟨20, _⟩ => ⟨S_, .f32⟩
  | .hbm, ⟨21, _⟩ => ⟨S4x4096, .f32⟩
  | .hbm, ⟨22, _⟩ => ⟨S_, .f32⟩
  | .hbm, ⟨23, _⟩ => ⟨S4x4096, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .i1⟩
  | .hbm, ⟨28, _⟩ => ⟨S_, .f32⟩
  | .hbm, ⟨29, _⟩ => ⟨S4x4096, .f32⟩
  | .hbm, ⟨30, _⟩ => ⟨S4x4096, .i1⟩
  | .hbm, ⟨31, _⟩ => ⟨S_, .f32⟩
  | .hbm, ⟨32, _⟩ => ⟨S4x4096, .f32⟩
  | .hbm, ⟨33, _⟩ => ⟨S_, .f32⟩
  | .hbm, ⟨34, _⟩ => ⟨S4x4096, .f32⟩
  | .hbm, ⟨35, _⟩ => ⟨S_, .f32⟩
  | .hbm, ⟨36, _⟩ => ⟨S4x4096, .f32⟩
  | .hbm, ⟨37, _⟩ => ⟨S4x4096, .f32⟩
  | .hbm, ⟨38, _⟩ => ⟨S4x4096, .f32⟩
  | .hbm, ⟨39, _⟩ => ⟨S4x4096x1, .f32⟩
  | .hbm, ⟨40, _⟩ => ⟨S4x4096x256, .f32⟩
  | .hbm, ⟨41, _⟩ => ⟨S4x4096x256, .f32⟩
  | .hbm, ⟨42, _⟩ => ⟨S4x4096x256, .f32⟩
  | .hbm, ⟨43, _⟩ => ⟨S_, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x1, .f32⟩
  | .hbm, ⟨49, _⟩ => ⟨S_, .f32⟩
  | .hbm, ⟨50, _⟩ => ⟨S4x4096x1, .f32⟩
  | .hbm, ⟨51, _⟩ => ⟨S4x4096x1, .f32⟩
  | .hbm, ⟨52, _⟩ => ⟨S4x256x4096, .f32⟩
  | .hbm, ⟨53, _⟩ => ⟨S4096x4x256, .f32⟩
  | .hbm, ⟨54, _⟩ => ⟨S4096x1024, .f32⟩
  | .hbm, ⟨55, _⟩ => ⟨S4096x1024, .bf16⟩
  | .hbm, ⟨56, _⟩ => ⟨S4096x1024, .f32⟩
  | .hbm, ⟨57, _⟩ => ⟨S4096x4x256, .f32⟩
  | .hbm, ⟨58, _⟩ => ⟨S4x256x4096, .f32⟩
  | .hbm, ⟨59, _⟩ => ⟨S4x4096x256, .f32⟩
  | .hbm, ⟨60, _⟩ => ⟨S4x256x256, .f32⟩
  | .hbm, ⟨61, _⟩ => ⟨S256x4x256, .f32⟩
  | .hbm, ⟨62, _⟩ => ⟨S4x4096x256, .f32⟩
  | .hbm, ⟨63, _⟩ => ⟨S4x4096x256, .f32⟩
  | .hbm, ⟨64, _⟩ => ⟨S4x4096x256, .f32⟩
  | .hbm, ⟨65, _⟩ => ⟨S_, .f32⟩
  | .hbm, ⟨66, _⟩ => ⟨S4x4096, .f32⟩
  | .hbm, ⟨67, _⟩ => ⟨S4x4096x1, .f32⟩
  | .hbm, ⟨68, _⟩ => ⟨S4x4096x1, .f32⟩
  | .hbm, ⟨69, _⟩ => ⟨S4x4096x256, .f32⟩
  | .hbm, ⟨70, _⟩ => ⟨S4x4096x256, .f32⟩
  | .hbm, ⟨71, _⟩ => ⟨S_, .f32⟩
  | .hbm, ⟨72, _⟩ => ⟨S4x4096, .f32⟩
  | .hbm, ⟨73, _⟩ => ⟨S4x4096x256, .f32⟩
  | .hbm, ⟨74, _⟩ => ⟨S4x4096x256, .f32⟩
  | .hbm, ⟨75, _⟩ => ⟨S4x4096x256, .f32⟩
  | .hbm, ⟨76, _⟩ => ⟨S_, .f32⟩
  | .hbm, ⟨77, _⟩ => ⟨S4x4096x256, .f32⟩
  | .hbm, ⟨78, _⟩ => ⟨S4x4096x256, .f32⟩
  | .hbm, ⟨79, _⟩ => ⟨S4x256x256, .f32⟩
  | .hbm, ⟨80, _⟩ => ⟨S256x4x256, .f32⟩
  | .hbm, ⟨81, _⟩ => ⟨S4x4096x256, .f32⟩
  | .hbm, ⟨82, _⟩ => ⟨S4096x4x256, .f32⟩
  | .hbm, ⟨83, _⟩ => ⟨S256x1024, .f32⟩
  | .hbm, ⟨84, _⟩ => ⟨S_, .f32⟩
  | .hbm, ⟨85, _⟩ => ⟨S256x2048, .f32⟩
  | .hbm, ⟨86, _⟩ => ⟨S256x1024, .f32⟩
  | .hbm, ⟨87, _⟩ => ⟨S_, .f32⟩
  | .hbm, ⟨88, _⟩ => ⟨S256x2048, .f32⟩
  | .hbm, ⟨89, _⟩ => ⟨S256x2048, .f32⟩
  | .hbm, ⟨90, _⟩ => ⟨S4096x1024, .f32⟩
  | .hbm, ⟨91, _⟩ => ⟨S256x2048, .bf16⟩
  | .hbm, ⟨92, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_8 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_cst_10 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_cst_11 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_cst_12 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_13 : Ref sig .tc := ⟨.hbm, 84, rfl⟩
abbrev main_v67 : Ref sig .tc := ⟨.hbm, 85, rfl⟩
abbrev main_v68 : Ref sig .tc := ⟨.hbm, 86, rfl⟩
abbrev main_cst_14 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩

abbrev nD : Nat := 1
abbrev τ : Topo := Topo.v7x

variable {F : FTy → Type} [FloatOps F]
-- ==== Kernel2.lean ====
abbrev S4096x1024 : Shape := ⟨2, ![4096, 1024]⟩
abbrev S4096x4096 : Shape := ⟨2, ![4096, 4096]⟩
abbrev S512x1024 : Shape := ⟨2, ![512, 1024]⟩
abbrev S512x4096 : Shape := ⟨2, ![512, 4096]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference2Ideal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x4096, .bf16⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S_, .f32⟩
  | .hbm, ⟨9, _⟩ => ⟨S4096x4096, .f32⟩
  | .hbm, ⟨10, _⟩ => ⟨S4096x4096, .i1⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096x4096, .f32⟩
  | .hbm, ⟨16, _⟩ => ⟨S4096x4096, .f32⟩
  | .hbm, ⟨17, _⟩ => ⟨S4096x1024, .f32⟩
  | .hbm, ⟨18, _⟩ => ⟨S4096x1024, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Kernel3.lean ====
abbrev S4096x4096 : Shape := ⟨2, ![4096, 4096]⟩
abbrev S4096x1024 : Shape := ⟨2, ![4096, 1024]⟩
abbrev S512x4096 : Shape := ⟨2, ![512, 4096]⟩
abbrev S512x1024 : Shape := ⟨2, ![512, 1024]⟩
abbrev S4096x512 : Shape := ⟨2, ![4096, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .bf16⟩
  | .local _ .vmem, ⟨3, _⟩ => ⟨S512x1024, .bf16⟩
  | .local _ .vmem, ⟨4, _⟩ => ⟨S4096x1024, .bf16⟩
  | .local _ .vmem, ⟨5, _⟩ => ⟨S4096x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference3Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x1024 : Shape := ⟨2, ![4096, 1024]⟩
abbrev S4096x4096 : Shape := ⟨2, ![4096, 4096]⟩
abbrev S8x1024x512 : Shape := ⟨3, ![8, 1024, 512]⟩
abbrev S512x1024 : Shape := ⟨2, ![512, 1024]⟩
abbrev S512x4096 : Shape := ⟨2, ![512, 4096]⟩
abbrev S1024x4096 : Shape := ⟨2, ![1024, 4096]⟩
abbrev S1024x512 : Shape := ⟨2, ![1024, 512]⟩
abbrev S512x512 : Shape := ⟨2, ![512, 512]⟩
abbrev S1x1024x512 : Shape := ⟨3, ![1, 1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S8x1024x512, .bf16⟩
  | .local _ .vmem, ⟨0, _⟩ => ⟨S512x1024, .bf16⟩
  | .local _ .vmem, ⟨1, _⟩ => ⟨S512x1024, .bf16⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S1024x4096, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v61 : BitVec 1 := Scalar.cmpi .eq arg0 c7_i32
  let v62 : BitVec 32 := Scalar.extui v61
  let c0_i32_50 : BitVec 32 := 0#32
  let v63 : BitVec 1 := Scalar.cmpi .ne v62 c0_i32_50
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference4Ideal.lean ====
abbrev S4096x1024 : Shape := ⟨2, ![4096, 1024]⟩
abbrev S4096x4096 : Shape := ⟨2, ![4096, 4096]⟩
abbrev S_ : Shape := ⟨0, ![]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 12
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4096, .bf16⟩
  | .hbm, ⟨2, _⟩ => ⟨S4096x1024, .f32⟩
  | .hbm, ⟨3, _⟩ => ⟨S_, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | .hbm, ⟨8, _⟩ => ⟨S1024x4096, .f32⟩
  | .hbm, ⟨9, _⟩ => ⟨S1024x8x512, .f32⟩
  | .hbm, ⟨10, _⟩ => ⟨S8x1024x512, .f32⟩
  | .hbm, ⟨11, _⟩ => ⟨S8x1024x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel5.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S8x1024x512, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference5Ideal.lean ====
abbrev S4096x4096 : Shape := ⟨2, ![4096, 4096]⟩
abbrev S8x1024x512 : Shape := ⟨3, ![8, 1024, 512]⟩
abbrev S4096x1024 : Shape := ⟨2, ![4096, 1024]⟩
abbrev S1x1024 : Shape := ⟨2, ![1, 1024]⟩
abbrev S1024x8x512 : Shape := ⟨3, ![1024, 8, 512]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x1024x512, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x8x512, .bf16⟩
  | .hbm, ⟨8, _⟩ => ⟨S1024x4096, .bf16⟩
  | .hbm, ⟨9, _⟩ => ⟨S1024x4096, .f32⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096x1, .f32⟩
  | .hbm, ⟨65, _⟩ => ⟨S4096x1, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S_, .f32⟩
  | .hbm, ⟨77, _⟩ => ⟨S1024, .f32⟩
  | .hbm, ⟨78, _⟩ => ⟨S1x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S4096, .f32⟩
  | .hbm, ⟨84, _⟩ => ⟨S4096x1, .f32⟩
  | .hbm, ⟨85, _⟩ => ⟨S4096x1024, .f32⟩
  | .hbm, ⟨86, _⟩ => ⟨S4096x1024, .f32⟩
  | .hbm, ⟨87, _⟩ => ⟨S4096x1, .f32⟩
  | .hbm, ⟨88, _⟩ => ⟨S_, .f32⟩
  | .hbm, ⟨89, _⟩ => ⟨S4096x1, .f32⟩
  | .hbm, ⟨90, _⟩ => ⟨S4096x1, .f32⟩
  | .hbm, ⟨91, _⟩ => ⟨S_, .f32⟩
  | .hbm, ⟨92, _⟩ => ⟨S4096, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S4096x1024, .f32⟩
  | .hbm, ⟨98, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_5 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_10 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_cst_11 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_13 : Ref sig .tc := ⟨.hbm, 88, rfl⟩
abbrev main_v67 : Ref sig .tc := ⟨.hbm, 89, rfl⟩
abbrev main_v68 : Ref sig .tc := ⟨.hbm, 90, rfl⟩
abbrev main_cst_14 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩
abbrev S512x1024 : Shape := ⟨2, ![512, 1024]⟩
abbrev S1024x512 : Shape := ⟨2, ![1024, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference7Ideal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel8.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x1024, .bf16⟩
  | .hbm, ⟨10, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference8Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 97
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S1024x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S4096, .f32⟩
  | .hbm, ⟨39, _⟩ => ⟨S4096x1, .f32⟩
  | .hbm, ⟨40, _⟩ => ⟨S4096x1024, .f32⟩
  | .hbm, ⟨41, _⟩ => ⟨S4096x1024, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S1024, .f32⟩
  | .hbm, ⟨76, _⟩ => ⟨S1x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S4096, .f32⟩
  | .hbm, ⟨82, _⟩ => ⟨S4096x1, .f32⟩
  | .hbm, ⟨83, _⟩ => ⟨S4096x1024, .f32⟩
  | .hbm, ⟨84, _⟩ => ⟨S4096x1024, .f32⟩
  | .hbm, ⟨85, _⟩ => ⟨S4096x1, .f32⟩
  | .hbm, ⟨86, _⟩ => ⟨S_, .f32⟩
  | .hbm, ⟨87, _⟩ => ⟨S4096x1, .f32⟩
  | .hbm, ⟨88, _⟩ => ⟨S4096x1, .f32⟩
  | .hbm, ⟨89, _⟩ => ⟨S_, .f32⟩
  | .hbm, ⟨90, _⟩ => ⟨S4096, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S4096x1024, .f32⟩
  | .hbm, ⟨96, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_7 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_12 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_13 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩

abbrev nD : Nat := 1
abbrev τ : Topo := Topo.v7x

variable {F : FTy → Type} [FloatOps F]
-- ==== Kernel9.lean ====
abbrev S4096x1024 : Shape := ⟨2, ![4096, 1024]⟩
abbrev S8x1024x512 : Shape := ⟨3, ![8, 1024, 512]⟩
abbrev S4096x4096 : Shape := ⟨2, ![4096, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x4096, .bf16⟩
  | .hbm, ⟨3, _⟩ => ⟨S4096x4096, .bf16⟩
  | .local _ .vmem, ⟨0, _⟩ => ⟨S512x1024, .bf16⟩
  | .local _ .vmem, ⟨1, _⟩ => ⟨S512x1024, .bf16⟩
  | .local _ .vmem, ⟨2, _⟩ => ⟨S8x1024x512, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S4096x1024 : Shape := ⟨2, ![4096, 1024]⟩
abbrev S8x1024x512 : Shape := ⟨3, ![8, 1024, 512]⟩
abbrev S1024x8x512 : Shape := ⟨3, ![1024, 8, 512]⟩
abbrev S1024x4096 : Shape := ⟨2, ![1024, 4096]⟩
abbrev S4096x4096 : Shape := ⟨2, ![4096, 4096]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x1024x512, .bf16⟩
  | .hbm, ⟨2, _⟩ => ⟨S4096x1024, .f32⟩
  | .hbm, ⟨3, _⟩ => ⟨S1024x8x512, .bf16⟩
  | .hbm, ⟨4, _⟩ => ⟨S1024x4096, .bf16⟩
  | .hbm, ⟨5, _⟩ => ⟨S1024x4096, .f32⟩
  | .hbm, ⟨6, _⟩ => ⟨S4096x4096, .f32⟩
  | .hbm, ⟨7, _⟩ => ⟨S4096x4096, .bf16⟩
  | .hbm, ⟨8, _⟩ => ⟨S_, .f32⟩
  | .hbm, ⟨9, _⟩ => ⟨S4096x4096, .f32⟩
  | .hbm, ⟨10, _⟩ => ⟨S4096x4096, .f32⟩
  | .hbm, ⟨11, _⟩ => ⟨S4096x4096, .f32⟩
  | .hbm, ⟨12, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_call0_cst : Ref sig .tc := ⟨.hbm, 8, rfl⟩
abbrev main_call0_v0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x4096, .f32⟩
  | .hbm, ⟨6, _⟩ => ⟨S4096x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel11.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S4096x1024 : Shape := ⟨2, ![4096, 1024]⟩
abbrev S1024x1024 : Shape := ⟨2, ![1024, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1024x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096, .f32⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel12.lean ====
abbrev S4096x1024 : Shape := ⟨2, ![4096, 1024]⟩
abbrev S1024x1024 : Shape := ⟨2, ![1024, 1024]⟩
abbrev S4096x512 : Shape := ⟨2, ![4096, 512]⟩
abbrev S1024x512 : Shape := ⟨2, ![1024, 512]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x512, .bf16⟩
  | .hbm, ⟨3, _⟩ => ⟨S4096x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .f32⟩
  | .local _ .vmem, ⟨6, _⟩ => ⟨S1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S4096x1024 : Shape := ⟨2, ![4096, 1024]⟩
abbrev S1024x1024 : Shape := ⟨2, ![1024, 1024]⟩
abbrev S_ : Shape := ⟨0, ![]⟩
abbrev S4096x512 : Shape := ⟨2, ![4096, 512]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x512, .f32⟩
  | .hbm, ⟨4, _⟩ => ⟨S_, .f32⟩
  | .hbm, ⟨5, _⟩ => ⟨S4096x512, .f32⟩
  | .hbm, ⟨6, _⟩ => ⟨S4096x1024, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S4096x512, .f32⟩
  | .hbm, ⟨12, _⟩ => ⟨S4096x512, .f32⟩
  | .hbm, ⟨13, _⟩ => ⟨S4096x512, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel13.lean ====
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference13Ideal.lean ====
abbrev S4096x1024 : Shape := ⟨2, ![4096, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1024x1024, .f32⟩
  | .hbm, ⟨4, _⟩ => ⟨S4096x1024, .f32⟩
  | .hbm, ⟨5, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S4096x1024 : Shape := ⟨2, ![4096, 1024]⟩
abbrev S8x272x1024 : Shape := ⟨3, ![8, 272, 1024]⟩
abbrev S8x257x1024 : Shape := ⟨3, ![8, 257, 1024]⟩
abbrev S2056x1024 : Shape := ⟨2, ![2056, 1024]⟩
abbrev S8x1024 : Shape := ⟨2, ![8, 1024]⟩
abbrev S_ : Shape := ⟨0, ![]⟩
abbrev S128x1024 : Shape := ⟨2, ![128, 1024]⟩
abbrev S1536x1024 : Shape := ⟨2, ![1536, 1024]⟩
abbrev S512x1024 : Shape := ⟨2, ![512, 1024]⟩
abbrev S2176x1024 : Shape := ⟨2, ![2176, 1024]⟩
abbrev S4096x1536 : Shape := ⟨2, ![4096, 1536]⟩
abbrev S4096x640 : Shape := ⟨2, ![4096, 640]⟩
abbrev S512x1536 : Shape := ⟨2, ![512, 1536]⟩
abbrev S512x640 : Shape := ⟨2, ![512, 640]⟩
abbrev S640x1024 : Shape := ⟨2, ![640, 1024]⟩
abbrev S256x1024 : Shape := ⟨2, ![256, 1024]⟩
abbrev S512x256 : Shape := ⟨2, ![512, 256]⟩

abbrev nBuf : Space → Nat
  | .hbm => 13
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S8x272x1024, .bf16⟩
  | .hbm, ⟨2, _⟩ => ⟨S8x257x1024, .bf16⟩
  | .hbm, ⟨3, _⟩ => ⟨S2056x1024, .bf16⟩
  | .hbm, ⟨4, _⟩ => ⟨S8x1024, .bf16⟩
  | .hbm, ⟨5, _⟩ => ⟨S_, .i32⟩
  | .hbm, ⟨6, _⟩ => ⟨S_, .bf16⟩
  | .hbm, ⟨7, _⟩ => ⟨S128x1024, .bf16⟩
  | .hbm, ⟨8, _⟩ => ⟨S1536x1024, .bf16⟩
  | .hbm, ⟨9, _⟩ => ⟨S512x1024, .bf16⟩
  | .hbm, ⟨10, _⟩ => ⟨S2176x1024, .bf16⟩
  | .hbm, ⟨11, _⟩ => ⟨S4096x1536, .bf16⟩
  | .hbm, ⟨12, _⟩ => ⟨S4096x640, .f32⟩
  | .local _ .vmem, ⟨0, _⟩ => ⟨S512x1024, .bf16⟩
  | .local _ .vmem, ⟨1, _⟩ => ⟨S512x1024, .bf16⟩
  | .local _ .vmem, ⟨2, _⟩ => ⟨S2176x1024, .bf16⟩
  | .local _ .vmem, ⟨3, _⟩ => ⟨S512x1536, .bf16⟩
  | .local _ .vmem, ⟨4, _⟩ => ⟨S512x1536, .bf16⟩
  | .local _ .vmem, ⟨5, _⟩ => ⟨S512x640, .f32⟩
  | .local _ .vmem, ⟨6, _⟩ => ⟨S512x640, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2176x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x640 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S4096x1024 : Shape := ⟨2, ![4096, 1024]⟩
abbrev S8x272x1024 : Shape := ⟨3, ![8, 272, 1024]⟩
abbrev S8x257x1024 : Shape := ⟨3, ![8, 257, 1024]⟩
abbrev S2056x1024 : Shape := ⟨2, ![2056, 1024]⟩
abbrev S1024x2056 : Shape := ⟨2, ![1024, 2056]⟩
abbrev S4096x2056 : Shape := ⟨2, ![4096, 2056]⟩
abbrev S4096x8 : Shape := ⟨2, ![4096, 8]⟩
abbrev S_ : Shape := ⟨0, ![]⟩
abbrev S4096x128 : Shape := ⟨2, ![4096, 128]⟩
abbrev S4096x1536 : Shape := ⟨2, ![4096, 1536]⟩
abbrev S4096x512 : Shape := ⟨2, ![4096, 512]⟩
abbrev S4096x640 : Shape := ⟨2, ![4096, 640]⟩

abbrev nBuf : Space → Nat
  | .hbm => 16
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S8x272x1024, .bf16⟩
  | .hbm, ⟨2, _⟩ => ⟨S4096x1024, .f32⟩
  | .hbm, ⟨3, _⟩ => ⟨S8x257x1024, .bf16⟩
  | .hbm, ⟨4, _⟩ => ⟨S2056x1024, .bf16⟩
  | .hbm, ⟨5, _⟩ => ⟨S2056x1024, .f32⟩
  | .hbm, ⟨6, _⟩ => ⟨S1024x2056, .f32⟩
  | .hbm, ⟨7, _⟩ => ⟨S4096x2056, .f32⟩
  | .hbm, ⟨8, _⟩ => ⟨S4096x8, .f32⟩
  | .hbm, ⟨9, _⟩ => ⟨S_, .i32⟩
  | .hbm, ⟨10, _⟩ => ⟨S_, .f32⟩
  | .hbm, ⟨11, _⟩ => ⟨S4096x128, .f32⟩
  | .hbm, ⟨12, _⟩ => ⟨S4096x1536, .f32⟩
  | .hbm, ⟨13, _⟩ => ⟨S4096x1536, .bf16⟩
  | .hbm, ⟨14, _⟩ => ⟨S4096x512, .f32⟩
  | .hbm, ⟨15, _⟩ => ⟨S4096x640, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== Kernel15.lean ====
abbrev S4096x512 : Shape := ⟨2, ![4096, 512]⟩
abbrev S4096x128 : Shape := ⟨2, ![4096, 128]⟩
abbrev S4096x1024 : Shape := ⟨2, ![4096, 1024]⟩
abbrev S2176x1024 : Shape := ⟨2, ![2176, 1024]⟩
abbrev S512x512 : Shape := ⟨2, ![512, 512]⟩
abbrev S512x128 : Shape := ⟨2, ![512, 128]⟩
abbrev S512x1024 : Shape := ⟨2, ![512, 1024]⟩
abbrev S128x1024 : Shape := ⟨2, ![128, 1024]⟩
abbrev S128x512 : Shape := ⟨2, ![128, 512]⟩

abbrev nBuf : Space → Nat
  | .hbm => 7
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x1024, .bf16⟩
  | .hbm, ⟨6, _⟩ => ⟨S2176x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S512x1024, .bf16⟩
  | .local _ .vmem, ⟨11, _⟩ => ⟨S512x1024, .bf16⟩
  | .local _ .vmem, ⟨12, _⟩ => ⟨S2176x1024, .bf16⟩
  | .local _ .vmem, ⟨13, _⟩ => ⟨S2176x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_32 : BitVec 32 := 0#32
  let v46 : BitVec 1 := Scalar.cmpi .ne v45 c0_i32_32
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2176x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference15Ideal.lean ====
abbrev S4096x512 : Shape := ⟨2, ![4096, 512]⟩
abbrev S4096x128 : Shape := ⟨2, ![4096, 128]⟩
abbrev S4096x1024 : Shape := ⟨2, ![4096, 1024]⟩
abbrev S4096x2176 : Shape := ⟨2, ![4096, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S4096x1024, .bf16⟩
  | .hbm, ⟨6, _⟩ => ⟨S4096x2176, .bf16⟩
  | .hbm, ⟨7, _⟩ => ⟨S4096x2176, .f32⟩
  | .hbm, ⟨8, _⟩ => ⟨S_, .f32⟩
  | .hbm, ⟨9, _⟩ => ⟨S1024x2176, .f32⟩
  | .hbm, ⟨10, _⟩ => ⟨S4096x1024, .f32⟩
  | .hbm, ⟨11, _⟩ => ⟨S4096x2176, .f32⟩
  | .hbm, ⟨12, _⟩ => ⟨S2176x1024, .f32⟩
  | .hbm, ⟨13, _⟩ => ⟨S1024x2176, .f32⟩
  | .hbm, ⟨14, _⟩ => ⟨S2176x1024, .f32⟩
  | .hbm, ⟨15, _⟩ => ⟨S2176x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel16.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference16Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 23
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel17.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S512x512 : Shape := ⟨2, ![512, 512]⟩
abbrev S512x128 : Shape := ⟨2, ![512, 128]⟩
abbrev S512x1024 : Shape := ⟨2, ![512, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 15
  | .vmem => 25
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x1024, .f32⟩
  | .hbm, ⟨12, _⟩ => ⟨S1x1024, .f32⟩
  | .hbm, ⟨13, _⟩ => ⟨S4096x1024, .bf16⟩
  | .hbm, ⟨14, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | .local _ .vmem, ⟨19, _⟩ => ⟨S512x1024, .f32⟩
  | .local _ .vmem, ⟨20, _⟩ => ⟨S512x1024, .f32⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | .local _ .vmem, ⟨24, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference17Ideal.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S4096x2176 : Shape := ⟨2, ![4096, 2176]⟩
abbrev S1024x2176 : Shape := ⟨2, ![1024, 2176]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .hbm, ⟨11, _⟩ => ⟨S4096x2176, .bf16⟩
  | .hbm, ⟨12, _⟩ => ⟨S4096x2176, .f32⟩
  | .hbm, ⟨13, _⟩ => ⟨S2176x1024, .f32⟩
  | .hbm, ⟨14, _⟩ => ⟨S1024x2176, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x2176, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096, .f32⟩
  | .hbm, ⟨45, _⟩ => ⟨S4096x1, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x1024, .f32⟩
  | .hbm, ⟨90, _⟩ => ⟨S4096x1024, .f32⟩
  | .hbm, ⟨91, _⟩ => ⟨S4096x1, .f32⟩
  | .hbm, ⟨92, _⟩ => ⟨S_, .f32⟩
  | .hbm, ⟨93, _⟩ => ⟨S4096x1, .f32⟩
  | .hbm, ⟨94, _⟩ => ⟨S4096x1, .f32⟩
  | .hbm, ⟨95, _⟩ => ⟨S_, .f32⟩
  | .hbm, ⟨96, _⟩ => ⟨S4096, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst : Ref sig .tc := ⟨.hbm, 16, rfl⟩
abbrev main_v5 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_12 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_cst_14 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩

abbrev nD : Nat := 1
abbrev τ : Topo := Topo.v7x

variable {F : FTy → Type} [FloatOps F]
-- ==== Kernel18.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S512x512 : Shape := ⟨2, ![512, 512]⟩
abbrev S512x128 : Shape := ⟨2, ![512, 128]⟩
abbrev S512x1024 : Shape := ⟨2, ![512, 1024]⟩
abbrev S128x1024 : Shape := ⟨2, ![128, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 19
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x1024, .f32⟩
  | .hbm, ⟨10, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x128, .bf16⟩
  | .local _ .vmem, ⟨9, _⟩ => ⟨S512x128, .bf16⟩
  | .local _ .vmem, ⟨10, _⟩ => ⟨S2176x1024, .bf16⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2176x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference18Ideal.lean ====
abbrev S4096x512 : Shape := ⟨2, ![4096, 512]⟩
abbrev S4096x128 : Shape := ⟨2, ![4096, 128]⟩
abbrev S2176x1024 : Shape := ⟨2, ![2176, 1024]⟩
abbrev S4096x1024 : Shape := ⟨2, ![4096, 1024]⟩
abbrev S1x1024 : Shape := ⟨2, ![1, 1024]⟩
abbrev S4096x2176 : Shape := ⟨2, ![4096, 2176]⟩
abbrev S1024x2176 : Shape := ⟨2, ![1024, 2176]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 58
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x128, .bf16⟩
  | .hbm, ⟨5, _⟩ => ⟨S2176x1024, .bf16⟩
  | .hbm, ⟨6, _⟩ => ⟨S4096x1024, .f32⟩
  | .hbm, ⟨7, _⟩ => ⟨S1x1024, .f32⟩
  | .hbm, ⟨8, _⟩ => ⟨S4096x1024, .f32⟩
  | .hbm, ⟨9, _⟩ => ⟨S4096x2176, .bf16⟩
  | .hbm, ⟨10, _⟩ => ⟨S4096x2176, .f32⟩
  | .hbm, ⟨11, _⟩ => ⟨S2176x1024, .f32⟩
  | .hbm, ⟨12, _⟩ => ⟨S1024x2176, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2176, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S_, .f32⟩
  | .hbm, ⟨42, _⟩ => ⟨S4096, .f32⟩
  | .hbm, ⟨43, _⟩ => ⟨S4096x1, .f32⟩
  | .hbm, ⟨44, _⟩ => ⟨S4096x1024, .f32⟩
  | .hbm, ⟨45, _⟩ => ⟨S4096x1024, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_5 : Ref sig .tc := ⟨.hbm, 47, rfl⟩
abbrev main_v32 : Ref sig .tc := ⟨.hbm, 48, rfl⟩
abbrev main_v33 : Ref sig .tc := ⟨.hbm, 49, rfl⟩
abbrev main_cst_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel19.lean ====
abbrev S4096x1024 : Shape := ⟨2, ![4096, 1024]⟩
abbrev S256x2048 : Shape := ⟨2, ![256, 2048]⟩
abbrev S512x1024 : Shape := ⟨2, ![512, 1024]⟩
abbrev S512x256 : Shape := ⟨2, ![512, 256]⟩
abbrev S256x256 : Shape := ⟨2, ![256, 256]⟩
abbrev S32x128 : Shape := ⟨2, ![32, 128]⟩
abbrev S32 : Shape := ⟨1, ![32]⟩
abbrev S32x1 : Shape := ⟨2, ![32, 1]⟩
abbrev S32x256 : Shape := ⟨2, ![32, 256]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S256x2048, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference19Ideal.lean ====
abbrev S4096x1024 : Shape := ⟨2, ![4096, 1024]⟩
abbrev S256x2048 : Shape := ⟨2, ![256, 2048]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S_ : Shape := ⟨0, ![]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x2048, .bf16⟩
  | .hbm, ⟨2, _⟩ => ⟨S4096x1024, .f32⟩
  | .hbm, ⟨3, _⟩ => ⟨S256x2048, .f32⟩
  | .hbm, ⟨4, _⟩ => ⟨S4096x4x256, .f32⟩
  | .hbm, ⟨5, _⟩ => ⟨S256x1024, .f32⟩
  | .hbm, ⟨6, _⟩ => ⟨S256x4x256, .f32⟩
  | .hbm, ⟨7, _⟩ => ⟨S256x1024, .f32⟩
  | .hbm, ⟨8, _⟩ => ⟨S256x4x256, .f32⟩
  | .hbm, ⟨9, _⟩ => ⟨S4x4096x256, .f32⟩
  | .hbm, ⟨10, _⟩ => ⟨S_, .f32⟩
  | .hbm, ⟨11, _⟩ => ⟨S4x4096x256, .f32⟩
  | .hbm, ⟨12, _⟩ => ⟨S4x4096x256, .f32⟩
  | .hbm, ⟨13, _⟩ => ⟨S_, .f32⟩
  | .hbm, ⟨14, _⟩ => ⟨S4x4096, .f32⟩
  | .hbm, ⟨15, _⟩ => ⟨S_, .f32⟩
  | .hbm, ⟨16, _⟩ => ⟨S4x4096, .f32⟩
  | .hbm, ⟨17, _⟩ => ⟨S4x4096, .f32⟩
  | .hbm, ⟨18, _⟩ => ⟨S4x4096x1, .f32⟩
  | .hbm, ⟨19, _⟩ => ⟨S4x4096x256, .f32⟩
  | .hbm, ⟨20, _⟩ => ⟨S4x4096x256, .f32⟩
  | .hbm, ⟨21, _⟩ => ⟨S4x4096x256, .f32⟩
  | .hbm, ⟨22, _⟩ => ⟨S_, .f32⟩
  | .hbm, ⟨23, _⟩ => ⟨S4x4096, .f32⟩
  | .hbm, ⟨24, _⟩ => ⟨S4x4096x1, .f32⟩
  | .hbm, ⟨25, _⟩ => ⟨S4x4096x256, .f32⟩
  | .hbm, ⟨26, _⟩ => ⟨S4x4096x256, .f32⟩
  | .hbm, ⟨27, _⟩ => ⟨S4x256x4096, .f32⟩
  | .hbm, ⟨28, _⟩ => ⟨S4096x4x256, .f32⟩
  | .hbm, ⟨29, _⟩ => ⟨S4096x1024, .f32⟩
  | .hbm, ⟨30, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_cst_0 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩

abbrev nD : Nat := 1
abbrev τ : Topo := Topo.v7x

variable {F : FTy → Type} [FloatOps F]
-- ==== Kernel20.lean ====
abbrev S4x128x1024 : Shape := ⟨3, ![4, 128, 1024]⟩
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S8x128x1024, .bf16⟩
  | .hbm, ⟨4, _⟩ => ⟨S8x128x1024, .bf16⟩
  | .hbm, ⟨5, _⟩ => ⟨S8x128x1024, .bf16⟩
  | .hbm, ⟨6, _⟩ => ⟨S8x128x1024, .bf16⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .local _ .vmem, ⟨0, _⟩ => ⟨S1x128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S8x128x1024, .bf16⟩
  | .local _ .vmem, ⟨7, _⟩ => ⟨S8x128x1024, .bf16⟩
  | .local _ .vmem, ⟨8, _⟩ => ⟨S8x128x1024, .bf16⟩
  | .local _ .vmem, ⟨9, _⟩ => ⟨S8x128x1024, .bf16⟩
  | .local _ .vmem, ⟨10, _⟩ => ⟨S8x128x1024, .bf16⟩
  | .local _ .vmem, ⟨11, _⟩ => ⟨S8x128x1024, .bf16⟩
  | .local _ .vmem, ⟨12, _⟩ => ⟨S8x128x1024, .bf16⟩
  | .local _ .vmem, ⟨13, _⟩ => ⟨S8x128x1024, .bf16⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S4x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c2_i32 : BitVec 32 := 2#32
  let v6 : BitVec 1 := Scalar.cmpi .eq arg0 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg0 : BitVec 32 := BitVec.ofNat 32 (i 0).val
  let c3_i32 : BitVec 32 := 3#32
  let v9 : BitVec 1 := Scalar.cmpi .eq arg0 c3_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference20Ideal.lean ====
abbrev S4x128x1024 : Shape := ⟨3, ![4, 128, 1024]⟩
abbrev S8x128x1024 : Shape := ⟨3, ![8, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S4x128x1024, .f32⟩
  | .hbm, ⟨1, _⟩ => ⟨S4x128x1024, .f32⟩
  | .hbm, ⟨2, _⟩ => ⟨S4x128x1024, .f32⟩
  | .hbm, ⟨3, _⟩ => ⟨S8x128x1024, .bf16⟩
  | .hbm, ⟨4, _⟩ => ⟨S8x128x1024, .bf16⟩
  | .hbm, ⟨5, _⟩ => ⟨S8x128x1024, .bf16⟩
  | .hbm, ⟨6, _⟩ => ⟨S8x128x1024, .bf16⟩
  | .hbm, ⟨7, _⟩ => ⟨S8x128x1024, .f32⟩
  | .hbm, ⟨8, _⟩ => ⟨S_, .f32⟩
  | .hbm, ⟨9, _⟩ => ⟨S128x1024, .f32⟩
  | .hbm, ⟨10, _⟩ => ⟨S8x128x1024, .f32⟩
  | .hbm, ⟨11, _⟩ => ⟨S_, .f32⟩
  | .hbm, ⟨12, _⟩ => ⟨S128x1024, .f32⟩
  | .hbm, ⟨13, _⟩ => ⟨S8x128x1024, .f32⟩
  | .hbm, ⟨14, _⟩ => ⟨S_, .f32⟩
  | .hbm, ⟨15, _⟩ => ⟨S128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S1x128x1024, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S4x128x1024, .f32⟩
  | .hbm, ⟨24, _⟩ => ⟨S_, .f32⟩
  | .hbm, ⟨25, _⟩ => ⟨S4x128x1024, .f32⟩
  | .hbm, ⟨26, _⟩ => ⟨S4x128x1024, .f32⟩
  | .hbm, ⟨27, _⟩ => ⟨S_, .f32⟩
  | .hbm, ⟨28, _⟩ => ⟨S4x128x1024, .f32⟩
  | .hbm, ⟨29, _⟩ => ⟨S4x128x1024, .f32⟩
  | .hbm, ⟨30, _⟩ => ⟨S4x128x1024, .f32⟩
  | .hbm, ⟨31, _⟩ => ⟨S_, .f32⟩
  | .hbm, ⟨32, _⟩ => ⟨S4x128x1024, .f32⟩
  | .hbm, ⟨33, _⟩ => ⟨S4x128x1024, .f32⟩
  | .hbm, ⟨34, _⟩ => ⟨S4x128x1024, .f32⟩
  | .hbm, ⟨35, _⟩ => ⟨S_, .f32⟩
  | .hbm, ⟨36, _⟩ => ⟨S4x128x1024, .f32⟩
  | .hbm, ⟨37, _⟩ => ⟨S4x128x1024, .f32⟩
  | .hbm, ⟨38, _⟩ => ⟨S4x128x1024, .f32⟩
  | .hbm, ⟨39, _⟩ => ⟨S_, .f32⟩
  | .hbm, ⟨40, _⟩ => ⟨S4x128x1024, .f32⟩
  | .hbm, ⟨41, _⟩ => ⟨S4x128x1024, .f32⟩
  | .hbm, ⟨42, _⟩ => ⟨S_, .f32⟩
  | .hbm, ⟨43, _⟩ => ⟨S4x128x1024, .f32⟩
  | .hbm, ⟨44, _⟩ => ⟨S4x128x1024, .f32⟩
  | .hbm, ⟨45, _⟩ => ⟨S4x128x1024, .f32⟩
  | .hbm, ⟨46, _⟩ => ⟨S_, .f32⟩
  | .hbm, ⟨47, _⟩ => ⟨S4x128x1024, .f32⟩
  | .hbm, ⟨48, _⟩ => ⟨S4x128x1024, .f32⟩
  | .hbm, ⟨49, _⟩ => ⟨S4x128x1024, .f32⟩
  | .hbm, ⟨50, _⟩ => ⟨S_, .f32⟩
  | .hbm, ⟨51, _⟩ => ⟨S4x128x1024, .f32⟩
  | .hbm, ⟨52, _⟩ => ⟨S4x128x1024, .f32⟩
  | .hbm, ⟨53, _⟩ => ⟨S4x128x1024, .f32⟩
  | .hbm, ⟨54, _⟩ => ⟨S_, .f32⟩
  | .hbm, ⟨55, _⟩ => ⟨S4x128x1024, .f32⟩
  | .hbm, ⟨56, _⟩ => ⟨S4x128x1024, .f32⟩
  | _, _ => ⟨S4x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_7 : Ref sig .tc := ⟨.hbm, 39, rfl⟩
abbrev main_v24 : Ref sig .tc := ⟨.hbm, 40, rfl⟩
abbrev main_v25 : Ref sig .tc := ⟨.hbm, 41, rfl⟩
abbrev main_cst_8 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_9 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_10 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_11 : Ref sig .tc := ⟨.hbm, 54, rfl⟩
abbrev main_v35 : Ref sig .tc := ⟨.hbm, 55, rfl⟩
abbrev main_v36 : Ref sig .tc := ⟨.hbm, 56, rfl⟩

abbrev nD : Nat := 1
abbrev τ : Topo := Topo.v7x

variable {F : FTy → Type} [FloatOps F]
-- ==== Kernel23.lean ====
abbrev S2296x128 : Shape := ⟨2, ![2296, 128]⟩
abbrev S8x2296x128 : Shape := ⟨3, ![8, 2296, 128]⟩
abbrev S1x2296x128 : Shape := ⟨3, ![1, 2296, 128]⟩

abbrev nBuf : Space → Nat
  | .hbm => 8
  | .vmem => 8
  | .smem => 0
  | _ => 0

abbrev bufTy : (tb : Table) → Fin (tcTables nBuf tb) → BufTy
  | .hbm, ⟨0, _⟩ => ⟨S2296x128, .f32⟩
  | .hbm, ⟨1, _⟩ => ⟨S2296x128, .f32⟩
  | .hbm, ⟨2, _⟩ => ⟨S2296x128, .f32⟩
  | .hbm, ⟨3, _⟩ => ⟨S8x2296x128, .f32⟩
  | .hbm, ⟨4, _⟩ => ⟨S2296x128, .f32⟩
  | .hbm, ⟨5, _⟩ => ⟨S2296x128, .f32⟩
  | .hbm, ⟨6, _⟩ => ⟨S2296x128, .f32⟩
  | .hbm, ⟨7, _⟩ => ⟨S2296x128, .f32⟩
  | .local _ .vmem, ⟨0, _⟩ => ⟨S2296x128, .f32⟩
  | .local _ .vmem, ⟨1, _⟩ => ⟨S2296x128, .f32⟩
  | .local _ .vmem, ⟨2, _⟩ => ⟨S2296x128, .f32⟩
  | .local _ .vmem, ⟨3, _⟩ => ⟨S8x2296x128, .f32⟩
  | .local _ .vmem, ⟨4, _⟩ => ⟨S2296x128, .f32⟩
  | .local _ .vmem, ⟨5, _⟩ => ⟨S2296x128, .f32⟩
  | .local _ .vmem, ⟨6, _⟩ => ⟨S2296x128, .f32⟩
  | .local _ .vmem, ⟨7, _⟩ => ⟨S2296x128, .f32⟩
  | _, _ => ⟨S2296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2296x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2296x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2296x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2296x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2296x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2296x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2296x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2296x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Reference23Ideal.lean ====
abbrev S2296x128 : Shape := ⟨2, ![2296, 128]⟩
abbrev S8x2296x128 : Shape := ⟨3, ![8, 2296, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2296x128, .f32⟩
  | .hbm, ⟨1, _⟩ => ⟨S2296x128, .f32⟩
  | .hbm, ⟨2, _⟩ => ⟨S2296x128, .f32⟩
  | .hbm, ⟨3, _⟩ => ⟨S8x2296x128, .f32⟩
  | .hbm, ⟨4, _⟩ => ⟨S_, .f32⟩
  | .hbm, ⟨5, _⟩ => ⟨S2296x128, .f32⟩
  | .hbm, ⟨6, _⟩ => ⟨S_, .f32⟩
  | .hbm, ⟨7, _⟩ => ⟨S2296x128, .f32⟩
  | .hbm, ⟨8, _⟩ => ⟨S2296x128, .f32⟩
  | .hbm, ⟨9, _⟩ => ⟨S_, .f32⟩
  | .hbm, ⟨10, _⟩ => ⟨S2296x128, .f32⟩
  | .hbm, ⟨11, _⟩ => ⟨S2296x128, .f32⟩
  | .hbm, ⟨12, _⟩ => ⟨S2296x128, .f32⟩
  | .hbm, ⟨13, _⟩ => ⟨S_, .f32⟩
  | .hbm, ⟨14, _⟩ => ⟨S2296x128, .f32⟩
  | .hbm, ⟨15, _⟩ => ⟨S2296x128, .f32⟩
  | .hbm, ⟨16, _⟩ => ⟨S2296x128, .f32⟩
  | .hbm, ⟨17, _⟩ => ⟨S_, .f32⟩
  | .hbm, ⟨18, _⟩ => ⟨S2296x128, .f32⟩
  | .hbm, ⟨19, _⟩ => ⟨S2296x128, .f32⟩
  | .hbm, ⟨20, _⟩ => ⟨S2296x128, .f32⟩
  | .hbm, ⟨21, _⟩ => ⟨S_, .f32⟩
  | .hbm, ⟨22, _⟩ => ⟨S2296x128, .f32⟩
  | .hbm, ⟨23, _⟩ => ⟨S2296x128, .f32⟩
  | .hbm, ⟨24, _⟩ => ⟨S_, .f32⟩
  | .hbm, ⟨25, _⟩ => ⟨S2296x128, .f32⟩
  | .hbm, ⟨26, _⟩ => ⟨S2296x128, .f32⟩
  | .hbm, ⟨27, _⟩ => ⟨S2296x128, .f32⟩
  | .hbm, ⟨28, _⟩ => ⟨S_, .f32⟩
  | .hbm, ⟨29, _⟩ => ⟨S2296x128, .f32⟩
  | .hbm, ⟨30, _⟩ => ⟨S2296x128, .f32⟩
  | .hbm, ⟨31, _⟩ => ⟨S2296x128, .f32⟩
  | .hbm, ⟨32, _⟩ => ⟨S_, .f32⟩
  | .hbm, ⟨33, _⟩ => ⟨S2296x128, .f32⟩
  | .hbm, ⟨34, _⟩ => ⟨S2296x128, .f32⟩
  | .hbm, ⟨35, _⟩ => ⟨S2296x128, .f32⟩
  | .hbm, ⟨36, _⟩ => ⟨S_, .f32⟩
  | .hbm, ⟨37, _⟩ => ⟨S2296x128, .f32⟩
  | .hbm, ⟨38, _⟩ => ⟨S2296x128, .f32⟩
  | _, _ => ⟨S2296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== Kernel24.lean ====
abbrev S256x1024 : Shape := ⟨2, ![256, 1024]⟩
abbrev S8x1024x256 : Shape := ⟨3, ![8, 1024, 256]⟩
abbrev S256x2048 : Shape := ⟨2, ![256, 2048]⟩
abbrev S1x1024x256 : Shape := ⟨3, ![1, 1024, 256]⟩
abbrev S1024x256 : Shape := ⟨2, ![1024, 256]⟩
abbrev S256x256 : Shape := ⟨2, ![256, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x2048, .bf16⟩
  | .local _ .vmem, ⟨0, _⟩ => ⟨S256x1024, .bf16⟩
  | .local _ .vmem, ⟨1, _⟩ => ⟨S8x1024x256, .bf16⟩
  | .local _ .vmem, ⟨2, _⟩ => ⟨S256x2048, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference24Ideal.lean ====
abbrev S256x1024 : Shape := ⟨2, ![256, 1024]⟩
abbrev S8x1024x256 : Shape := ⟨3, ![8, 1024, 256]⟩
abbrev S1024x8x256 : Shape := ⟨3, ![1024, 8, 256]⟩
abbrev S1024x2048 : Shape := ⟨2, ![1024, 2048]⟩
abbrev S256x2048 : Shape := ⟨2, ![256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S8x1024x256, .bf16⟩
  | .hbm, ⟨2, _⟩ => ⟨S256x1024, .f32⟩
  | .hbm, ⟨3, _⟩ => ⟨S1024x8x256, .bf16⟩
  | .hbm, ⟨4, _⟩ => ⟨S1024x2048, .bf16⟩
  | .hbm, ⟨5, _⟩ => ⟨S1024x2048, .f32⟩
  | .hbm, ⟨6, _⟩ => ⟨S256x2048, .f32⟩
  | .hbm, ⟨7, _⟩ => ⟨S256x2048, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel25.lean ====
abbrev S256x2048 : Shape := ⟨2, ![256, 2048]⟩
abbrev S8x1024x256 : Shape := ⟨3, ![8, 1024, 256]⟩
abbrev S256x1024 : Shape := ⟨2, ![256, 1024]⟩
abbrev S256x256 : Shape := ⟨2, ![256, 256]⟩
abbrev S1x1024x256 : Shape := ⟨3, ![1, 1024, 256]⟩
abbrev S1024x256 : Shape := ⟨2, ![1024, 256]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S256x1024, .f32⟩
  | .local _ .vmem, ⟨0, _⟩ => ⟨S256x2048, .bf16⟩
  | .local _ .vmem, ⟨1, _⟩ => ⟨S8x1024x256, .bf16⟩
  | .local _ .vmem, ⟨2, _⟩ => ⟨S256x1024, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference25Ideal.lean ====
abbrev S256x2048 : Shape := ⟨2, ![256, 2048]⟩
abbrev S8x1024x256 : Shape := ⟨3, ![8, 1024, 256]⟩
abbrev S_ : Shape := ⟨0, ![]⟩
abbrev S256x1024 : Shape := ⟨2, ![256, 1024]⟩
abbrev S1024x8x256 : Shape := ⟨3, ![1024, 8, 256]⟩
abbrev S1024x2048 : Shape := ⟨2, ![1024, 2048]⟩

abbrev nBuf : Space → Nat
  | .hbm => 10
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S8x1024x256, .bf16⟩
  | .hbm, ⟨2, _⟩ => ⟨S_, .f32⟩
  | .hbm, ⟨3, _⟩ => ⟨S256x1024, .f32⟩
  | .hbm, ⟨4, _⟩ => ⟨S1024x8x256, .bf16⟩
  | .hbm, ⟨5, _⟩ => ⟨S1024x2048, .bf16⟩
  | .hbm, ⟨6, _⟩ => ⟨S1024x2048, .f32⟩
  | .hbm, ⟨7, _⟩ => ⟨S256x2048, .f32⟩
  | .hbm, ⟨8, _⟩ => ⟨S256x2048, .f32⟩
  | .hbm, ⟨9, _⟩ => ⟨S256x1024, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel26.lean ====
abbrev S256x1024 : Shape := ⟨2, ![256, 1024]⟩
abbrev S256x2048 : Shape := ⟨2, ![256, 2048]⟩
abbrev S8x1024x256 : Shape := ⟨3, ![8, 1024, 256]⟩
abbrev S1024x2048 : Shape := ⟨2, ![1024, 2048]⟩
abbrev S1024x256 : Shape := ⟨2, ![1024, 256]⟩
abbrev S256x256 : Shape := ⟨2, ![256, 256]⟩
abbrev S1x1024x256 : Shape := ⟨3, ![1, 1024, 256]⟩

abbrev nBuf : Space → Nat
  | .hbm => 3
  | .vmem => 4
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S8x1024x256, .bf16⟩
  | .local _ .vmem, ⟨0, _⟩ => ⟨S256x1024, .bf16⟩
  | .local _ .vmem, ⟨1, _⟩ => ⟨S256x2048, .bf16⟩
  | .local _ .vmem, ⟨2, _⟩ => ⟨S8x1024x256, .bf16⟩
  | .local _ .vmem, ⟨3, _⟩ => ⟨S1024x2048, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def k0_cond2 (i : grid0.Coords) : BitVec 1 :=
  let arg0 : BitVec 32 := BitVec.ofNat 32 (i 0).val
  let c0_i32_50 : BitVec 32 := 0#32
  let v61 : BitVec 1 := Scalar.cmpi .eq arg0 c0_i32_50
  let v62 : BitVec 32 := Scalar.extui v61
  let c0_i32_51 : BitVec 32 := 0#32
  let v63 : BitVec 1 := Scalar.cmpi .ne v62 c0_i32_51
  v63

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== Reference26Ideal.lean ====
abbrev S256x1024 : Shape := ⟨2, ![256, 1024]⟩
abbrev S256x2048 : Shape := ⟨2, ![256, 2048]⟩
abbrev S_ : Shape := ⟨0, ![]⟩
abbrev S1024x2048 : Shape := ⟨2, ![1024, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 12
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x2048, .bf16⟩
  | .hbm, ⟨2, _⟩ => ⟨S_, .f32⟩
  | .hbm, ⟨3, _⟩ => ⟨S1024x2048, .f32⟩
  | .hbm, ⟨4, _⟩ => ⟨S256x1024, .f32⟩
  | .hbm, ⟨5, _⟩ => ⟨S256x2048, .f32⟩
  | .hbm, ⟨6, _⟩ => ⟨S256x2048, .f32⟩
  | .hbm, ⟨7, _⟩ => ⟨S2048x1024, .f32⟩
  | .hbm, ⟨8, _⟩ => ⟨S1024x2048, .f32⟩
  | .hbm, ⟨9, _⟩ => ⟨S1024x8x256, .f32⟩
  | .hbm, ⟨10, _⟩ => ⟨S8x1024x256, .f32⟩
  | .hbm, ⟨11, _⟩ => ⟨S8x1024x256, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Proof.Heads.lean ====
module

public import proofs.«01_k».proof.Proof.Gen.KernelIdeal.Skeleton

/-! The gradient of one head of the attention, as the kernel computes it: the scores of 512 rows against 256 keys are
taken 32 rows at a time, each row's 256 keys in two blocks of 128. The functions here spell that computation once, with
the first row of a chunk and the first key of a block as parameters. -/

@[expose] public section

noncomputable section

namespace Cert.KernelIdeal.Heads

open Idealize.ShloMosaic Cert.KernelIdeal Cert.KernelIdeal.Gen

variable {F : FTy → Type} [FloatOps F]

/-- A block of 32 rows and 128 columns lies in the score matrix. -/
theorem block_slices {r c : ℕ} (hr : r + 32 ≤ 512) (hc : c + 128 ≤ 256) : S512x256.Slices ![r, c] S32x128 :=
  ⟨rfl, fun a => match a with
    | ⟨0, _⟩ => hr
    | ⟨1, _⟩ => hc⟩

/-- Rows `r … r+31`, keys `c … c+127` of a score matrix. -/
def block (s : FVec F S512x256 .f32) (r c : ℕ) (hr : r + 32 ≤ 512) (hc : c + 128 ≤ 256) : FVec F S32x128 .f32 :=
  extractStridedSlice S32x128 ![r, c] s (block_slices hr hc)

/-- The block's scores divided by the square root of the head's width: times 1/16. -/
def scaled (s : FVec F S512x256 .f32) (r c : ℕ) (hr : r + 32 ≤ 512) (hc : c + 128 ≤ 256) : FVec F S32x128 .f32 :=
  mulf (block s r c hr hc) (broadcast S32x128 (Scalar.ofBits .f32 0x3D800000#32))

/-- A value per row, repeated along the row. -/
def spread (v : FVec F S32x1 .f32) : FVec F S32x128 .f32 := broadcastTo S32x128 v broadcasts_S32x1_S32x128

/-- The sum along each row. -/
def rowSum (x : FVec F S32x128 .f32) : FVec F S32x1 .f32 :=
  shapeCast S32x1 (multiReduction .add [1] S32 x 0x00000000#32 reduces_S32x128_S32 (.inl rfl) rfl) shapeCasts_S32_S32x1

/-- Each row's largest scaled score. -/
def rowMax (s : FVec F S512x256 .f32) (r : ℕ) (hr : r + 32 ≤ 512) : FVec F S32x1 .f32 :=
  shapeCast S32x1 (multiReduction .maximumf [1] S32 (maximumf (scaled s r 0 hr (by decide)) (scaled s r 128 hr (by decide)))
    0xFF800000#32 reduces_S32x128_S32 (.inl rfl) rfl) shapeCasts_S32_S32x1

/-- The exponential of each scaled score less its row's largest. -/
def weight (s : FVec F S512x256 .f32) (r c : ℕ) (hr : r + 32 ≤ 512) (hc : c + 128 ≤ 256) : FVec F S32x128 .f32 :=
  exp (subf (scaled s r c hr hc) (spread (rowMax s r hr)))

/-- The softmax of a block. -/
def prob (s : FVec F S512x256 .f32) (r c : ℕ) (hr : r + 32 ≤ 512) (hc : c + 128 ≤ 256) : FVec F S32x128 .f32 :=
  divf (weight s r c hr hc) (spread (rowSum (addf (weight s r 0 hr (by decide)) (weight s r 128 hr (by decide)))))

/-- Each row's product of the softmax with the gradient `d` that reaches it. -/
def inner (s d : FVec F S512x256 .f32) (r : ℕ) (hr : r + 32 ≤ 512) : FVec F S32x1 .f32 :=
  rowSum (addf (mulf (block d r 0 hr (by decide)) (prob s r 0 hr (by decide)))
    (mulf (block d r 128 hr (by decide)) (prob s r 128 hr (by decide))))

/-- The gradient that passes through the softmax, for a block. -/
def through (s d : FVec F S512x256 .f32) (r c : ℕ) (hr : r + 32 ≤ 512) (hc : c + 128 ≤ 256) : FVec F S32x128 .f32 :=
  mulf (prob s r c hr hc) (subf (block d r c hr hc) (spread (inner s d r hr)))

/-- Two blocks of 128 keys beside each other, narrowed to 16 bits. -/
def beside (x y : FVec F S32x128 .f32) : FVec F S32x256 .bf16 :=
  concatenate S32x256 1 [⟨S32x128, truncf .bf16 x bitsLt_bf16_f32⟩, ⟨S32x128, truncf .bf16 y bitsLt_bf16_f32⟩]
    concatenates_S32x128_S32x128_S32x256_d1

/-- The softmax of rows `r … r+31`. -/
def probRows (s : FVec F S512x256 .f32) (r : ℕ) (hr : r + 32 ≤ 512) : FVec F S32x256 .bf16 :=
  beside (prob s r 0 hr (by decide)) (prob s r 128 hr (by decide))

/-- The gradient through the softmax of rows `r … r+31`. -/
def throughRows (s d : FVec F S512x256 .f32) (r : ℕ) (hr : r + 32 ≤ 512) : FVec F S32x256 .bf16 :=
  beside (through s d r 0 hr (by decide)) (through s d r 128 hr (by decide))

/-- Sixteen chunks of 32 rows, one above the other. -/
def stack (f : (r : ℕ) → r + 32 ≤ 512 → FVec F S32x256 .bf16) : FVec F S512x256 .bf16 :=
  concatenate S512x256 0 [⟨S32x256, f 0 (by decide)⟩, ⟨S32x256, f 32 (by decide)⟩, ⟨S32x256, f 64 (by decide)⟩,
    ⟨S32x256, f 96 (by decide)⟩, ⟨S32x256, f 128 (by decide)⟩, ⟨S32x256, f 160 (by decide)⟩, ⟨S32x256, f 192 (by decide)⟩,
    ⟨S32x256, f 224 (by decide)⟩, ⟨S32x256, f 256 (by decide)⟩, ⟨S32x256, f 288 (by decide)⟩, ⟨S32x256, f 320 (by decide)⟩,
    ⟨S32x256, f 352 (by decide)⟩, ⟨S32x256, f 384 (by decide)⟩, ⟨S32x256, f 416 (by decide)⟩, ⟨S32x256, f 448 (by decide)⟩,
    ⟨S32x256, f 480 (by decide)⟩]
    concatenates_S32x256_S32x256_S32x256_S32x256_S32x256_S32x256_S32x256_S32x256_S32x256_S32x256_S32x256_S32x256_S32x256_S32x256_S32x256_S32x256_S512x256_d0

/-- Rows against rows: the scores of 512 queries and 256 keys. -/
def scores (q : FVec F S512x256 .bf16) (k : FVec F S256x256 .bf16) : FVec F S512x256 .f32 :=
  matmul dot_S512x256_S256x256_S512x256_1_1_0_0_n_n none q k (constant S512x256 .f32 0x00000000#32)

/-- The softmax of one head. -/
def headProb (q : FVec F S512x256 .bf16) (k : FVec F S256x256 .bf16) : FVec F S512x256 .bf16 :=
  stack (probRows (scores q k))

/-- The gradient through the softmax of one head. -/
def headThrough (q : FVec F S512x256 .bf16) (k : FVec F S256x256 .bf16) (g : FVec F S512x256 .bf16) (v : FVec F S256x256 .bf16) :
    FVec F S512x256 .bf16 :=
  stack (throughRows (scores q k) (scores g v))

/-- The gradient of one head's queries. -/
def headQ (q : FVec F S512x256 .bf16) (k : FVec F S256x256 .bf16) (g : FVec F S512x256 .bf16) (v : FVec F S256x256 .bf16) :
    FVec F S512x256 .bf16 :=
  truncf .bf16 (mulf (matmul dot_S512x256_S256x256_S512x256_1_0_0_1_n_n none (headThrough q k g v) k
    (constant S512x256 .f32 0x00000000#32)) (broadcast S512x256 (Scalar.ofBits .f32 0x3D800000#32))) bitsLt_bf16_f32

/-- What 512 rows add to the gradient of one head's keys. -/
def headK (q : FVec F S512x256 .bf16) (k : FVec F S256x256 .bf16) (g : FVec F S512x256 .bf16) (v : FVec F S256x256 .bf16)
    (old : FVec F S256x256 .f32) : FVec F S256x256 .f32 :=
  shapeCast S256x256 (addf old (mulf (matmul dot_S512x256_S512x256_S256x256_0_0_1_1_n_n none (headThrough q k g v) q
    (constant S256x256 .f32 0x00000000#32)) (broadcast S256x256 (Scalar.ofBits .f32 0x3D800000#32)))) shapeCasts_S256x256_S256x256

/-- What 512 rows add to the gradient of one head's values. -/
def headV (q : FVec F S512x256 .bf16) (k : FVec F S256x256 .bf16) (g : FVec F S512x256 .bf16)
    (old : FVec F S256x256 .f32) : FVec F S256x256 .f32 :=
  shapeCast S256x256 (addf old (matmul dot_S512x256_S512x256_S256x256_0_0_1_1_n_n none (headProb q k) g
    (constant S256x256 .f32 0x00000000#32))) shapeCasts_S256x256_S256x256

end Cert.KernelIdeal.Heads

end
-- ==== Proof.HeadsRead.lean ====
module

public import proofs.«01_k».proof.Proof.Heads
public import Idealize.ShloMosaic.Lib.Pointwise
public import Idealize.ShloMosaic.Lib.Pipeline.Value

@[expose] public section

set_option maxRecDepth 16384

noncomputable section

namespace Cert.KernelIdeal.Heads

open Idealize.ShloMosaic Cert.KernelIdeal Cert.KernelIdeal.Gen

/-- The factor 1/16, as the program's word for it reads. -/
def sixteenth : EReal := Ideal.ofBits .f32 0x3D800000#32

/-- A row's largest entry. -/
def top (x : Fin 256 → EReal) : EReal := Finset.univ.sup x

/-- The exponential of each entry less the largest. -/
def expo (x : Fin 256 → EReal) (j : Fin 256) : EReal := Ideal.exp (x j - top x)

/-- The softmax of a row. -/
def soft (x : Fin 256 → EReal) (j : Fin 256) : EReal := Ideal.div (expo x j) (∑ l, expo x l)

/-- The gradient through the softmax of a row `x`, of the gradient `d` that reaches it. -/
def back (x d : Fin 256 → EReal) (j : Fin 256) : EReal := soft x j * (d j - ∑ l, d l * soft x l)

theorem scaled_apply (s : FVec Ideal S512x256 .f32) (r c : ℕ) (hr : r + 32 ≤ 512) (hc : c + 128 ≤ 256) (a : Fin 32) (b : Fin 128) :
    scaled s r c hr hc (ix2 a b) = s (ix2 ⟨r + a.val, by omega⟩ ⟨c + b.val, by omega⟩) * sixteenth := by
  pointwise [scaled, block, sixteenth]

/-- The word for minus infinity. -/
theorem word_bot : Ideal.ofBits .f32 0xFF800000#32 = (⊥ : EReal) := by
  simp [Ideal.ofBits, Ideal.ieee]

/-- A row of 256 numbers summed in two halves. -/
theorem sum_halves (f : Fin 256 → EReal) :
    ∑ l : Fin 128, (f ⟨0 + l.val, by omega⟩ + f ⟨128 + l.val, by omega⟩) = ∑ l, f l := by
  rw [Finset.sum_add_distrib]
  refine Eq.trans ?_ (Fin.sum_univ_add (a := 128) (b := 128) f).symm
  congr 1

/-- A row's largest entry found in two halves. -/
theorem top_halves (f : Fin 256 → EReal) :
    (Finset.univ : Finset (Fin 128)).sup (fun l => max (f ⟨0 + l.val, by omega⟩) (f ⟨128 + l.val, by omega⟩)) = top f := by
  refine le_antisymm (Finset.sup_le fun l _ => max_le (Finset.le_sup (Finset.mem_univ _)) (Finset.le_sup (Finset.mem_univ _)))
    (Finset.sup_le fun l _ => ?_)
  by_cases h : l.val < 128
  · refine le_trans (le_trans (le_of_eq (congrArg f (Fin.ext ?_))) (le_max_left _ _))
      (Finset.le_sup (f := fun l : Fin 128 => max (f ⟨0 + l.val, by omega⟩) (f ⟨128 + l.val, by omega⟩)) (Finset.mem_univ ⟨l.val, h⟩))
    exact (Nat.zero_add _).symm
  · refine le_trans (le_trans (le_of_eq (congrArg f (Fin.ext ?_))) (le_max_right _ _))
      (Finset.le_sup (f := fun l : Fin 128 => max (f ⟨0 + l.val, by omega⟩) (f ⟨128 + l.val, by omega⟩)) (Finset.mem_univ ⟨l.val - 128, by omega⟩))
    show l.val = 128 + (l.val - 128)
    omega

/-- The scaled scores of a row. -/
def row (s : FVec Ideal S512x256 .f32) (i : Fin 512) : Fin 256 → EReal := fun l => s (ix2 i l) * sixteenth

theorem rowMax_apply (s : FVec Ideal S512x256 .f32) (r : ℕ) (hr : r + 32 ≤ 512) (a : Fin 32) :
    rowMax s r hr (ix2 a 0) = top (row s ⟨r + a.val, by omega⟩) := by
  pointwise [rowMax]
  simp only [scaled_apply, word_bot]
  exact top_halves (row s ⟨r + a.val, by omega⟩)

theorem rowSum_apply (x : FVec Ideal S32x128 .f32) (a : Fin 32) :
    rowSum x (ix2 a 0) = ∑ l : Fin 128, x (ix2 a l) := by
  pointwise [rowSum]

theorem spread_apply (v : FVec Ideal S32x1 .f32) (a : Fin 32) (b : Fin 128) : spread v (ix2 a b) = v (ix2 a 0) := by
  pointwise [spread]

theorem weight_apply (s : FVec Ideal S512x256 .f32) (r c : ℕ) (hr : r + 32 ≤ 512) (hc : c + 128 ≤ 256) (a : Fin 32) (b : Fin 128) :
    weight s r c hr hc (ix2 a b) = expo (row s ⟨r + a.val, by omega⟩) ⟨c + b.val, by omega⟩ := by
  pointwise [weight]
  simp only [scaled_apply, spread_apply, rowMax_apply]
  rfl

theorem prob_apply (s : FVec Ideal S512x256 .f32) (r c : ℕ) (hr : r + 32 ≤ 512) (hc : c + 128 ≤ 256) (a : Fin 32) (b : Fin 128) :
    prob s r c hr hc (ix2 a b) = soft (row s ⟨r + a.val, by omega⟩) ⟨c + b.val, by omega⟩ := by
  pointwise [prob]
  rw [spread_apply, rowSum_apply, weight_apply, soft, ← sum_halves]
  congr 1
  refine Finset.sum_congr rfl fun l _ => ?_
  pointwise
  rw [weight_apply, weight_apply]
  simp only [Nat.zero_add]

theorem inner_apply (s d : FVec Ideal S512x256 .f32) (r : ℕ) (hr : r + 32 ≤ 512) (a : Fin 32) :
    inner s d r hr (ix2 a 0) = ∑ l, d (ix2 ⟨r + a.val, by omega⟩ l) * soft (row s ⟨r + a.val, by omega⟩) l := by
  rw [inner, rowSum_apply, ← sum_halves]
  refine Finset.sum_congr rfl fun l _ => ?_
  pointwise [block]
  rw [prob_apply, prob_apply]
  simp only [Nat.zero_add]

theorem through_apply (s d : FVec Ideal S512x256 .f32) (r c : ℕ) (hr : r + 32 ≤ 512) (hc : c + 128 ≤ 256) (a : Fin 32) (b : Fin 128) :
    through s d r c hr hc (ix2 a b)
      = back (row s ⟨r + a.val, by omega⟩) (fun l => d (ix2 ⟨r + a.val, by omega⟩ l)) ⟨c + b.val, by omega⟩ := by
  pointwise [through, block]
  rw [prob_apply, spread_apply, inner_apply]
  rfl

/-- Two blocks beside each other hold the halves of what each column names. -/
theorem beside_apply (f : (c : ℕ) → c + 128 ≤ 256 → FVec Ideal S32x128 .f32) (g : Fin 32 → Fin 256 → EReal)
    (h : ∀ c hc a b, f c hc (ix2 a b) = g a ⟨c + b.val, by omega⟩) (a : Fin 32) (j : Fin 256) :
    beside (f 0 (by decide)) (f 128 (by decide)) (ix2 a j) = g a j := by
  pointwise [beside]
  split
  · rw [h]; congr 1; exact Fin.ext (Nat.zero_add _)
  · rw [h]; congr 1; exact Fin.ext (by dsimp only; omega)

/-- The stack of sixteen chunks holds each chunk's rows. -/
theorem stack_apply (f : (r : ℕ) → r + 32 ≤ 512 → FVec Ideal S32x256 .bf16) (g : Fin 512 → Fin 256 → EReal)
    (h : ∀ r hr a j, f r hr (ix2 a j) = g ⟨r + a.val, by omega⟩ j) (i : Fin 512) (j : Fin 256) :
    stack f (ix2 i j) = g i j := by
  have hi : 32 * (i.val / 32) + 32 ≤ 512 := by omega
  have e : stack f (ix2 i j) = f (32 * (i.val / 32)) hi (ix2 ⟨i.val % 32, Nat.mod_lt _ (by decide)⟩ j) :=
    concatenate_ofFn_apply (t := S512x256) (s₁ := S32x256) 0 (N := 16) (fun n => f (32 * n.val) (by omega)) _ rfl 32 rfl (ix2 i j)
      ⟨i.val / 32, by omega⟩ rfl (ix2 ⟨i.val % 32, Nat.mod_lt _ (by decide)⟩ j) rfl (fun b hb => by
        match b with
        | ⟨0, _⟩ => exact absurd rfl hb
        | ⟨1, _⟩ => rfl)
  rw [e, h]
  congr 1
  exact Fin.ext (Nat.div_add_mod _ _)

theorem headProb_apply (q : FVec Ideal S512x256 .bf16) (k : FVec Ideal S256x256 .bf16) (i : Fin 512) (j : Fin 256) :
    headProb q k (ix2 i j) = soft (row (scores q k) i) j :=
  stack_apply _ (fun i j => soft (row (scores q k) i) j) (fun r hr a j =>
    beside_apply (fun c hc => prob (scores q k) r c hr hc) (fun a j => soft (row (scores q k) ⟨r + a.val, by omega⟩) j)
      (fun c hc a b => prob_apply _ r c hr hc a b) a j) i j

theorem headThrough_apply (q : FVec Ideal S512x256 .bf16) (k : FVec Ideal S256x256 .bf16) (g : FVec Ideal S512x256 .bf16)
    (v : FVec Ideal S256x256 .bf16) (i : Fin 512) (j : Fin 256) :
    headThrough q k g v (ix2 i j) = back (row (scores q k) i) (fun l => scores g v (ix2 i l)) j :=
  stack_apply _ (fun i j => back (row (scores q k) i) (fun l => scores g v (ix2 i l)) j) (fun r hr a j =>
    beside_apply (fun c hc => through (scores q k) (scores g v) r c hr hc)
      (fun a j => back (row (scores q k) ⟨r + a.val, by omega⟩) (fun l => scores g v (ix2 ⟨r + a.val, by omega⟩ l)) j)
      (fun c hc a b => through_apply _ _ r c hr hc a b) a j) i j

theorem scores_apply (q : FVec Ideal S512x256 .bf16) (k : FVec Ideal S256x256 .bf16) (i : Fin 512) (j : Fin 256) :
    scores q k (ix2 i j) = ∑ d : Fin 256, q (ix2 i d) * k (ix2 j d) := by
  pointwise [scores]

theorem headQ_apply (q : FVec Ideal S512x256 .bf16) (k : FVec Ideal S256x256 .bf16) (g : FVec Ideal S512x256 .bf16)
    (v : FVec Ideal S256x256 .bf16) (i : Fin 512) (j : Fin 256) :
    headQ q k g v (ix2 i j) = (∑ l, headThrough q k g v (ix2 i l) * k (ix2 l j)) * sixteenth := by
  pointwise [headQ, sixteenth]

theorem headK_apply (q : FVec Ideal S512x256 .bf16) (k : FVec Ideal S256x256 .bf16) (g : FVec Ideal S512x256 .bf16)
    (v : FVec Ideal S256x256 .bf16) (old : FVec Ideal S256x256 .f32) (l : Fin 256) (j : Fin 256) :
    headK q k g v old (ix2 l j) = old (ix2 l j) + (∑ i, headThrough q k g v (ix2 i l) * q (ix2 i j)) * sixteenth := by
  pointwise [headK, sixteenth]

theorem headV_apply (q : FVec Ideal S512x256 .bf16) (k : FVec Ideal S256x256 .bf16) (g : FVec Ideal S512x256 .bf16)
    (old : FVec Ideal S256x256 .f32) (l : Fin 256) (j : Fin 256) :
    headV q k g old (ix2 l j) = old (ix2 l j) + ∑ i, headProb q k (ix2 i l) * g (ix2 i j) := by
  pointwise [headV]

end Cert.KernelIdeal.Heads

end
-- ==== Proof.Rows.lean ====
module

public import proofs.«01_k».proof.Proof.HeadsRead
public import Idealize.ShloMosaic.Lib.Pipeline.ValueKit

/-! The gradient of the attention, row by row: what one row of queries and the gradient that reaches it give, and what they
add to the gradients of keys and values. Columns of the queries are numbered by head and place within it; the keys stand in
the first half of the columns of `kv`, the values in the second. -/

@[expose] public section

set_option maxRecDepth 16384

noncomputable section

namespace Cert.KernelIdeal.Heads

open Idealize.ShloMosaic Cert.KernelIdeal Cert.KernelIdeal.Gen

/-- Column `d` of head `h`. -/
def col (h : Fin 4) (d : Fin 256) : Fin 1024 := ⟨256 * h.val + d.val, by omega⟩

/-- Column `d` of head `h` among the keys. -/
def keyCol (h : Fin 4) (d : Fin 256) : Fin 2048 := ⟨256 * h.val + d.val, by omega⟩

/-- Column `d` of head `h` among the values. -/
def valCol (h : Fin 4) (d : Fin 256) : Fin 2048 := ⟨1024 + 256 * h.val + d.val, by omega⟩

/-- The scaled scores of a row of queries under head `h`. -/
def score (q : Fin 1024 → EReal) (kv : S256x2048.Idx → EReal) (h : Fin 4) (l : Fin 256) : EReal :=
  (∑ d, q (col h d) * kv (ix2 l (keyCol h d))) * sixteenth

/-- The gradient that reaches the softmax of head `h`. -/
def reach (g : Fin 1024 → EReal) (kv : S256x2048.Idx → EReal) (h : Fin 4) (l : Fin 256) : EReal :=
  ∑ d, g (col h d) * kv (ix2 l (valCol h d))

/-- The gradient through the softmax of head `h`. -/
def gradScore (q g : Fin 1024 → EReal) (kv : S256x2048.Idx → EReal) (h : Fin 4) : Fin 256 → EReal :=
  back (score q kv h) (reach g kv h)

/-- The gradient of a row of queries. -/
def gradQ (q g : Fin 1024 → EReal) (kv : S256x2048.Idx → EReal) (h : Fin 4) (d : Fin 256) : EReal :=
  (∑ l, gradScore q g kv h l * kv (ix2 l (keyCol h d))) * sixteenth

/-- What a row adds to the gradient of key `l`, before the factor 1/16. -/
def termK (q g : Fin 1024 → EReal) (kv : S256x2048.Idx → EReal) (h : Fin 4) (l d : Fin 256) : EReal :=
  gradScore q g kv h l * q (col h d)

/-- What a row adds to the gradient of value `l`. -/
def termV (q g : Fin 1024 → EReal) (kv : S256x2048.Idx → EReal) (h : Fin 4) (l d : Fin 256) : EReal :=
  soft (score q kv h) l * g (col h d)

/-- Row `i` of an array of 512 rows. -/
def rowOf (x : S512x1024.Idx → EReal) (i : Fin 512) : Fin 1024 → EReal := fun j => x (ix2 i j)

/-- What a block of rows leaves in the running gradients of keys and values that stood at `old`. -/
def added (x0 : Vec Ideal S512x1024 .bf16) (x1 : Vec Ideal S256x2048 .bf16) (x2 : Vec Ideal S512x1024 .bf16)
    (old : S256x2048.Idx → EReal) (y : S256x2048.Idx) : EReal :=
  if hy : (y 1).val < 1024 then
    old y + (∑ i, termK (rowOf x0 i) (rowOf x2 i) x1 ⟨(y 1).val / 256, Nat.div_lt_of_lt_mul hy⟩ (y 0) ⟨(y 1).val % 256, Nat.mod_lt _ (by decide)⟩) * sixteenth
  else
    old y + ∑ i, termV (rowOf x0 i) (rowOf x2 i) x1 ⟨((y 1).val - 1024) / 256, Nat.div_lt_of_lt_mul (by
      have : (y 1).val < 2048 := (y 1).isLt
      omega)⟩ (y 0) ⟨(y 1).val % 256, Nat.mod_lt _ (by decide)⟩

section Pieces

variable (x0 : Vec Ideal S512x1024 .bf16) (x1 : Vec Ideal S256x2048 .bf16) (x2 : Vec Ideal S512x1024 .bf16)
  (h : Fin 4) (o ov : ℕ) (ho : o = 256 * h.val) (hov : ov = 1024 + 256 * h.val)
  (i0 : ∀ a, (![0, o] : Fin 2 → ℕ) a + (![512, 256] : Fin 2 → ℕ) a ≤ S512x1024.size a)
  (i1 : ∀ a, (![0, o] : Fin 2 → ℕ) a + (![256, 256] : Fin 2 → ℕ) a ≤ S256x2048.size a)
  (i2 : ∀ a, (![0, ov] : Fin 2 → ℕ) a + (![256, 256] : Fin 2 → ℕ) a ≤ S256x2048.size a)

/-- A head's columns of a block of queries. -/
abbrev ldQ : FVec Ideal S512x256 .bf16 := View.ld (Val := Elt Ideal) x0 (Rect.unit (s := S512x1024) ![0, o] ![512, 256] i0)

/-- A head's columns of the keys or values. -/
abbrev ldK : FVec Ideal S256x256 .bf16 := View.ld (Val := Elt Ideal) x1 (Rect.unit (s := S256x2048) ![0, o] ![256, 256] i1)

include ho in
theorem ldQ_apply (i : Fin 512) (d : Fin 256) : ldQ x0 o i0 (ix2 i d) = x0 (ix2 i (col h d)) :=
  View.ld_unit_apply_of x0 _ _ _ _ _ fun a => by
    match a with
    | ⟨0, _⟩ => exact (Nat.zero_add _).symm
    | ⟨1, _⟩ => subst ho; rfl

include ho in
theorem ldK_apply (l d : Fin 256) : ldK x1 o i1 (ix2 l d) = x1 (ix2 l (keyCol h d)) :=
  View.ld_unit_apply_of x1 _ _ _ _ _ fun a => by
    match a with
    | ⟨0, _⟩ => exact (Nat.zero_add _).symm
    | ⟨1, _⟩ => subst ho; rfl

include hov in
theorem ldV_apply (l d : Fin 256) : ldK x1 ov i2 (ix2 l d) = x1 (ix2 l (valCol h d)) :=
  View.ld_unit_apply_of x1 _ _ _ _ _ fun a => by
    match a with
    | ⟨0, _⟩ => exact (Nat.zero_add _).symm
    | ⟨1, _⟩ => subst hov; rfl

include ho in
theorem row_ld (i : Fin 512) : row (scores (ldQ x0 o i0) (ldK x1 o i1)) i = score (rowOf x0 i) x1 h := by
  funext l
  rw [row, scores_apply]
  simp only [ldQ_apply x0 h o ho i0, ldK_apply x1 h o ho i1]
  rfl

include ho hov in
theorem reach_ld (i : Fin 512) : (fun l => scores (ldQ x2 o i0) (ldK x1 ov i2) (ix2 i l)) = reach (rowOf x2 i) x1 h := by
  funext l
  rw [scores_apply]
  simp only [ldQ_apply x2 h o ho i0, ldV_apply x1 h ov hov i2]
  rfl

include ho hov in
theorem through_ld (i : Fin 512) (l : Fin 256) :
    headThrough (ldQ x0 o i0) (ldK x1 o i1) (ldQ x2 o i0) (ldK x1 ov i2) (ix2 i l) = gradScore (rowOf x0 i) (rowOf x2 i) x1 h l := by
  rw [headThrough_apply, row_ld x0 x1 h o ho, reach_ld x1 x2 h o ov ho hov]
  rfl

include ho hov in
/-- The queries' gradient of one head of a block, at the place of the block it is stored to. -/
theorem headQ_ld (x : S512x256.Idx) (y : S512x1024.Idx) (h0 : (y 0).val = (x 0).val) (h1 : (y 1).val = o + (x 1).val) :
    headQ (ldQ x0 o i0) (ldK x1 o i1) (ldQ x2 o i0) (ldK x1 ov i2) x
      = gradQ (rowOf x0 (y 0)) (rowOf x2 (y 0)) x1 ⟨(y 1).val / 256, Nat.div_lt_of_lt_mul (y 1).isLt⟩ ⟨(y 1).val % 256, Nat.mod_lt _ (by decide)⟩ := by
  obtain ⟨a, b, rfl⟩ : ∃ (a : Fin 512) (b : Fin 256), x = ix2 a b := ⟨x 0, x 1, eq_ix2 x⟩
  have h0' : (y 0).val = a.val := h0
  have h1' : (y 1).val = o + b.val := h1
  obtain rfl : h = ⟨(y 1).val / 256, Nat.div_lt_of_lt_mul (y 1).isLt⟩ := Fin.ext (by dsimp only; omega)
  have e0 : y 0 = a := Fin.ext h0'
  have e1 : (⟨(y 1).val % 256, Nat.mod_lt _ (by decide)⟩ : Fin 256) = b := Fin.ext (by dsimp only; omega)
  rw [e0, e1, headQ_apply]
  simp only [through_ld x0 x1 x2 _ o ov ho hov, ldK_apply x1 _ o ho i1]
  rfl

variable (old : Vec Ideal S256x2048 .f32)

include ho hov in
/-- The keys' gradient of one head, at the place it is stored to. -/
theorem headK_ld (w : FVec Ideal S256x256 .f32) (x : S256x256.Idx) (y : S256x2048.Idx) (h0 : (y 0).val = (x 0).val)
    (h1 : (y 1).val = o + (x 1).val) (hw : w x = old y) :
    headK (ldQ x0 o i0) (ldK x1 o i1) (ldQ x2 o i0) (ldK x1 ov i2) w x = added x0 x1 x2 old y := by
  obtain ⟨a, b, rfl⟩ : ∃ (a : Fin 256) (b : Fin 256), x = ix2 a b := ⟨x 0, x 1, eq_ix2 x⟩
  have h0' : (y 0).val = a.val := h0
  have h1' : (y 1).val = o + b.val := h1
  have hy : (y 1).val < 1024 := by omega
  obtain rfl : h = ⟨(y 1).val / 256, Nat.div_lt_of_lt_mul hy⟩ := Fin.ext (by dsimp only; omega)
  have e0 : y 0 = a := Fin.ext h0'
  have e1 : (⟨(y 1).val % 256, Nat.mod_lt _ (by decide)⟩ : Fin 256) = b := Fin.ext (by dsimp only; omega)
  rw [added, dif_pos hy, e0, e1, headK_apply, hw]
  simp only [through_ld x0 x1 x2 _ o ov ho hov, ldQ_apply x0 _ o ho i0]
  rfl

include ho hov in
/-- The values' gradient of one head, at the place it is stored to. -/
theorem headV_ld (w : FVec Ideal S256x256 .f32) (x : S256x256.Idx) (y : S256x2048.Idx) (h0 : (y 0).val = (x 0).val)
    (h1 : (y 1).val = ov + (x 1).val) (hw : w x = old y) :
    headV (ldQ x0 o i0) (ldK x1 o i1) (ldQ x2 o i0) w x = added x0 x1 x2 old y := by
  obtain ⟨a, b, rfl⟩ : ∃ (a : Fin 256) (b : Fin 256), x = ix2 a b := ⟨x 0, x 1, eq_ix2 x⟩
  have h0' : (y 0).val = a.val := h0
  have h1' : (y 1).val = ov + b.val := h1
  have hy : ¬(y 1).val < 1024 := by omega
  have hy' : (y 1).val < 2048 := (y 1).isLt
  have hq : ((y 1).val - 1024) / 256 < 4 := by clear h0 h1 ho hov h1'; omega
  obtain rfl : h = ⟨((y 1).val - 1024) / 256, hq⟩ := Fin.ext (by dsimp only; omega)
  have e0 : y 0 = a := Fin.ext h0'
  have e1 : (⟨(y 1).val % 256, Nat.mod_lt _ (by decide)⟩ : Fin 256) = b := Fin.ext (by dsimp only; omega)
  rw [added, dif_neg hy, e0, e1, headV_apply, hw]
  simp only [headProb_apply, row_ld x0 x1 _ o ho, ldQ_apply x2 _ o ho i0]
  rfl

end Pieces

end Cert.KernelIdeal.Heads

end
-- ==== Proof.Loads.lean ====
module

public import Idealize.ShloMosaic.Lib.Pipeline.ValueKit
public import Idealize.ShloMosaic.Lib.Pointwise
public import Idealize.ShloMosaic.Lib.Pipeline.Value

/-! Reading a block of an array, and the equality of indices coordinate by coordinate. -/

@[expose] public section

noncomputable section

namespace Cert.Loads

open Idealize.ShloMosaic

/-- Two indices of a matrix with the same coordinates. -/
theorem at2 {n0 n1 : ℕ} (i j : (⟨2, ![n0, n1]⟩ : Shape).Idx) (h0 : (i 0).val = (j 0).val) (h1 : (i 1).val = (j 1).val) : i = j :=
  funext fun a => Fin.ext (by match a with | ⟨0, _⟩ => exact h0 | ⟨1, _⟩ => exact h1)

/-- Two indices of a stack of matrices with the same coordinates. -/
theorem at3 {n0 n1 n2 : ℕ} (i j : (⟨3, ![n0, n1, n2]⟩ : Shape).Idx) (h0 : (i 0).val = (j 0).val) (h1 : (i 1).val = (j 1).val)
    (h2 : (i 2).val = (j 2).val) : i = j :=
  funext fun a => Fin.ext (by match a with | ⟨0, _⟩ => exact h0 | ⟨1, _⟩ => exact h1 | ⟨2, _⟩ => exact h2)

/-- A block loaded from a matrix holds the matrix's entries from the block's corner on. -/
theorem ld2 {n0 n1 k0 k1 : ℕ} {e : EltTy} (X : Vec Ideal ⟨2, ![n0, n1]⟩ e) (o0 o1 : ℕ)
    (i : ∀ a, (![o0, o1] : Fin 2 → ℕ) a + (![k0, k1] : Fin 2 → ℕ) a ≤ (⟨2, ![n0, n1]⟩ : Shape).size a)
    (x : (⟨2, ![k0, k1]⟩ : Shape).Idx) (y : (⟨2, ![n0, n1]⟩ : Shape).Idx)
    (h0 : (y 0).val = o0 + (x 0).val) (h1 : (y 1).val = o1 + (x 1).val) :
    View.ld (Val := Elt Ideal) X (Rect.unit (s := ⟨2, ![n0, n1]⟩) ![o0, o1] ![k0, k1] i) x = X y :=
  View.ld_unit_apply_of X _ _ _ _ _ fun a => by
    match a with
    | ⟨0, _⟩ => exact h0
    | ⟨1, _⟩ => exact h1

/-- A block loaded from a stack of matrices. -/
theorem ld3 {n0 n1 n2 k0 k1 k2 : ℕ} {e : EltTy} (X : Vec Ideal ⟨3, ![n0, n1, n2]⟩ e) (o0 o1 o2 : ℕ)
    (i : ∀ a, (![o0, o1, o2] : Fin 3 → ℕ) a + (![k0, k1, k2] : Fin 3 → ℕ) a ≤ (⟨3, ![n0, n1, n2]⟩ : Shape).size a)
    (x : (⟨3, ![k0, k1, k2]⟩ : Shape).Idx) (y : (⟨3, ![n0, n1, n2]⟩ : Shape).Idx)
    (h0 : (y 0).val = o0 + (x 0).val) (h1 : (y 1).val = o1 + (x 1).val) (h2 : (y 2).val = o2 + (x 2).val) :
    View.ld (Val := Elt Ideal) X (Rect.unit (s := ⟨3, ![n0, n1, n2]⟩) ![o0, o1, o2] ![k0, k1, k2] i) x = X y :=
  View.ld_unit_apply_of X _ _ _ _ _ fun a => by
    match a with
    | ⟨0, _⟩ => exact h0
    | ⟨1, _⟩ => exact h1
    | ⟨2, _⟩ => exact h2

/-- Stores that together hold an index hide every earlier store there. -/
theorem canon_over {Val : EltTy → Type} {S : Shape} {e : EltTy} [∀ e, Nonempty (Val e)] (y : S.Idx) (L' : List (View.Piece Val S e)) :
    ∀ L : List (View.Piece Val S e), (∃ p ∈ L, y ∈ p.1.set) → View.canon (L ++ L') y = View.canon L y
  | [], h => by simp at h
  | p :: L, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_over y L' L ?_
      obtain ⟨q, hq, hy⟩ := h
      rcases List.mem_cons.mp hq with rfl | hq
      · exact absurd hy hm
      · exact ⟨q, hq, hy⟩

/-- The word of zero. -/
theorem word_zero : Ideal.ofBits .f32 0x00000000#32 = 0 := by pointwise []

end Cert.Loads

end
-- ==== Proof.Points.lean ====
module

public import proofs.«01_k».proof.Proof.Gen.KernelIdeal.Value
public import proofs.«01_k».proof.Proof.Rows
public import proofs.«01_k».proof.Proof.Loads
public import Idealize.ShloMosaic.Lib.Pipeline.ValueKit
public import Idealize.ShloMosaic.Lib.Pipeline.ReadBack

/-! What one grid point leaves behind: the block of the queries' gradient, and the running sums of the keys' and values'
gradients. A point is the first one (the sums start at zero), the last one (the sums are also narrowed and written out),
or one between. -/

@[expose] public section

set_option maxRecDepth 16384

noncomputable section

namespace Cert.KernelIdeal.Points

open Idealize.ShloMosaic Idealize.ShloMosaic.TcCoe Idealize.ShloMosaic.Tactic
open Idealize.SL Idealize.SL.Sem
open Cert.Loads
open Cert.KernelIdeal Cert.KernelIdeal.Gen

/-- A load of a block of columns reads the columns' entries. -/
theorem ld_cols (X : Vec Ideal S256x2048 .f32) (o : ℕ) (i : ∀ a, (![0, o] : Fin 2 → ℕ) a + (![256, 256] : Fin 2 → ℕ) a ≤ S256x2048.size a)
    (x : S256x256.Idx) (y : S256x2048.Idx) (h0 : (y 0).val = (x 0).val) (h1 : (y 1).val = o + (x 1).val) :
    View.ld (Val := Elt Ideal) X (Rect.unit (s := S256x2048) ![0, o] ![256, 256] i) x = X y :=
  View.ld_unit_apply_of X _ _ _ _ _ fun a => by
    match a with
    | ⟨0, _⟩ => exact h0.trans (Nat.zero_add _).symm
    | ⟨1, _⟩ => exact h1

variable (m : (ℓ : Loc nD τ sig) → Buf (Elt Ideal) ℓ) (c : Dev nD) (t : Fin cfg0.N)

/-- The sums that the point before left. -/
abbrev carried : Vec Ideal S256x2048 .f32 := (outsAt0 m c (t.val - 1) (Nat.lt_of_le_of_lt (Nat.sub_le _ _) t.isLt)).2.2

set_option maxHeartbeats 1000000 in
/-- The first point: the queries' gradient of its rows. -/
theorem queries_first (h0 : t.val % 8 = 0) (h1 : ¬t.val % 8 = 7) (y : S512x1024.Idx) :
    (outsAt0 m c t.val t.isLt).1 y = Heads.gradQ (Heads.rowOf (iblk m c 0 t) (y 0)) (Heads.rowOf (iblk m c 2 t) (y 0)) (iblk m c 1 t)
      ⟨(y 1).val / 256, Nat.div_lt_of_lt_mul (y 1).isLt⟩ ⟨(y 1).val % 256, Nat.mod_lt _ (by decide)⟩ := by
  rw [outsAt0_A m c t h0 h1]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  canon_tiles x h
  · open_payloads
    exact Heads.headQ_ld (iblk m c 0 t) (iblk m c 1 t) (iblk m c 2 t) 3 768 1792 (by decide) (by decide) _ _ _ x y h0 h1
  · open_payloads
    exact Heads.headQ_ld (iblk m c 0 t) (iblk m c 1 t) (iblk m c 2 t) 2 512 1536 (by decide) (by decide) _ _ _ x y h0 h1
  · open_payloads
    exact Heads.headQ_ld (iblk m c 0 t) (iblk m c 1 t) (iblk m c 2 t) 1 256 1280 (by decide) (by decide) _ _ _ x y h0 h1
  · open_payloads
    exact Heads.headQ_ld (iblk m c 0 t) (iblk m c 1 t) (iblk m c 2 t) 0 0 1024 (by decide) (by decide) _ _ _ x y h0 (h1.trans (Nat.zero_add _).symm)

set_option maxHeartbeats 1000000 in
/-- A point between: the queries' gradient of its rows. -/
theorem queries_between (h0 : ¬t.val % 8 = 0) (h1 : ¬t.val % 8 = 7) (y : S512x1024.Idx) :
    (outsAt0 m c t.val t.isLt).1 y = Heads.gradQ (Heads.rowOf (iblk m c 0 t) (y 0)) (Heads.rowOf (iblk m c 2 t) (y 0)) (iblk m c 1 t)
      ⟨(y 1).val / 256, Nat.div_lt_of_lt_mul (y 1).isLt⟩ ⟨(y 1).val % 256, Nat.mod_lt _ (by decide)⟩ := by
  rw [outsAt0_B m c t h0 h1]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  canon_tiles x h
  · open_payloads
    exact Heads.headQ_ld (iblk m c 0 t) (iblk m c 1 t) (iblk m c 2 t) 3 768 1792 (by decide) (by decide) _ _ _ x y h0 h1
  · open_payloads
    exact Heads.headQ_ld (iblk m c 0 t) (iblk m c 1 t) (iblk m c 2 t) 2 512 1536 (by decide) (by decide) _ _ _ x y h0 h1
  · open_payloads
    exact Heads.headQ_ld (iblk m c 0 t) (iblk m c 1 t) (iblk m c 2 t) 1 256 1280 (by decide) (by decide) _ _ _ x y h0 h1
  · open_payloads
    exact Heads.headQ_ld (iblk m c 0 t) (iblk m c 1 t) (iblk m c 2 t) 0 0 1024 (by decide) (by decide) _ _ _ x y h0 (h1.trans (Nat.zero_add _).symm)

set_option maxHeartbeats 1000000 in
/-- The last point: the queries' gradient of its rows. -/
theorem queries_last (h0 : ¬t.val % 8 = 0) (h1 : t.val % 8 = 7) (y : S512x1024.Idx) :
    (outsAt0 m c t.val t.isLt).1 y = Heads.gradQ (Heads.rowOf (iblk m c 0 t) (y 0)) (Heads.rowOf (iblk m c 2 t) (y 0)) (iblk m c 1 t)
      ⟨(y 1).val / 256, Nat.div_lt_of_lt_mul (y 1).isLt⟩ ⟨(y 1).val % 256, Nat.mod_lt _ (by decide)⟩ := by
  rw [outsAt0_C m c t h0 h1]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  canon_tiles x h
  · open_payloads
    exact Heads.headQ_ld (iblk m c 0 t) (iblk m c 1 t) (iblk m c 2 t) 3 768 1792 (by decide) (by decide) _ _ _ x y h0 h1
  · open_payloads
    exact Heads.headQ_ld (iblk m c 0 t) (iblk m c 1 t) (iblk m c 2 t) 2 512 1536 (by decide) (by decide) _ _ _ x y h0 h1
  · open_payloads
    exact Heads.headQ_ld (iblk m c 0 t) (iblk m c 1 t) (iblk m c 2 t) 1 256 1280 (by decide) (by decide) _ _ _ x y h0 h1
  · open_payloads
    exact Heads.headQ_ld (iblk m c 0 t) (iblk m c 1 t) (iblk m c 2 t) 0 0 1024 (by decide) (by decide) _ _ _ x y h0 (h1.trans (Nat.zero_add _).symm)

set_option maxHeartbeats 1000000 in
/-- The first point: its rows' terms are added to the sums of zero. -/
theorem sums_first (h0 : t.val % 8 = 0) (h1 : ¬t.val % 8 = 7) (y : S256x2048.Idx) :
    (outsAt0 m c t.val t.isLt).2.2 y = Heads.added (iblk m c 0 t) (iblk m c 1 t) (iblk m c 2 t) (fun _ => 0) y := by
  rw [outsAt0_A m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  refine (canon_over y [_] [_, _, _, _, _, _, _, _] (View.cover_of_tiled_head _ _ _ (by rfl) y)).trans ?_
  canon_tiles x h
  · open_payloads
    refine Heads.headK_ld (iblk m c 0 t) (iblk m c 1 t) (iblk m c 2 t) 3 768 1792 (by decide) (by decide) _ _ _ (fun _ => 0) _ x y h0 h1 ?_
    exact word_zero
  · open_payloads
    refine Heads.headV_ld (iblk m c 0 t) (iblk m c 1 t) (iblk m c 2 t) 3 768 1792 (by decide) (by decide) _ _ (fun _ => 0) _ x y h0 h1 ?_
    exact word_zero
  · open_payloads
    refine Heads.headK_ld (iblk m c 0 t) (iblk m c 1 t) (iblk m c 2 t) 2 512 1536 (by decide) (by decide) _ _ _ (fun _ => 0) _ x y h0 h1 ?_
    exact word_zero
  · open_payloads
    refine Heads.headV_ld (iblk m c 0 t) (iblk m c 1 t) (iblk m c 2 t) 2 512 1536 (by decide) (by decide) _ _ (fun _ => 0) _ x y h0 h1 ?_
    exact word_zero
  · open_payloads
    refine Heads.headK_ld (iblk m c 0 t) (iblk m c 1 t) (iblk m c 2 t) 1 256 1280 (by decide) (by decide) _ _ _ (fun _ => 0) _ x y h0 h1 ?_
    exact word_zero
  · open_payloads
    refine Heads.headV_ld (iblk m c 0 t) (iblk m c 1 t) (iblk m c 2 t) 1 256 1280 (by decide) (by decide) _ _ (fun _ => 0) _ x y h0 h1 ?_
    exact word_zero
  · open_payloads
    refine Heads.headK_ld (iblk m c 0 t) (iblk m c 1 t) (iblk m c 2 t) 0 0 1024 (by decide) (by decide) _ _ _ (fun _ => 0) _ x y h0 (h1.trans (Nat.zero_add _).symm) ?_
    exact word_zero
  · open_payloads
    refine Heads.headV_ld (iblk m c 0 t) (iblk m c 1 t) (iblk m c 2 t) 0 0 1024 (by decide) (by decide) _ _ (fun _ => 0) _ x y h0 h1 ?_
    exact word_zero

set_option maxHeartbeats 1000000 in
/-- A point between: its rows' terms are added to the sums. -/
theorem sums_between (h0 : ¬t.val % 8 = 0) (h1 : ¬t.val % 8 = 7) (y : S256x2048.Idx) :
    (outsAt0 m c t.val t.isLt).2.2 y = Heads.added (iblk m c 0 t) (iblk m c 1 t) (iblk m c 2 t) (carried m c t) y := by
  rw [outsAt0_B m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  canon_tiles x h
  · open_payloads
    refine Heads.headK_ld (iblk m c 0 t) (iblk m c 1 t) (iblk m c 2 t) 3 768 1792 (by decide) (by decide) _ _ _ (carried m c t) _ x y h0 h1 ?_
    rw [read_unread_whole]
    exact ld_cols _ 768 _ x y h0 h1
  · open_payloads
    refine Heads.headV_ld (iblk m c 0 t) (iblk m c 1 t) (iblk m c 2 t) 3 768 1792 (by decide) (by decide) _ _ (carried m c t) _ x y h0 h1 ?_
    rw [read_unread_whole]
    exact ld_cols _ 1792 _ x y h0 h1
  · open_payloads
    refine Heads.headK_ld (iblk m c 0 t) (iblk m c 1 t) (iblk m c 2 t) 2 512 1536 (by decide) (by decide) _ _ _ (carried m c t) _ x y h0 h1 ?_
    rw [read_unread_whole]
    exact ld_cols _ 512 _ x y h0 h1
  · open_payloads
    refine Heads.headV_ld (iblk m c 0 t) (iblk m c 1 t) (iblk m c 2 t) 2 512 1536 (by decide) (by decide) _ _ (carried m c t) _ x y h0 h1 ?_
    rw [read_unread_whole]
    exact ld_cols _ 1536 _ x y h0 h1
  · open_payloads
    refine Heads.headK_ld (iblk m c 0 t) (iblk m c 1 t) (iblk m c 2 t) 1 256 1280 (by decide) (by decide) _ _ _ (carried m c t) _ x y h0 h1 ?_
    rw [read_unread_whole]
    exact ld_cols _ 256 _ x y h0 h1
  · open_payloads
    refine Heads.headV_ld (iblk m c 0 t) (iblk m c 1 t) (iblk m c 2 t) 1 256 1280 (by decide) (by decide) _ _ (carried m c t) _ x y h0 h1 ?_
    rw [read_unread_whole]
    exact ld_cols _ 1280 _ x y h0 h1
  · open_payloads
    refine Heads.headK_ld (iblk m c 0 t) (iblk m c 1 t) (iblk m c 2 t) 0 0 1024 (by decide) (by decide) _ _ _ (carried m c t) _ x y h0 (h1.trans (Nat.zero_add _).symm) ?_
    rw [read_unread_whole]
    exact ld_cols _ 0 _ x y h0 (h1.trans (Nat.zero_add _).symm)
  · open_payloads
    refine Heads.headV_ld (iblk m c 0 t) (iblk m c 1 t) (iblk m c 2 t) 0 0 1024 (by decide) (by decide) _ _ (carried m c t) _ x y h0 h1 ?_
    rw [read_unread_whole]
    exact ld_cols _ 1024 _ x y h0 h1

set_option maxHeartbeats 1000000 in
/-- The last point: its rows' terms are added to the sums. -/
theorem sums_last (h0 : ¬t.val % 8 = 0) (h1 : t.val % 8 = 7) (y : S256x2048.Idx) :
    (outsAt0 m c t.val t.isLt).2.2 y = Heads.added (iblk m c 0 t) (iblk m c 1 t) (iblk m c 2 t) (carried m c t) y := by
  rw [outsAt0_C m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  generalize e2 : View.read (Elt Ideal) (ms0_2 t).view ((hs0_2 t).unread (iblk m c 2 t)) = b2
  obtain rfl : b0 = iblk m c 0 t := e0.symm.trans (Memref.IsWhole.read_unread _ _)
  obtain rfl : b1 = iblk m c 1 t := e1.symm.trans (Memref.IsWhole.read_unread _ _)
  obtain rfl : b2 = iblk m c 2 t := e2.symm.trans (Memref.IsWhole.read_unread _ _)
  clear e0 e1 e2
  canon_tiles x h
  · open_payloads
    refine Heads.headK_ld (iblk m c 0 t) (iblk m c 1 t) (iblk m c 2 t) 3 768 1792 (by decide) (by decide) _ _ _ (carried m c t) _ x y h0 h1 ?_
    rw [read_unread_whole]
    exact ld_cols _ 768 _ x y h0 h1
  · open_payloads
    refine Heads.headV_ld (iblk m c 0 t) (iblk m c 1 t) (iblk m c 2 t) 3 768 1792 (by decide) (by decide) _ _ (carried m c t) _ x y h0 h1 ?_
    rw [read_unread_whole]
    exact ld_cols _ 1792 _ x y h0 h1
  · open_payloads
    refine Heads.headK_ld (iblk m c 0 t) (iblk m c 1 t) (iblk m c 2 t) 2 512 1536 (by decide) (by decide) _ _ _ (carried m c t) _ x y h0 h1 ?_
    rw [read_unread_whole]
    exact ld_cols _ 512 _ x y h0 h1
  · open_payloads
    refine Heads.headV_ld (iblk m c 0 t) (iblk m c 1 t) (iblk m c 2 t) 2 512 1536 (by decide) (by decide) _ _ (carried m c t) _ x y h0 h1 ?_
    rw [read_unread_whole]
    exact ld_cols _ 1536 _ x y h0 h1
  · open_payloads
    refine Heads.headK_ld (iblk m c 0 t) (iblk m c 1 t) (iblk m c 2 t) 1 256 1280 (by decide) (by decide) _ _ _ (carried m c t) _ x y h0 h1 ?_
    rw [read_unread_whole]
    exact ld_cols _ 256 _ x y h0 h1
  · open_payloads
    refine Heads.headV_ld (iblk m c 0 t) (iblk m c 1 t) (iblk m c 2 t) 1 256 1280 (by decide) (by decide) _ _ (carried m c t) _ x y h0 h1 ?_
    rw [read_unread_whole]
    exact ld_cols _ 1280 _ x y h0 h1
  · open_payloads
    refine Heads.headK_ld (iblk m c 0 t) (iblk m c 1 t) (iblk m c 2 t) 0 0 1024 (by decide) (by decide) _ _ _ (carried m c t) _ x y h0 (h1.trans (Nat.zero_add _).symm) ?_
    rw [read_unread_whole]
    exact ld_cols _ 0 _ x y h0 (h1.trans (Nat.zero_add _).symm)
  · open_payloads
    refine Heads.headV_ld (iblk m c 0 t) (iblk m c 1 t) (iblk m c 2 t) 0 0 1024 (by decide) (by decide) _ _ (carried m c t) _ x y h0 h1 ?_
    rw [read_unread_whole]
    exact ld_cols _ 1024 _ x y h0 h1

set_option maxHeartbeats 1000000 in
/-- The last point writes the sums out. -/
theorem written_last (h0 : ¬t.val % 8 = 0) (h1 : t.val % 8 = 7) (y : S256x2048.Idx) :
    (outsAt0 m c t.val t.isLt).2.1 y = (outsAt0 m c t.val t.isLt).2.2 y := by
  rw [outsAt0_C m c t h0 h1]
  frame_open
  dsimp only
  rw [View.read_writes_junk_eq_canon, View.read_writes_junk_eq_canon, View.canon_cons_unit_lit _ _ _ (by decide)]
  have hp : ∀ X : Vec Ideal S256x2048 .f32, k0_pay5 X y = X y := fun X => by pointwise [k0_pay5]
  rw [hp]
  rw [View.readCov_eq_canon']
  exact congrFun (View.ld_unit_lit (S := S256x2048) (off := ![0, 0]) inb_S256x2048_S256x2048_0_0 (View.canon _) (by decide)) y

end Cert.KernelIdeal.Points

end
-- ==== Proof.Extended.lean ====
module

public import proofs.«01_k».proof.Proof.HeadsRead

/-! Sums of extended reals times a finite factor that is not negative. -/

@[expose] public section

noncomputable section

namespace Cert.KernelIdeal.Extended

open Idealize.ShloMosaic

/-- A finite factor that is not negative goes into a sum of extended reals. -/
theorem sum_mul {ι : Type*} (s : Finset ι) (f : ι → EReal) (a : EReal) (h : 0 ≤ a) (h' : a ≠ ⊤) :
    (∑ i ∈ s, f i) * a = ∑ i ∈ s, f i * a := by
  classical
  induction s using Finset.induction_on with
  | empty => simp
  | insert i s hi ih => rw [Finset.sum_insert hi, Finset.sum_insert hi, EReal.right_distrib_of_nonneg_of_ne_top h h', ih]

/-- The factor 1/16 is the real number 1/16. -/
theorem sixteenth_eq : Heads.sixteenth = ((1 / 16 : ℝ) : EReal) := by
  rw [Heads.sixteenth]
  simp [Ideal.ofBits, Ideal.ieee]
  rw [← EReal.coe_mul]
  norm_num

theorem sixteenth_nonneg : 0 ≤ Heads.sixteenth := by
  rw [sixteenth_eq]
  exact EReal.coe_nonneg.mpr (by norm_num)

theorem sixteenth_ne_top : Heads.sixteenth ≠ ⊤ := by
  rw [sixteenth_eq]
  exact EReal.coe_ne_top _

end Cert.KernelIdeal.Extended

end
-- ==== Proof.Whole.lean ====
module

public import proofs.«01_k».proof.Proof.Points
public import proofs.«01_k».proof.Proof.Extended

/-! What the whole run of the kernel leaves: every row of the queries' gradient, and the keys' and values' gradients summed
over all 4096 rows. -/

@[expose] public section

set_option maxRecDepth 16384

noncomputable section

namespace Cert.KernelIdeal.Whole

open Idealize.ShloMosaic Idealize.ShloMosaic.TcCoe Idealize.ShloMosaic.Tactic
open Idealize.SL Idealize.SL.Sem
open Cert.KernelIdeal Cert.KernelIdeal.Gen

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index2 : ∀ t : Fin cfg0.N, win0_2.index t = ![t.val, 0] := (by decide +kernel : ∀ t : Fin grid0.N, _)

/-- Row `r` of an array of 4096 rows. -/
def bigRow (x : S4096x1024.Idx → EReal) (r : Fin 4096) : Fin 1024 → EReal := fun d => x (ix2 r d)

/-- The gradient of the queries, entry by entry. -/
def allQ (q : S4096x1024.Idx → EReal) (kv : S256x2048.Idx → EReal) (g : S4096x1024.Idx → EReal) (i : S4096x1024.Idx) : EReal :=
  Heads.gradQ (bigRow q (i 0)) (bigRow g (i 0)) kv ⟨(i 1).val / 256, Nat.div_lt_of_lt_mul (i 1).isLt⟩
    ⟨(i 1).val % 256, Nat.mod_lt _ (by decide)⟩

/-- The gradient of keys and values, entry by entry. -/
def allKV (q : S4096x1024.Idx → EReal) (kv : S256x2048.Idx → EReal) (g : S4096x1024.Idx → EReal) (y : S256x2048.Idx) : EReal :=
  if hy : (y 1).val < 1024 then
    (∑ r, Heads.termK (bigRow q r) (bigRow g r) kv ⟨(y 1).val / 256, Nat.div_lt_of_lt_mul hy⟩ (y 0) ⟨(y 1).val % 256, Nat.mod_lt _ (by decide)⟩)
      * Heads.sixteenth
  else
    ∑ r, Heads.termV (bigRow q r) (bigRow g r) kv ⟨((y 1).val - 1024) / 256, Nat.div_lt_of_lt_mul (by
      have : (y 1).val < 2048 := (y 1).isLt
      omega)⟩ (y 0) ⟨(y 1).val % 256, Nat.mod_lt _ (by decide)⟩

/-- What a block of rows adds to the gradient of keys and values. -/
def gained (x0 : Vec Ideal S512x1024 .bf16) (x1 : Vec Ideal S256x2048 .bf16) (x2 : Vec Ideal S512x1024 .bf16)
    (y : S256x2048.Idx) : EReal :=
  if hy : (y 1).val < 1024 then
    (∑ i, Heads.termK (Heads.rowOf x0 i) (Heads.rowOf x2 i) x1 ⟨(y 1).val / 256, Nat.div_lt_of_lt_mul hy⟩ (y 0) ⟨(y 1).val % 256, Nat.mod_lt _ (by decide)⟩)
      * Heads.sixteenth
  else
    ∑ i, Heads.termV (Heads.rowOf x0 i) (Heads.rowOf x2 i) x1 ⟨((y 1).val - 1024) / 256, Nat.div_lt_of_lt_mul (by
      have : (y 1).val < 2048 := (y 1).isLt
      omega)⟩ (y 0) ⟨(y 1).val % 256, Nat.mod_lt _ (by decide)⟩

theorem added_eq (x0 : Vec Ideal S512x1024 .bf16) (x1 : Vec Ideal S256x2048 .bf16) (x2 : Vec Ideal S512x1024 .bf16)
    (old : S256x2048.Idx → EReal) (y : S256x2048.Idx) : Heads.added x0 x1 x2 old y = old y + gained x0 x1 x2 y := by
  rw [Heads.added, gained]
  split <;> rfl

variable (m : (ℓ : Loc nD τ sig) → Buf (Elt Ideal) ℓ) (c : Dev nD) (t : Fin cfg0.N)

/-- The array's row that is row `i` of point `t`'s block. -/
abbrev rowAt (i : Fin 512) : Fin 4096 := ⟨t.val * 512 + i.val, by have := lt_of_lt_of_eq t.isLt N_0; omega⟩

theorem queries_block (i : Fin 512) :
    Heads.rowOf (iblk m c 0 t) i = bigRow (m ((c : Thread nD τ).loc main_arg0)) (rowAt t i) := by
  funext d
  show iblk m c 0 t (ix2 i d) = m ((c : Thread nD τ).loc main_arg0) (ix2 (rowAt t i) d)
  blk_ext [iblk, V, index0 t]

theorem grads_block (i : Fin 512) :
    Heads.rowOf (iblk m c 2 t) i = bigRow (m ((c : Thread nD τ).loc main_arg2)) (rowAt t i) := by
  funext d
  show iblk m c 2 t (ix2 i d) = m ((c : Thread nD τ).loc main_arg2) (ix2 (rowAt t i) d)
  blk_ext [iblk, V, index2 t]

theorem memory_block : iblk m c 1 t = m ((c : Thread nD τ).loc main_arg1) := by
  funext y
  obtain ⟨a, b, rfl⟩ : ∃ (a : Fin 256) (b : Fin 2048), y = ix2 a b := ⟨y 0, y 1, eq_ix2 y⟩
  blk_ext [iblk, V, index1 t]

/-- What a point leaves in its block of the queries' gradient. -/
theorem queries_point (y : S512x1024.Idx) :
    (outsAt0 m c t.val t.isLt).1 y = Heads.gradQ (Heads.rowOf (iblk m c 0 t) (y 0)) (Heads.rowOf (iblk m c 2 t) (y 0)) (iblk m c 1 t)
      ⟨(y 1).val / 256, Nat.div_lt_of_lt_mul (y 1).isLt⟩ ⟨(y 1).val % 256, Nat.mod_lt _ (by decide)⟩ := by
  by_cases h0 : t.val % 8 = 0
  · exact Points.queries_first m c t h0 (by omega) y
  · by_cases h1 : t.val % 8 = 7
    · exact Points.queries_last m c t h0 h1 y
    · exact Points.queries_between m c t h0 h1 y

theorem queries_rows (y : S512x1024.Idx) :
    Heads.gradQ (Heads.rowOf (iblk m c 0 t) (y 0)) (Heads.rowOf (iblk m c 2 t) (y 0)) (iblk m c 1 t)
        ⟨(y 1).val / 256, Nat.div_lt_of_lt_mul (y 1).isLt⟩ ⟨(y 1).val % 256, Nat.mod_lt _ (by decide)⟩
      = allQ (m ((c : Thread nD τ).loc main_arg0)) (m ((c : Thread nD τ).loc main_arg1)) (m ((c : Thread nD τ).loc main_arg2))
          (ix2 (rowAt t (y 0)) (y 1)) := by
  obtain ⟨a, b, rfl⟩ : ∃ (a : Fin 512) (b : Fin 1024), y = ix2 a b := ⟨y 0, y 1, eq_ix2 y⟩
  show Heads.gradQ (Heads.rowOf (iblk m c 0 t) a) (Heads.rowOf (iblk m c 2 t) a) (iblk m c 1 t) _ _ = _
  rw [queries_block, grads_block, memory_block]
  rfl

/-- After the last point the running sums hold every point's terms. -/
theorem sums_end (ht : t.val + 1 = cfg0.N) (y : S256x2048.Idx) :
    (outsAt0 m c t.val t.isLt).2.2 y = 0 + ∑ p : Fin cfg0.N, gained (iblk m c 0 p) (iblk m c 1 p) (iblk m c 2 p) y := by
  refine Pipeline.eq_sum_fin_of_reset_step_apply_last (fun n h => (outsAt0 m c n h).2.2) 8 (fun _ => (0 : EReal))
    (fun p y => gained (iblk m c 0 p) (iblk m c 1 p) (iblk m c 2 p) y) (fun p h0 y => ?_) (fun p h0 y => ?_) (le_of_eq N_0) t ht y
  · rw [Points.sums_first m c p h0 (by omega), added_eq]
  · by_cases h1 : p.val % 8 = 7
    · rw [Points.sums_last m c p h0 h1, added_eq]
    · rw [Points.sums_between m c p h0 h1, added_eq]

/-- Every point's terms together are every row's. -/
theorem gained_all (y : S256x2048.Idx) :
    ∑ p : Fin cfg0.N, gained (iblk m c 0 p) (iblk m c 1 p) (iblk m c 2 p) y
      = allKV (m ((c : Thread nD τ).loc main_arg0)) (m ((c : Thread nD τ).loc main_arg1)) (m ((c : Thread nD τ).loc main_arg2)) y := by
  have hN : cfg0.N * 512 = 4096 := congrArg (· * 512) N_0
  rw [allKV]
  split
  next hy =>
    rw [Fin.sum_univ_tiles cfg0.N 512 hN, Extended.sum_mul _ _ _ Extended.sixteenth_nonneg Extended.sixteenth_ne_top]
    refine Finset.sum_congr rfl fun p _ => ?_
    rw [gained, dif_pos hy]
    simp only [queries_block, grads_block, memory_block]
  next hy =>
    rw [Fin.sum_univ_tiles cfg0.N 512 hN]
    refine Finset.sum_congr rfl fun p _ => ?_
    rw [gained, dif_neg hy]
    simp only [queries_block, grads_block, memory_block]

/-- The array of the queries' gradient after the run. -/
theorem queries_final :
    (dats m 0 c).arrAt 3 cfg0.N
      = allQ (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, queries_point]
  have e : (win0_3.blk t).view.emb y = (ix2 (rowAt t (y 0)) (y 1) : S4096x1024.Idx) := by
    blk_ext [index3 t]
  exact (queries_rows m c t y).trans (congrArg (allQ _ _ _) e.symm)

/-- The array of the keys' and values' gradients after the run. -/
theorem memory_final :
    (dats m 0 c).arrAt 4 cfg0.N
      = allKV (m ((c : Thread nD τ).loc main_arg0)) (m ((c : Thread nD τ).loc main_arg1)) (m ((c : Thread nD τ).loc main_arg2)) := by
  refine (dats m 0 c).arrAt_eq_of_covers 4 _ (by decide +kernel) fun t hf y => ?_
  have h1 : t.val % 8 = 7 := (flush0_4 t).mp hf
  have hN := lt_of_lt_of_eq t.isLt N_0
  blk_simp
  rw [after0_4, Points.written_last m c t (by omega) h1, sums_end m c t (Eq.trans (by omega) N_0.symm), gained_all, zero_add]
  have e : (win0_4.blk t).view.emb y = (y : S256x2048.Idx) := by
    blk_ext [index4 t]
  rw [e]

end Cert.KernelIdeal.Whole

end
-- ==== Proof.Reference.lean ====
module

public import proofs.«01_k».proof.Proof.Whole
public import proofs.«01_k».proof.Proof.Gen.ReferenceIdeal.Read

/-! The reference's values, stage by stage, in terms of one row of queries and one head. -/

@[expose] public section

set_option maxRecDepth 16384

noncomputable section

namespace Cert.ReferenceIdeal.Rows

open Idealize.ShloMosaic Idealize.ShloMosaic.Tactic
open Cert.ReferenceIdeal Cert.ReferenceIdeal.Value Cert.ReferenceIdeal.Read
open Cert.KernelIdeal.Heads (col keyCol valCol score reach top expo soft back sixteenth)
open Cert.KernelIdeal.Whole (bigRow)

/-- The gradient through the softmax of a row `x` as differentiating the quotient gives it: the part through the
numerator and the part through the sum below it. -/
def quotBack (x d : Fin 256 → EReal) (j : Fin 256) : EReal :=
  (Ideal.div (d j) (∑ l, expo x l) + -(∑ l, d l * Ideal.div 1 ((∑ l, expo x l) * (∑ l, expo x l)) * expo x l)) * expo x j

/-- The word for 16. -/
theorem word_sixteen : Ideal.ofBits .f32 0x41800000#32 = ((16 : ℝ) : EReal) := by
  simp [Ideal.ofBits, Ideal.ieee]
  rw [← EReal.coe_mul]
  norm_num

/-- The word for 1. -/
theorem word_one : Ideal.ofBits .f32 0x3F800000#32 = (1 : EReal) := by
  simp [Ideal.ofBits, Ideal.ieee]
  rw [← EReal.coe_mul]
  norm_num

theorem div_sixteen (x : EReal) : Ideal.div x ((16 : ℝ) : EReal) = x * sixteenth := by
  rw [Ideal.div_coe (by norm_num), Cert.KernelIdeal.Extended.sixteenth_eq]

/-- Two indices with the same coordinates are one. -/
theorem same2 {n0 n1 : ℕ} (i j : (⟨2, ![n0, n1]⟩ : Shape).Idx) (h0 : (i 0).val = (j 0).val) (h1 : (i 1).val = (j 1).val) : i = j := by
  funext a
  match a with
  | ⟨0, _⟩ => exact Fin.ext h0
  | ⟨1, _⟩ => exact Fin.ext h1

theorem same3 {n0 n1 n2 : ℕ} (i j : (⟨3, ![n0, n1, n2]⟩ : Shape).Idx) (h0 : (i 0).val = (j 0).val) (h1 : (i 1).val = (j 1).val)
    (h2 : (i 2).val = (j 2).val) : i = j := by
  funext a
  match a with
  | ⟨0, _⟩ => exact Fin.ext h0
  | ⟨1, _⟩ => exact Fin.ext h1
  | ⟨2, _⟩ => exact Fin.ext h2

/-- Column `d` of head `h`, in a row of 1024 numbers, is entry `(h, d)` of the row cut into four heads. -/
theorem cut_row {n : ℕ} (x h d : ℕ) (hh : h < 4) (hd : d < 256) (e : n = 256 * h + d) :
    (x * 1024 + n) / 1024 = x ∧ (x * 1024 + n) / 256 % 4 = h ∧ (x * 1024 + n) % 256 = d := by
  omega

variable (x0 : (⟨S4096x1024, .bf16⟩ : BufTy).Contents (Elt Ideal)) (x1 : (⟨S256x2048, .bf16⟩ : BufTy).Contents (Elt Ideal))
  (x2 : (⟨S4096x1024, .bf16⟩ : BufTy).Contents (Elt Ideal))

theorem query_at (r : Fin 4096) (h : Fin 4) (d : Fin 256) : val_main_v2 (F := Ideal) x0 (ix3 r h d) = x0 (ix2 r (col h d)) := by
  rw [val_main_v2_apply, val_main_v0_apply]
  refine congrArg x0 (funext fun a => ?_)
  fin_cases a <;> refine Fin.ext ?_ <;> simp [col] <;> omega

theorem grad_at (d : Fin 256) (h : Fin 4) (r : Fin 4096) : val_main_v44 (F := Ideal) x2 (ix3 h d r) = x2 (ix2 r (col h d)) := by
  rw [val_main_v44_apply, val_main_v43_apply, val_main_v42_apply]
  refine congrArg x2 (funext fun a => ?_)
  fin_cases a <;> refine Fin.ext ?_ <;> simp [col] <;> omega

theorem key_at (l : Fin 256) (h : Fin 4) (d : Fin 256) : val_main_v4 (F := Ideal) x1 (ix3 l h d) = x1 (ix2 l (keyCol h d)) := by
  rw [val_main_v4_apply, val_main_v3_apply, val_main_v1_apply]
  refine congrArg x1 (funext fun a => ?_)
  fin_cases a <;> refine Fin.ext ?_ <;> simp [keyCol] <;> omega

theorem value_at (l : Fin 256) (h : Fin 4) (d : Fin 256) : val_main_v6 (F := Ideal) x1 (ix3 l h d) = x1 (ix2 l (valCol h d)) := by
  rw [val_main_v6_apply, val_main_v5_apply, val_main_v1_apply]
  refine congrArg x1 (funext fun a => ?_)
  fin_cases a <;> refine Fin.ext ?_ <;> simp [valCol] <;> omega

theorem score_at (h : Fin 4) (r : Fin 4096) (l : Fin 256) :
    val_main_v9 (F := Ideal) x0 x1 (ix3 h r l) = score (bigRow x0 r) x1 h l := by
  rw [val_main_v9_apply, val_main_v8_apply, val_main_cst_apply, val_main_v7_apply]
  refine (congrArg (Ideal.div _) word_sixteen).trans ((div_sixteen _).trans (congrArg (· * sixteenth) (Finset.sum_congr rfl fun d _ => ?_)))
  exact congrArg₂ (· * ·) (query_at x0 r h d) (key_at x1 l h d)

theorem reach_at (h : Fin 4) (r : Fin 4096) (l : Fin 256) :
    val_main_v45 (F := Ideal) x1 x2 (ix3 h r l) = reach (bigRow x2 r) x1 h l := by
  rw [val_main_v45_apply]
  exact Finset.sum_congr rfl fun d _ => congrArg₂ (· * ·) (grad_at x2 d h r) (value_at x1 l h d)

theorem top_at (h : Fin 4) (r : Fin 4096) : val_main_v10 (F := Ideal) x0 x1 (ix2 h r) = top (score (bigRow x0 r) x1 h) := by
  have e : ∀ l, val_main_v9 (F := Ideal) x0 x1 (ix3 h r l) = score (bigRow x0 r) x1 h l := score_at x0 x1 h r
  unfold val_main_v10
  generalize val_main_v9 (F := Ideal) x0 x1 = s at e
  pointwise [val_main_cst_0]
  simp only [e, Cert.KernelIdeal.Heads.word_bot]
  rfl

theorem expo_at (h : Fin 4) (r : Fin 4096) (l : Fin 256) :
    val_main_v30 (F := Ideal) x0 x1 (ix3 h r l) = expo (score (bigRow x0 r) x1 h) l := by
  rw [val_main_v30_apply, val_main_v29_apply, val_main_v28_apply, val_main_v27_apply, val_main_v17_apply, val_main_v16_apply,
    val_main_cst_2_apply]
  have e : max (Ideal.ofBits .f32 0xFF800000#32) (val_main_v10 (F := Ideal) x0 x1 (ix2 h r)) = top (score (bigRow x0 r) x1 h) := by
    rw [Cert.KernelIdeal.Heads.word_bot, top_at, bot_sup_eq]
  have e' : idx_main_v27 (idx_main_v28 (ix3 h r l)) = ix2 h r := same2 _ _ rfl rfl
  rw [e']
  exact congrArg Ideal.exp (congrArg₂ (· - ·) (score_at x0 x1 h r l) e)

theorem total_at (h : Fin 4) (r : Fin 4096) :
    val_main_v31 (F := Ideal) x0 x1 (ix2 h r) = ∑ l, expo (score (bigRow x0 r) x1 h) l := by
  rw [val_main_v31_apply, val_main_cst_8_apply]
  refine (congrArg₂ (· + ·) Cert.Loads.word_zero (Finset.sum_congr rfl fun l _ => ?_)).trans (zero_add _)
  have e : idx_main_v31 (ix2 h r) l = ix3 h r l := same3 _ _ rfl rfl rfl
  rw [e]
  exact expo_at x0 x1 h r l

theorem soft_at (h : Fin 4) (r : Fin 4096) (l : Fin 256) :
    val_main_v34 (F := Ideal) x0 x1 (ix3 h r l) = soft (score (bigRow x0 r) x1 h) l := by
  have e : idx_main_v32 (idx_main_v33 (ix3 h r l)) = ix2 h r := same2 _ _ rfl rfl
  rw [val_main_v34_apply, val_main_v33_apply, val_main_v32_apply, e]
  exact congrArg₂ Ideal.div (expo_at x0 x1 h r l) (total_at x0 x1 h r)

/-- The part of the gradient that goes through the sum below the softmax. -/
theorem below_at (h : Fin 4) (r : Fin 4096) :
    val_main_v51 (F := Ideal) x0 x1 x2 (ix2 h r)
      = ∑ l, reach (bigRow x2 r) x1 h l * Ideal.div 1 ((∑ l, expo (score (bigRow x0 r) x1 h) l) * (∑ l, expo (score (bigRow x0 r) x1 h) l))
          * expo (score (bigRow x0 r) x1 h) l := by
  rw [val_main_v51_apply, val_main_cst_10_apply]
  refine (congrArg₂ (· + ·) Cert.Loads.word_zero (Finset.sum_congr rfl fun l _ => ?_)).trans (zero_add _)
  have e : idx_main_v51 (ix2 h r) l = ix3 h r l := same3 _ _ rfl rfl rfl
  have e' : idx_main_v32 (idx_main_v48 (ix3 h r l)) = ix2 h r := same2 _ _ rfl rfl
  rw [e, val_main_v50_apply, val_main_v49_apply, val_main_v48_apply, val_main_v37_apply, val_main_v36_apply, val_main_cst_9_apply,
    val_main_v35_apply, val_main_v32_apply, e']
  exact congrArg₂ (· * ·) (congrArg₂ (· * ·) (reach_at x1 x2 h r l) (congrArg₂ Ideal.div word_one
    (congrArg₂ (· * ·) (total_at x0 x1 h r) (total_at x0 x1 h r)))) (expo_at x0 x1 h r l)

theorem gradScore_at (h : Fin 4) (r : Fin 4096) (l : Fin 256) :
    val_main_v61 (F := Ideal) x0 x1 x2 (ix3 h r l) = quotBack (score (bigRow x0 r) x1 h) (reach (bigRow x2 r) x1 h) l * sixteenth := by
  rw [val_main_v61_apply, val_main_v60_apply, val_main_cst_12_apply, val_main_v59_apply, val_main_v58_apply, val_main_v57_apply,
    val_main_v56_apply, val_main_cst_11_apply, Fin.sum_univ_one, val_main_v53_apply, val_main_v52_apply, val_main_v55_apply,
    val_main_v54_apply, val_main_v32_apply]
  have e : idx_main_v32 (idx_main_v54 (ix3 h r l)) = ix2 h r := same2 _ _ rfl rfl
  have e' : idx_main_v52 (idx_main_v56 (idx_main_v57 (ix3 h r l)) 0) = ix2 h r :=
    same2 _ _ (by simp; omega) (by simp)
  rw [e, e']
  refine (congrArg (Ideal.div _) word_sixteen).trans ((div_sixteen _).trans (congrArg (· * sixteenth) ?_))
  refine congrArg₂ (· * ·) (congrArg₂ (· + ·) (congrArg₂ Ideal.div (reach_at x1 x2 h r l) (total_at x0 x1 h r)) ?_) (expo_at x0 x1 h r l)
  exact (congrArg₂ (· + ·) Cert.Loads.word_zero (congrArg (- ·) (below_at x0 x1 x2 h r))).trans (zero_add _)

theorem gradQ_at (r : Fin 4096) (h : Fin 4) (d : Fin 256) :
    val_main_v73 (F := Ideal) x0 x1 x2 (ix2 r (col h d))
      = ∑ l, quotBack (score (bigRow x0 r) x1 h) (reach (bigRow x2 r) x1 h) l * sixteenth * x1 (ix2 l (keyCol h d)) := by
  have e : idx_main_v71 (ix2 r (col h d)) = ix3 r h d :=
    have c := cut_row r.val h.val d.val h.isLt d.isLt (n := (col h d).val) rfl
    same3 _ _ c.1 c.2.1 c.2.2
  rw [val_main_v73_apply, val_main_v71_apply, e, val_main_v65_apply, val_main_v64_apply]
  refine Finset.sum_congr rfl fun l _ => ?_
  have e1 : lidx_main_v64 (idx_main_v65 (ix3 r h d)) l = ix3 h r l := same3 _ _ rfl rfl rfl
  have e2 : ridx_main_v64 (idx_main_v65 (ix3 r h d)) l = ix3 l h d := same3 _ _ rfl rfl rfl
  rw [e1, e2, gradScore_at, key_at]

theorem gradK_at (l : Fin 256) (h : Fin 4) (d : Fin 256) :
    val_main_v68 (F := Ideal) x0 x1 x2 (ix2 l (col h d))
      = ∑ r, quotBack (score (bigRow x0 r) x1 h) (reach (bigRow x2 r) x1 h) l * sixteenth * x0 (ix2 r (col h d)) := by
  have e : idx_main_v68 (ix2 l (col h d)) = ix3 l h d :=
    have c := cut_row l.val h.val d.val h.isLt d.isLt (n := (col h d).val) rfl
    same3 _ _ c.1 c.2.1 c.2.2
  rw [val_main_v68_apply, e, val_main_v63_apply, val_main_v62_apply]
  refine Finset.sum_congr rfl fun r _ => ?_
  have e1 : lidx_main_v62 (idx_main_v63 (ix3 l h d)) r = ix3 h r l := same3 _ _ rfl rfl rfl
  have e2 : ridx_main_v62 (idx_main_v63 (ix3 l h d)) r = ix3 r h d := same3 _ _ rfl rfl rfl
  rw [e1, e2, gradScore_at, query_at]

theorem gradV_at (l : Fin 256) (h : Fin 4) (d : Fin 256) :
    val_main_v66 (F := Ideal) x0 x1 x2 (ix2 l (col h d))
      = ∑ r, x2 (ix2 r (col h d)) * soft (score (bigRow x0 r) x1 h) l := by
  have e : idx_main_v66 (ix2 l (col h d)) = ix3 l h d :=
    have c := cut_row l.val h.val d.val h.isLt d.isLt (n := (col h d).val) rfl
    same3 _ _ c.1 c.2.1 c.2.2
  rw [val_main_v66_apply, e, val_main_v47_apply, val_main_v46_apply]
  refine Finset.sum_congr rfl fun r _ => ?_
  have e1 : lidx_main_v46 (idx_main_v47 (ix3 l h d)) r = ix3 h d r := same3 _ _ rfl rfl rfl
  have e2 : ridx_main_v46 (idx_main_v47 (ix3 l h d)) r = ix3 h r l := same3 _ _ rfl rfl rfl
  rw [e1, e2, grad_at, soft_at]

/-- The left half of the gradient of keys and values is that of the keys. -/
theorem left_half (l : Fin 256) (j : Fin 1024) :
    val_main_v72 (F := Ideal) x0 x1 x2 (ix2 l ⟨j.val, by omega⟩) = val_main_v68 (F := Ideal) x0 x1 x2 (ix2 l j) := by
  rw [val_main_v72_apply, val_main_v70_apply]
  unfold val_main_v67 val_main_v69
  generalize val_main_v66 (F := Ideal) x0 x1 x2 = a
  generalize val_main_v68 (F := Ideal) x0 x1 x2 = b
  pointwise [val_main_cst_13, val_main_cst_14]
  rw [dif_neg (fun hf => hf.1.elim), zero_add]

/-- The right half is that of the values. -/
theorem right_half (l : Fin 256) (j : Fin 1024) :
    val_main_v72 (F := Ideal) x0 x1 x2 (ix2 l ⟨1024 + j.val, by omega⟩) = val_main_v66 (F := Ideal) x0 x1 x2 (ix2 l j) := by
  rw [val_main_v72_apply, val_main_v70_apply]
  unfold val_main_v67 val_main_v69
  generalize val_main_v66 (F := Ideal) x0 x1 x2 = a
  generalize val_main_v68 (F := Ideal) x0 x1 x2 = b
  pointwise [val_main_cst_13, val_main_cst_14]

end Cert.ReferenceIdeal.Rows

end
-- ==== Proof.Softmax.lean ====
module

public import proofs.«01_k».proof.Proof.Reference

/-! The two ways of writing the gradient through a softmax are one where the scores are finite. -/

@[expose] public section

noncomputable section

namespace Cert.KernelIdeal.Softmax

open Idealize.ShloMosaic Idealize.ShloMosaic.Tactic
open Cert.KernelIdeal.Heads Cert.KernelIdeal.Extended
open Cert.ReferenceIdeal.Rows (quotBack)

/-- A number that is not infinite. -/
def Finite (a : EReal) : Prop := ∃ r : ℝ, a = r

theorem Finite.mul {a b : EReal} : Finite a → Finite b → Finite (a * b) := by
  rintro ⟨r, rfl⟩ ⟨s, rfl⟩
  exact ⟨r * s, (EReal.coe_mul r s).symm⟩

theorem Finite.sum {ι : Type*} (s : Finset ι) (f : ι → EReal) (h : ∀ i, Finite (f i)) : Finite (∑ i ∈ s, f i) := by
  choose g hg using h
  refine ⟨∑ i ∈ s, g i, ?_⟩
  rw [Finset.sum_congr rfl fun i _ => hg i]
  exact (map_sum (⟨⟨Real.toEReal, EReal.coe_zero⟩, EReal.coe_add⟩ : ℝ →+ EReal) g s).symm

theorem Finite.score {q : Fin 1024 → EReal} {kv : S256x2048.Idx → EReal} (hq : ∀ j, Finite (q j))
    (hk : ∀ l h d, Finite (kv (ix2 l (keyCol h d)))) (h : Fin 4) (l : Fin 256) : Finite (score q kv h l) :=
  (Finite.sum _ _ fun d => (hq (col h d)).mul (hk l h d)).mul ⟨1 / 16, sixteenth_eq⟩

/-- The largest of finite scores is finite. -/
theorem Finite.top {x : Fin 256 → EReal} (hx : ∀ j, Finite (x j)) : Finite (top x) := by
  obtain ⟨j, _, hj⟩ := Finset.exists_mem_eq_sup (Finset.univ : Finset (Fin 256)) ⟨0, Finset.mem_univ _⟩ x
  obtain ⟨r, hr⟩ := hx j
  exact ⟨r, hj.trans hr⟩

/-- Every exponential of a row of finite scores is a positive real number. -/
theorem expo_real {x : Fin 256 → EReal} (hx : ∀ j, Finite (x j)) : ∃ e : Fin 256 → ℝ, (∀ j, 0 < e j) ∧ ∀ j, expo x j = (e j : EReal) := by
  obtain ⟨t, ht⟩ := Finite.top hx
  choose y hy using hx
  refine ⟨fun j => Real.exp (y j - t), fun j => Real.exp_pos _, fun j => ?_⟩
  rw [expo, ht, hy j, ← EReal.coe_sub, Ideal.exp_coe]

theorem quotBack_eq {x : Fin 256 → EReal} (hx : ∀ j, Finite (x j)) (d : Fin 256 → EReal) (j : Fin 256) : quotBack x d j = back x d j := by
  obtain ⟨e, he, h⟩ := expo_real hx
  obtain ⟨s, hs, hsum⟩ : ∃ s : ℝ, 0 < s ∧ ∑ l, expo x l = (s : EReal) := by
    refine ⟨∑ l, e l, Finset.sum_pos (fun l _ => he l) ⟨0, Finset.mem_univ _⟩, ?_⟩
    rw [Finset.sum_congr rfl fun l _ => h l]
    exact (map_sum (⟨⟨Real.toEReal, EReal.coe_zero⟩, EReal.coe_add⟩ : ℝ →+ EReal) e Finset.univ).symm
  have hc : (0 : EReal) ≤ ((1 / s : ℝ) : EReal) := EReal.coe_nonneg.mpr (by positivity)
  have hsoft : ∀ l, soft x l = (e l : EReal) * ((1 / s : ℝ) : EReal) := fun l => by
    rw [soft, hsum, h l, Ideal.div_coe hs.ne']
  have hT : ∑ l, d l * Ideal.div 1 ((s : EReal) * (s : EReal)) * (e l : EReal) = (∑ l, d l * soft x l) * ((1 / s : ℝ) : EReal) := by
    rw [sum_mul _ _ _ hc (EReal.coe_ne_top _)]
    refine Finset.sum_congr rfl fun l _ => ?_
    rw [hsoft l, ← EReal.coe_mul, Ideal.div_coe (mul_pos hs hs).ne', one_mul, mul_assoc, mul_assoc, ← EReal.coe_mul, ← EReal.coe_mul,
      ← EReal.coe_mul]
    congr 2
    field_simp
  rw [quotBack, back, hsum, Ideal.div_coe hs.ne']
  simp only [h]
  rw [hT, hsoft j, ← EReal.neg_mul, ← EReal.right_distrib_of_nonneg_of_ne_top hc (EReal.coe_ne_top _), ← sub_eq_add_neg, mul_assoc,
    mul_comm]
  congr 1
  exact mul_comm _ _

end Cert.KernelIdeal.Softmax

end
-- ==== Proof.Inputs.lean ====
module

public import proofs.«01_k».proof.Proof.Softmax
public import proofs.«01_k».proof.Pre_scores_finite
public import Idealize.ShloMosaic.Lib.KernelVsHost

/-! What the precondition says: every query and every key is a finite number. -/

@[expose] public section

set_option maxRecDepth 16384

noncomputable section

namespace Cert.Pre_scores_finite.Read

open Idealize.ShloMosaic Idealize.ShloMosaic.Tactic
open Cert.KernelIdeal.Softmax (Finite)
open Cert.KernelIdeal.Heads (keyCol)

theorem facts : Cert.Pre_scores_finite.Facts where
  slices_S256x2048_S256x1024_0_0 := by decide
  concatenates_S4096x1024_S256x1024_S4352x1024_d0 := by decide
  bitsLt_bf16_f32 := by decide
  bcast_S_S4352x1024 := by decide

/-- A number whose magnitude is below infinity is finite. -/
theorem finite_of_bit (x : EReal) (h : Ideal.cmp .olt (max x (-x)) (Ideal.ofBits .f32 0x7F800000#32) = 1#1) : Finite x := by
  have top : Ideal.ofBits .f32 0x7F800000#32 = ⊤ := by simp [Ideal.ofBits, Ideal.ieee]
  rw [top] at h
  induction x using EReal.rec with
  | bot => simp [Ideal.cmp] at h
  | coe r => exact ⟨r, rfl⟩
  | top => simp [Ideal.cmp] at h

attribute [local instance] facts

variable (q : S4096x1024.Idx → EReal) (kv : S256x2048.Idx → EReal) (g : S4096x1024.Idx → EReal)
  (pre : fn (F := Ideal) q kv g = fun _ => 1#1)

include pre

theorem query_finite (r : Fin 4096) (j : Fin 1024) : Finite (q (ix2 r j)) := by
  have h := congrFun pre (ix2 ⟨r.val, by omega⟩ j)
  refine finite_of_bit _ (Eq.trans ?_ h)
  unfold fn
  pointwise []
  rfl

theorem key_finite (l : Fin 256) (h : Fin 4) (d : Fin 256) : Finite (kv (ix2 l (keyCol h d))) := by
  have e := congrFun pre (ix2 ⟨4096 + l.val, by omega⟩ ⟨256 * h.val + d.val, by omega⟩)
  refine finite_of_bit _ (Eq.trans ?_ e)
  unfold fn
  pointwise [keyCol]
  rfl

end Cert.Pre_scores_finite.Read

end
-- ==== Proof.Answer.lean ====
module

public import proofs.«01_k».proof.Proof.Softmax

/-! The kernel's two arrays and the reference's are the same, where the queries and the keys are finite. -/

@[expose] public section

set_option maxRecDepth 16384

noncomputable section

namespace Cert.KernelIdeal.Answer

open Idealize.ShloMosaic Idealize.ShloMosaic.Tactic
open Cert.KernelIdeal
open Cert.KernelIdeal.Heads Cert.KernelIdeal.Extended Cert.KernelIdeal.Softmax Cert.KernelIdeal.Whole
open Cert.ReferenceIdeal.Read (val_main_v72 val_main_v73)

variable (q : S4096x1024.Idx → EReal) (kv : S256x2048.Idx → EReal) (g : S4096x1024.Idx → EReal)
  (hq : ∀ r j, Finite (q (ix2 r j))) (hk : ∀ l h d, Finite (kv (ix2 l (keyCol h d))))

include hq hk

theorem scores_real (r : Fin 4096) (h : Fin 4) : ∀ l, Finite (score (bigRow q r) kv h l) := fun l =>
  Finite.score (fun j => hq r j) hk h l

theorem queries_eq : allQ q kv g = val_main_v73 (F := Ideal) q kv g := by
  funext i
  obtain ⟨r, j, rfl⟩ : ∃ (r : Fin 4096) (j : Fin 1024), i = ix2 r j := ⟨i 0, i 1, eq_ix2 i⟩
  obtain ⟨h, d, rfl⟩ : ∃ (h : Fin 4) (d : Fin 256), j = col h d :=
    ⟨⟨j.val / 256, by omega⟩, ⟨j.val % 256, by omega⟩, Fin.ext (by simp [col]; omega)⟩
  have eh : (⟨(col h d).val / 256, by omega⟩ : Fin 4) = h := Fin.ext (by simp [col]; omega)
  have ed : (⟨(col h d).val % 256, by omega⟩ : Fin 256) = d := Fin.ext (by show _ % 256 = _; simp only [col]; omega)
  rw [Cert.ReferenceIdeal.Rows.gradQ_at]
  show gradQ (bigRow q r) (bigRow g r) kv ⟨(col h d).val / 256, _⟩ ⟨(col h d).val % 256, _⟩ = _
  rw [eh, ed, gradQ, sum_mul _ _ _ sixteenth_nonneg sixteenth_ne_top]
  refine Finset.sum_congr rfl fun l _ => ?_
  rw [quotBack_eq (scores_real q kv hq hk r h)]
  exact mul_right_comm _ _ _

theorem memory_eq : allKV q kv g = val_main_v72 (F := Ideal) q kv g := by
  funext i
  obtain ⟨l, j, rfl⟩ : ∃ (l : Fin 256) (j : Fin 2048), i = ix2 l j := ⟨i 0, i 1, eq_ix2 i⟩
  unfold allKV
  by_cases hj : j.val < 1024
  · obtain ⟨h, d, rfl⟩ : ∃ (h : Fin 4) (d : Fin 256), j = ⟨(col h d).val, (col h d).isLt.trans (by decide)⟩ :=
      ⟨⟨j.val / 256, by omega⟩, ⟨j.val % 256, by omega⟩, Fin.ext (by simp [col]; omega)⟩
    have eh : (⟨(col h d).val / 256, by omega⟩ : Fin 4) = h := Fin.ext (by simp [col]; omega)
    have ed : (⟨(col h d).val % 256, by omega⟩ : Fin 256) = d := Fin.ext (by show _ % 256 = _; simp only [col]; omega)
    refine (dif_pos hj).trans ?_
    rw [Cert.ReferenceIdeal.Rows.left_half, Cert.ReferenceIdeal.Rows.gradK_at,
      sum_mul _ _ _ sixteenth_nonneg sixteenth_ne_top]
    refine Finset.sum_congr rfl fun r _ => ?_
    rw [quotBack_eq (scores_real q kv hq hk r h)]
    show termK (bigRow q r) (bigRow g r) kv ⟨(col h d).val / 256, _⟩ l ⟨(col h d).val % 256, _⟩ * sixteenth = _
    rw [eh, ed]
    exact mul_right_comm _ _ _
  · obtain ⟨h, d, rfl⟩ : ∃ (h : Fin 4) (d : Fin 256), j = ⟨1024 + (col h d).val, Nat.add_lt_add_left (col h d).isLt 1024⟩ :=
      ⟨⟨(j.val - 1024) / 256, by omega⟩, ⟨j.val % 256, by omega⟩, Fin.ext (by simp [col]; omega)⟩
    have eh : (⟨(1024 + (col h d).val - 1024) / 256, by omega⟩ : Fin 4) = h := Fin.ext (by simp [col]; omega)
    have ed : (⟨(1024 + (col h d).val) % 256, by omega⟩ : Fin 256) = d := Fin.ext (by show _ % 256 = _; simp only [col]; omega)
    refine (dif_neg hj).trans ?_
    rw [Cert.ReferenceIdeal.Rows.right_half, Cert.ReferenceIdeal.Rows.gradV_at]
    refine Finset.sum_congr rfl fun r _ => ?_
    show termV (bigRow q r) (bigRow g r) kv ⟨(1024 + (col h d).val - 1024) / 256, _⟩ l ⟨(1024 + (col h d).val) % 256, _⟩ = _
    rw [eh, ed]
    exact mul_comm _ _

end Cert.KernelIdeal.Answer

end
-- ==== Proof.Dup.lean ====
module

public import proofs.«01_k».proof.Proof.Gen.Kernel2Ideal.Value
public import proofs.«01_k».proof.Proof.Gen.Reference2Ideal.Run
public import proofs.«01_k».proof.Proof.Gen.Reference2Ideal.Read
public import proofs.«01_k».proof.Proof.Loads
public import proofs.«01_k».proof.Defs
public import Idealize.ShloMosaic.Adequacy
public import Idealize.ShloMosaic.Init

/-! The gradient of the squared-ReLU half of the feed-forward part in its pre-activations: every entry of the kernel's array
is the entry that the derivative has. -/

@[expose] public section

set_option maxRecDepth 16384

noncomputable section

namespace Cert.Kernel2Ideal.Dup

open Idealize.ShloMosaic Idealize.ShloMosaic.TcCoe Idealize.ShloMosaic.Tactic
open Idealize.SL Idealize.SL.Sem
open Cert.Loads
open Cert.Kernel2Ideal Cert.Kernel2Ideal.Gen

/-- The word of two. -/
def two : EReal := Ideal.ofBits .f32 0x40000000#32

/-- One entry: the product's entry times twice the positive part of the pre-activation. -/
def entry (d : Fin 1024 → EReal) (w : Fin 1024 → EReal) (u : EReal) : EReal := (∑ k, d k * w k) * (two * max u 0)

/-- The array: gradients `d` of the outputs, the weights `w`, the pre-activations `u`. -/
def whole (d : S4096x1024.Idx → EReal) (w : S4096x1024.Idx → EReal) (u : S4096x4096.Idx → EReal) (i : S4096x4096.Idx) : EReal :=
  entry (fun k => d (ix2 (i 0) k)) (fun k => w (ix2 (i 1) k)) (u i)

/-- A tile of 1024 columns. -/
theorem tile_apply (a : Vec Ideal S512x1024 .bf16) (b : Vec Ideal S1024x1024 .bf16) (u : Vec Ideal S512x1024 .bf16) (x : S512x1024.Idx) :
    k0_pay2 a b u x = entry (fun k => a (ix2 (x 0) k)) (fun k => b (ix2 (x 1) k)) (u x) := by
  obtain ⟨p, q, rfl⟩ : ∃ (p : Fin 512) (q : Fin 1024), x = ix2 p q := ⟨x 0, x 1, eq_ix2 x⟩
  pointwise [k0_pay2, entry, two]

theorem entry_congr {d d' w w' : Fin 1024 → EReal} {u u' : EReal} (hd : ∀ k, d k = d' k) (hw : ∀ k, w k = w' k) (hu : u = u') :
    entry d w u = entry d' w' u' := by
  rw [funext hd, funext hw, hu]

/-- A block of the array, of its rows' gradients and pre-activations. -/
theorem block_eq (x0 : Vec Ideal S512x1024 .bf16) (x1 : Vec Ideal S4096x1024 .bf16) (x2 : Vec Ideal S512x4096 .bf16)
    (y : S512x4096.Idx) : out0_3 x0 x1 x2 y = entry (fun k => x0 (ix2 (y 0) k)) (fun k => x1 (ix2 (y 1) k)) (x2 y) := by
  unfold out0_3
  canon_tiles x h
  · refine (tile_apply _ _ _ x).trans (entry_congr (fun k => ?_) (fun k => ?_) ?_)
    · exact ld2 x0 0 0 _ _ _ (h0.trans (Nat.zero_add _).symm) (Nat.zero_add _).symm
    · exact ld2 x1 3072 0 _ _ _ h1 (Nat.zero_add _).symm
    · exact ld2 x2 0 3072 _ _ _ (h0.trans (Nat.zero_add _).symm) h1
  · refine (tile_apply _ _ _ x).trans (entry_congr (fun k => ?_) (fun k => ?_) ?_)
    · exact ld2 x0 0 0 _ _ _ (h0.trans (Nat.zero_add _).symm) (Nat.zero_add _).symm
    · exact ld2 x1 2048 0 _ _ _ h1 (Nat.zero_add _).symm
    · exact ld2 x2 0 2048 _ _ _ (h0.trans (Nat.zero_add _).symm) h1
  · refine (tile_apply _ _ _ x).trans (entry_congr (fun k => ?_) (fun k => ?_) ?_)
    · exact ld2 x0 0 0 _ _ _ (h0.trans (Nat.zero_add _).symm) (Nat.zero_add _).symm
    · exact ld2 x1 1024 0 _ _ _ h1 (Nat.zero_add _).symm
    · exact ld2 x2 0 1024 _ _ _ (h0.trans (Nat.zero_add _).symm) h1
  · refine (tile_apply _ _ _ x).trans (entry_congr (fun k => ?_) (fun k => ?_) ?_)
    · exact ld2 x0 0 0 _ _ _ (h0.trans (Nat.zero_add _).symm) (Nat.zero_add _).symm
    · exact ld2 x1 0 0 _ _ _ (h1.trans (Nat.zero_add _).symm) (Nat.zero_add _).symm
    · exact ld2 x2 0 0 _ _ _ (h0.trans (Nat.zero_add _).symm) (h1.trans (Nat.zero_add _).symm)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- The array after the run. -/
theorem final (m : (ℓ : Loc nD τ sig) → Buf (Elt Ideal) ℓ) (c : Dev nD) :
    (dats m 0 c).arrAt 3 cfg0.N
      = whole (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  obtain ⟨a, b, rfl⟩ : ∃ (a : Fin 512) (b : Fin 4096), y = ix2 a b := ⟨y 0, y 1, eq_ix2 y⟩
  rw [after0_3, block_eq]
  refine entry_congr (fun k => ?_) (fun k => ?_) ?_
  · blk_ext [iblk, V, index0 t, index3 t]
  · blk_ext [iblk, V, index1 t, index3 t]
  · blk_ext [iblk, V, index2 t, index3 t]

open Cert.Reference2Ideal.Read

/-- The derivative, entry by entry. -/
theorem reference_eq (d : S4096x1024.Idx → EReal) (w : S4096x1024.Idx → EReal) (u : S4096x4096.Idx → EReal) :
    val_main_v15 (F := Ideal) d w u = whole d w u := by
  funext i
  obtain ⟨a, b, rfl⟩ : ∃ (a : Fin 4096) (b : Fin 4096), i = ix2 a b := ⟨i 0, i 1, eq_ix2 i⟩
  have el : ∀ k, lidx_main_v11 (ix2 a b) k = ix2 a k := fun k => at2 _ _ rfl rfl
  have er : ∀ k, ridx_main_v11 (ix2 a b) k = ix2 b k := fun k => at2 _ _ rfl rfl
  rw [val_main_v15_apply, val_main_v14_apply, val_main_v12_apply, val_main_v11_apply, val_main_v8_apply, val_main_v4_apply]
  simp only [el, er]
  simp only [val_main_v1_apply, val_main_v3_apply, val_main_v10_apply, val_main_v0_apply, val_main_v7_apply, val_main_v2_apply, val_main_v13_apply]
  pointwise [whole, entry, two]
  simp only [val_main_cst_apply, val_main_cst_1_apply, val_main_cst_2_apply, val_main_call0_v0_apply, val_main_call0_cst_apply,
    Ideal.ofBits_def, word_zero]
  split
  · rfl
  next h => rw [max_eq_right (not_lt.mp h), mul_zero, mul_zero]

/-- The reference runs, its arguments end as they were, and it has no semaphore that could be left raised. -/
theorem reference_frame : @Cert.quiescent_Reference2Ideal Cert.Reference2Ideal.Gen.facts := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- The kernel and the derivative end with the same array. -/
theorem equal : @Cert.algebraic_Kernel2Ideal_Reference2Ideal Cert.Kernel2Ideal.Gen.facts Cert.Reference2Ideal.Gen.facts := by
  intro m g m' g' _ hargs
  refine ⟨fun c => (dats m 0 c).arrAt 3 cfg0.N, Cert.Kernel2Ideal.Value.run_blocks m g, ?_⟩
  refine (θ_run _ _ _).mono (fun r h c => ?_) (Cert.Reference2Ideal.Value.run m' g')
  obtain ⟨hd, hrest⟩ := h c
  obtain ⟨e0, e1, e2⟩ := hargs c
  refine ⟨hd.trans ?_, hrest⟩
  rw [val_main_v15_eq, e0, e1, e2]
  exact (reference_eq _ _ _).trans (final m c).symm

end Cert.Kernel2Ideal.Dup

end
-- ==== Proof.DownGrad.lean ====
module

public import proofs.«01_k».proof.Proof.Gen.Kernel3Ideal.Value
public import proofs.«01_k».proof.Proof.Gen.Reference3Ideal.Run
public import proofs.«01_k».proof.Proof.Gen.Reference3Ideal.Read
public import proofs.«01_k».proof.Proof.Loads
public import proofs.«01_k».proof.Defs
public import Idealize.ShloMosaic.Lib.Pipeline.ReadBack
public import Idealize.ShloMosaic.Adequacy
public import Idealize.ShloMosaic.Init

/-! The gradient of the feed-forward part's second weight matrix: the activations' transpose times the outputs' gradient,
summed over eight blocks of 512 rows. -/

@[expose] public section

set_option maxRecDepth 16384

noncomputable section

namespace Cert.Kernel3Ideal.DownGrad

open Idealize.ShloMosaic Idealize.ShloMosaic.TcCoe Idealize.ShloMosaic.Tactic
open Idealize.SL Idealize.SL.Sem
open Cert.Loads
open Cert.Kernel3Ideal Cert.Kernel3Ideal.Gen

/-- What a block of 512 rows adds to an entry. -/
def gained (x0 : Vec Ideal S512x4096 .bf16) (x1 : Vec Ideal S512x1024 .bf16) (y : S4096x1024.Idx) : EReal :=
  ∑ k, x0 (ix2 k (y 0)) * x1 (ix2 k (y 1))

/-- A tile of 512 columns: what stood there and the block's product. -/
theorem tile_apply (x0 : Vec Ideal S512x4096 .bf16) (old : Vec Ideal S4096x512 .f32) (b : Vec Ideal S512x512 .bf16) (x : S4096x512.Idx) :
    k0_pay4 x0 old b x = old x + ∑ k, x0 (ix2 k (x 0)) * b (ix2 k (x 1)) := by
  obtain ⟨p, q, rfl⟩ : ∃ (p : Fin 4096) (q : Fin 512), x = ix2 p q := ⟨x 0, x 1, eq_ix2 x⟩
  pointwise [k0_pay4, k0_pay2]

/-- The tile whose columns begin at `o`, the right block being those columns of the whole one. -/
theorem tile_at (x0 : Vec Ideal S512x4096 .bf16) (x1 : Vec Ideal S512x1024 .bf16) (old : Vec Ideal S4096x512 .f32) (o : ℕ)
    (i : ∀ a, (![0, o] : Fin 2 → ℕ) a + (![512, 512] : Fin 2 → ℕ) a ≤ S512x1024.size a) (x : S4096x512.Idx) (y : S4096x1024.Idx) (v : EReal)
    (hold : old x = v) (h0 : (y 0).val = (x 0).val) (h1 : (y 1).val = o + (x 1).val) :
    k0_pay4 x0 old (View.ld (Val := Elt Ideal) x1 (Rect.unit (s := S512x1024) ![0, o] ![512, 512] i)) x = v + gained x0 x1 y := by
  rw [tile_apply, hold, gained]
  exact congrArg (v + ·) (Finset.sum_congr rfl fun k _ => congrArg₂ (· * ·) (congrArg x0 (at2 _ _ rfl h0.symm))
    (ld2 x1 0 o i _ (ix2 k (y 1)) (Nat.zero_add _).symm h1))

variable (m : (ℓ : Loc nD τ sig) → Buf (Elt Ideal) ℓ) (c : Dev nD) (t : Fin cfg0.N)

/-- The sums that the point before left. -/
abbrev carried : Vec Ideal S4096x1024 .f32 := (outsAt0 m c (t.val - 1) (Nat.lt_of_le_of_lt (Nat.sub_le _ _) t.isLt)).2

theorem sums_first (h0 : t.val % 8 = 0) (h1 : ¬t.val % 8 = 7) (y : S4096x1024.Idx) :
    (outsAt0 m c t.val t.isLt).2 y = 0 + gained (iblk m c 0 t) (iblk m c 1 t) y := by
  rw [outsAt0_A m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  refine (canon_over y [_] [_, _] (View.cover_of_tiled_head _ _ _ (by rfl) y)).trans ?_
  canon_tiles x h
  · exact tile_at _ _ _ 512 _ x y _ word_zero h0 h1
  · exact tile_at _ _ _ 0 _ x y _ word_zero h0 (h1.trans (Nat.zero_add _).symm)

theorem sums_between (h0 : ¬t.val % 8 = 0) (h1 : ¬t.val % 8 = 7) (y : S4096x1024.Idx) :
    (outsAt0 m c t.val t.isLt).2 y = carried m c t y + gained (iblk m c 0 t) (iblk m c 1 t) y := by
  rw [outsAt0_B m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  · rw [read_unread_whole]
    exact tile_at _ _ _ 512 _ x y _ (ld2 (carried m c t) 0 512 _ x y (h0.trans (Nat.zero_add _).symm) h1) h0 h1
  · rw [read_unread_whole]
    have h1 := h1.trans (Nat.zero_add _).symm
    exact tile_at _ _ _ 0 _ x y _ (ld2 (carried m c t) 0 0 _ x y (h0.trans (Nat.zero_add _).symm) h1) h0 h1

theorem written_last (h0 : ¬t.val % 8 = 0) (h1 : t.val % 8 = 7) (y : S4096x1024.Idx) :
    (outsAt0 m c t.val t.isLt).1 y = carried m c t y + gained (iblk m c 0 t) (iblk m c 1 t) y := by
  rw [outsAt0_C m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  · rw [read_unread_whole]
    exact tile_at _ _ _ 512 _ x y _ (ld2 (carried m c t) 0 512 _ x y (h0.trans (Nat.zero_add _).symm) h1) h0 h1
  · rw [read_unread_whole]
    have h1 := h1.trans (Nat.zero_add _).symm
    exact tile_at _ _ _ 0 _ x y _ (ld2 (carried m c t) 0 0 _ x y (h0.trans (Nat.zero_add _).symm) h1) h0 h1

theorem sums_last (h0 : ¬t.val % 8 = 0) (h1 : t.val % 8 = 7) (y : S4096x1024.Idx) :
    (outsAt0 m c t.val t.isLt).2 y = carried m c t y + gained (iblk m c 0 t) (iblk m c 1 t) y := by
  rw [outsAt0_C m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  · rw [read_unread_whole]
    exact tile_at _ _ _ 512 _ x y _ (ld2 (carried m c t) 0 512 _ x y (h0.trans (Nat.zero_add _).symm) h1) h0 h1
  · rw [read_unread_whole]
    have h1 := h1.trans (Nat.zero_add _).symm
    exact tile_at _ _ _ 0 _ x y _ (ld2 (carried m c t) 0 0 _ x y (h0.trans (Nat.zero_add _).symm) h1) h0 h1

/-- After the last point the sums hold every point's terms. -/
theorem sums_end (ht : t.val + 1 = cfg0.N) (y : S4096x1024.Idx) :
    (outsAt0 m c t.val t.isLt).2 y = 0 + ∑ p : Fin cfg0.N, gained (iblk m c 0 p) (iblk m c 1 p) y := by
  refine Pipeline.eq_sum_fin_of_reset_step_apply_last (fun n h => (outsAt0 m c n h).2) 8 (fun _ => (0 : EReal))
    (fun p y => gained (iblk m c 0 p) (iblk m c 1 p) y) (fun p h0 y => ?_) (fun p h0 y => ?_) (le_of_eq N_0) t ht y
  · exact sums_first m c p h0 (by omega) y
  · by_cases h1 : p.val % 8 = 7
    · exact sums_last m c p h0 h1 y
    · exact sums_between m c p h0 h1 y

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)

/-- The whole gradient: each entry sums over every row. -/
def whole (a : S4096x4096.Idx → EReal) (d : S4096x1024.Idx → EReal) : S4096x1024.Idx → EReal := fun y =>
  ∑ r, a (ix2 r (y 0)) * d (ix2 r (y 1))

/-- The array's row that is row `r` of point `p`'s block. -/
abbrev rowAt (p : Fin cfg0.N) (r : Fin 512) : Fin 4096 := ⟨p.val * 512 + r.val, by have := lt_of_lt_of_eq p.isLt N_0; omega⟩

theorem acts_block (p : Fin cfg0.N) (r : Fin 512) (i : Fin 4096) :
    iblk m c 0 p (ix2 r i) = m ((c : Thread nD τ).loc main_arg0) (ix2 (rowAt p r) i) := by
  blk_ext [iblk, V, index0 p]

theorem grads_block (p : Fin cfg0.N) (r : Fin 512) (i : Fin 1024) :
    iblk m c 1 p (ix2 r i) = m ((c : Thread nD τ).loc main_arg1) (ix2 (rowAt p r) i) := by
  blk_ext [iblk, V, index1 p]

/-- Every point's terms together are every row's. -/
theorem gained_all (y : S4096x1024.Idx) :
    ∑ p : Fin cfg0.N, gained (iblk m c 0 p) (iblk m c 1 p) y
      = whole (m ((c : Thread nD τ).loc main_arg0)) (m ((c : Thread nD τ).loc main_arg1)) y := by
  have hN : cfg0.N * 512 = 4096 := congrArg (· * 512) N_0
  rw [whole, Fin.sum_univ_tiles cfg0.N 512 hN]
  refine Finset.sum_congr rfl fun p _ => ?_
  rw [gained]
  exact Finset.sum_congr rfl fun r _ => congrArg₂ (· * ·) (acts_block m c p r _) (grads_block m c p r _)

/-- The array after the run. -/
theorem final :
    (dats m 0 c).arrAt 2 cfg0.N = whole (m ((c : Thread nD τ).loc main_arg0)) (m ((c : Thread nD τ).loc main_arg1)) := by
  refine (dats m 0 c).arrAt_eq_of_covers 2 _ (by decide +kernel) fun t hf y => ?_
  have h1 : t.val % 8 = 7 := (flush0_2 t).mp hf
  have hN := lt_of_lt_of_eq t.isLt N_0
  have h0 : ¬t.val % 8 = 0 := by omega
  blk_simp
  rw [after0_2, written_last m c t h0 h1, ← sums_last m c t h0 h1, sums_end m c t (Eq.trans (by omega) N_0.symm), gained_all, zero_add]
  have e : (win0_2.blk t).view.emb y = (y : S4096x1024.Idx) := by
    blk_ext [index2 t]
  rw [e]

open Cert.Reference3Ideal.Read

/-- The derivative, entry by entry. -/
theorem reference_eq (a : S4096x4096.Idx → EReal) (d : S4096x1024.Idx → EReal) : val_main_v6 (F := Ideal) a d = whole a d := by
  funext i
  obtain ⟨p, q, rfl⟩ : ∃ (p : Fin 4096) (q : Fin 1024), i = ix2 p q := ⟨i 0, i 1, eq_ix2 i⟩
  have et : idx_main_v5 (ix2 p q) = ix2 q p := at2 _ _ rfl rfl
  have el : ∀ k, lidx_main_v4 (ix2 q p) k = ix2 k q := fun k => at2 _ _ rfl rfl
  have er : ∀ k, ridx_main_v4 (ix2 q p) k = ix2 k p := fun k => at2 _ _ rfl rfl
  rw [val_main_v6_apply, val_main_v5_apply, et, val_main_v4_apply]
  simp only [el, er, val_main_v3_apply, val_main_v0_apply]
  exact Finset.sum_congr rfl fun k _ => mul_comm _ _

/-- The reference runs, its arguments end as they were, and it has no semaphore that could be left raised. -/
theorem reference_frame : @Cert.quiescent_Reference3Ideal Cert.Reference3Ideal.Gen.facts := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- The kernel and the derivative end with the same array. -/
theorem equal : @Cert.algebraic_Kernel3Ideal_Reference3Ideal Cert.Kernel3Ideal.Gen.facts Cert.Reference3Ideal.Gen.facts := by
  intro m g m' g' _ hargs
  refine ⟨fun c => (dats m 0 c).arrAt 2 cfg0.N, Cert.Kernel3Ideal.Value.run_blocks m g, ?_⟩
  refine (θ_run _ _ _).mono (fun r h c => ?_) (Cert.Reference3Ideal.Value.run m' g')
  obtain ⟨hd, hrest⟩ := h c
  obtain ⟨e0, e1⟩ := hargs c
  refine ⟨hd.trans ?_, hrest⟩
  rw [val_main_v6_eq, e0, e1]
  exact (reference_eq _ _).trans (final m c).symm

end Cert.Kernel3Ideal.DownGrad

end
-- ==== Proof.UpGrad.lean ====
module

public import proofs.«01_k».proof.Proof.Gen.Kernel4Ideal.Value
public import proofs.«01_k».proof.Proof.Gen.Reference4Ideal.Run
public import proofs.«01_k».proof.Proof.Gen.Reference4Ideal.Read
public import proofs.«01_k».proof.Proof.Loads
public import proofs.«01_k».proof.Defs
public import Idealize.ShloMosaic.Lib.Pipeline.ReadBack
public import Idealize.ShloMosaic.Adequacy
public import Idealize.ShloMosaic.Init

/-! The gradient of the feed-forward part's first weight matrix: the inputs' transpose times the pre-activations' gradient,
summed over eight blocks of 512 rows, and written as the eight shards of columns that the devices hold. -/

@[expose] public section

set_option maxRecDepth 16384

noncomputable section

namespace Cert.Kernel4Ideal.UpGrad

open Idealize.ShloMosaic Idealize.ShloMosaic.TcCoe Idealize.ShloMosaic.Tactic
open Idealize.SL Idealize.SL.Sem
open Cert.Loads
open Cert.Kernel4Ideal Cert.Kernel4Ideal.Gen

/-- What a block of 512 rows adds to an entry. -/
def gained (x0 : Vec Ideal S512x1024 .bf16) (x1 : Vec Ideal S512x4096 .bf16) (y : S1024x4096.Idx) : EReal :=
  ∑ k, x0 (ix2 k (y 0)) * x1 (ix2 k (y 1))

/-- A tile of 512 columns: what stood there and the block's product. -/
theorem tile_apply (x0 : Vec Ideal S512x1024 .bf16) (old : Vec Ideal S1024x512 .f32) (b : Vec Ideal S512x512 .bf16) (x : S1024x512.Idx) :
    k0_pay13 x0 old b x = old x + ∑ k, x0 (ix2 k (x 0)) * b (ix2 k (x 1)) := by
  obtain ⟨p, q, rfl⟩ : ∃ (p : Fin 1024) (q : Fin 512), x = ix2 p q := ⟨x 0, x 1, eq_ix2 x⟩
  pointwise [k0_pay13, k0_pay12]

/-- The tile whose columns begin at `o`, the right block being those columns of the whole one. -/
theorem tile_at (x0 : Vec Ideal S512x1024 .bf16) (x1 : Vec Ideal S512x4096 .bf16) (old : Vec Ideal S1024x512 .f32) (o : ℕ)
    (i : ∀ a, (![0, o] : Fin 2 → ℕ) a + (![512, 512] : Fin 2 → ℕ) a ≤ S512x4096.size a) (x : S1024x512.Idx) (y : S1024x4096.Idx) (v : EReal)
    (hold : old x = v) (h0 : (y 0).val = (x 0).val) (h1 : (y 1).val = o + (x 1).val) :
    k0_pay13 x0 old (View.ld (Val := Elt Ideal) x1 (Rect.unit (s := S512x4096) ![0, o] ![512, 512] i)) x = v + gained x0 x1 y := by
  rw [tile_apply, hold, gained]
  exact congrArg (v + ·) (Finset.sum_congr rfl fun k _ => congrArg₂ (· * ·) (congrArg x0 (at2 _ _ rfl h0.symm))
    (ld2 x1 0 o i _ (ix2 k (y 1)) (Nat.zero_add _).symm h1))

variable (m : (ℓ : Loc nD τ sig) → Buf (Elt Ideal) ℓ) (c : Dev nD) (t : Fin cfg0.N)

/-- The sums that the point before left. -/
abbrev carried : Vec Ideal S1024x4096 .f32 := (outsAt0 m c (t.val - 1) (Nat.lt_of_le_of_lt (Nat.sub_le _ _) t.isLt)).2

theorem sums_first (h0 : t.val % 8 = 0) (h1 : ¬t.val % 8 = 7) (y : S1024x4096.Idx) :
    (outsAt0 m c t.val t.isLt).2 y = 0 + gained (iblk m c 0 t) (iblk m c 1 t) y := by
  rw [outsAt0_A m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  refine (canon_over y [_] [_, _, _, _, _, _, _, _] (View.cover_of_tiled_head _ _ _ (by rfl) y)).trans ?_
  canon_tiles x h
  all_goals first
    | exact tile_at _ _ _ _ _ x y _ word_zero h0 h1
    | exact tile_at _ _ _ 0 _ x y _ word_zero h0 (h1.trans (Nat.zero_add _).symm)

theorem sums_between (h0 : ¬t.val % 8 = 0) (h1 : ¬t.val % 8 = 7) (y : S1024x4096.Idx) :
    (outsAt0 m c t.val t.isLt).2 y = carried m c t y + gained (iblk m c 0 t) (iblk m c 1 t) y := by
  rw [outsAt0_B m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  all_goals rw [read_unread_whole]
  all_goals first
    | exact tile_at _ _ _ _ _ x y _ (ld2 (carried m c t) 0 _ _ x y (h0.trans (Nat.zero_add _).symm) h1) h0 h1
    | exact tile_at _ _ _ 0 _ x y _
        (ld2 (carried m c t) 0 0 _ x y (h0.trans (Nat.zero_add _).symm) (h1.trans (Nat.zero_add _).symm)) h0 (h1.trans (Nat.zero_add _).symm)

/-- The entry of the matrix that a shard's entry is. -/
abbrev column (y : S8x1024x512.Idx) : S1024x4096.Idx :=
  ix2 (y 1) ⟨(y 0).val * 512 + (y 2).val, by have h0 : (y 0).val < 8 := (y 0).isLt; have h2 : (y 2).val < 512 := (y 2).isLt; omega⟩

theorem column_val (y : S8x1024x512.Idx) (o q : ℕ) (h : o = (y 0).val * 512) (h2 : (y 2).val = q) : (column y 1).val = o + q :=
  congrArg₂ (· + ·) h.symm h2

/-- A shard is a tile, stood up as a stack of one. -/
theorem shard_apply (v : Vec Ideal S1024x512 .f32) (x : S1x1024x512.Idx) : k0_pay4 v x = v (ix2 (x 1) (x 2)) := by
  obtain ⟨s, p, q, rfl⟩ : ∃ (s : Fin 1) (p : Fin 1024) (q : Fin 512), x = ix3 s p q := ⟨x 0, x 1, x 2, eq_ix3 x⟩
  pointwise [k0_pay4]

theorem written_last (h0 : ¬t.val % 8 = 0) (h1 : t.val % 8 = 7) (y : S8x1024x512.Idx) :
    (outsAt0 m c t.val t.isLt).1 y = carried m c t (column y) + gained (iblk m c 0 t) (iblk m c 1 t) (column y) := by
  rw [outsAt0_C m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  all_goals rw [read_unread_whole]
  all_goals exact (shard_apply _ x).trans (tile_at _ _ _ _ _ (ix2 (x 1) (x 2)) (column y) _
    (ld2 (carried m c t) 0 _ _ _ _ (h1.trans (Nat.zero_add _).symm) (column_val y _ _ (by omega) h2)) h1 (column_val y _ _ (by omega) h2))

theorem sums_last (h0 : ¬t.val % 8 = 0) (h1 : t.val % 8 = 7) (y : S1024x4096.Idx) :
    (outsAt0 m c t.val t.isLt).2 y = carried m c t y + gained (iblk m c 0 t) (iblk m c 1 t) y := by
  rw [outsAt0_C m c t h0 h1]
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  all_goals rw [read_unread_whole]
  all_goals first
    | exact tile_at _ _ _ _ _ x y _ (ld2 (carried m c t) 0 _ _ x y (h0.trans (Nat.zero_add _).symm) h1) h0 h1
    | exact tile_at _ _ _ 0 _ x y _
        (ld2 (carried m c t) 0 0 _ x y (h0.trans (Nat.zero_add _).symm) (h1.trans (Nat.zero_add _).symm)) h0 (h1.trans (Nat.zero_add _).symm)

/-- After the last point the sums hold every point's terms. -/
theorem sums_end (ht : t.val + 1 = cfg0.N) (y : S1024x4096.Idx) :
    (outsAt0 m c t.val t.isLt).2 y = 0 + ∑ p : Fin cfg0.N, gained (iblk m c 0 p) (iblk m c 1 p) y := by
  refine Pipeline.eq_sum_fin_of_reset_step_apply_last (fun n h => (outsAt0 m c n h).2) 8 (fun _ => (0 : EReal))
    (fun p y => gained (iblk m c 0 p) (iblk m c 1 p) y) (fun p h0 y => ?_) (fun p h0 y => ?_) (le_of_eq N_0) t ht y
  · exact sums_first m c p h0 (by omega) y
  · by_cases h1 : p.val % 8 = 7
    · exact sums_last m c p h0 h1 y
    · exact sums_between m c p h0 h1 y

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)

/-- The whole gradient: each entry sums over every row. -/
def whole (a : S4096x1024.Idx → EReal) (d : S4096x4096.Idx → EReal) : S1024x4096.Idx → EReal := fun y =>
  ∑ r, a (ix2 r (y 0)) * d (ix2 r (y 1))

/-- The array's row that is row `r` of point `p`'s block. -/
abbrev rowAt (p : Fin cfg0.N) (r : Fin 512) : Fin 4096 := ⟨p.val * 512 + r.val, by have := lt_of_lt_of_eq p.isLt N_0; omega⟩

theorem acts_block (p : Fin cfg0.N) (r : Fin 512) (i : Fin 1024) :
    iblk m c 0 p (ix2 r i) = m ((c : Thread nD τ).loc main_arg0) (ix2 (rowAt p r) i) := by
  blk_ext [iblk, V, index0 p]

theorem grads_block (p : Fin cfg0.N) (r : Fin 512) (i : Fin 4096) :
    iblk m c 1 p (ix2 r i) = m ((c : Thread nD τ).loc main_arg1) (ix2 (rowAt p r) i) := by
  blk_ext [iblk, V, index1 p]

/-- Every point's terms together are every row's. -/
theorem gained_all (y : S1024x4096.Idx) :
    ∑ p : Fin cfg0.N, gained (iblk m c 0 p) (iblk m c 1 p) y
      = whole (m ((c : Thread nD τ).loc main_arg0)) (m ((c : Thread nD τ).loc main_arg1)) y := by
  have hN : cfg0.N * 512 = 4096 := congrArg (· * 512) N_0
  rw [whole, Fin.sum_univ_tiles cfg0.N 512 hN]
  refine Finset.sum_congr rfl fun p _ => ?_
  rw [gained]
  exact Finset.sum_congr rfl fun r _ => congrArg₂ (· * ·) (acts_block m c p r _) (grads_block m c p r _)

theorem index2 : ∀ t : Fin cfg0.N, win0_2.index t = ![0, 0, 0] := (by decide +kernel : ∀ t : Fin grid0.N, _)

/-- The array after the run. -/
theorem final :
    (dats m 0 c).arrAt 2 cfg0.N
      = fun y => whole (m ((c : Thread nD τ).loc main_arg0)) (m ((c : Thread nD τ).loc main_arg1)) (column y) := by
  refine (dats m 0 c).arrAt_eq_of_covers 2 _ (by decide +kernel) fun t hf y => ?_
  have h1 : t.val % 8 = 7 := (flush0_2 t).mp hf
  have hN := lt_of_lt_of_eq t.isLt N_0
  have h0 : ¬t.val % 8 = 0 := by omega
  blk_simp
  rw [after0_2, written_last m c t h0 h1, ← sums_last m c t h0 h1, sums_end m c t (Eq.trans (by omega) N_0.symm), gained_all, zero_add]
  have e : (win0_2.blk t).view.emb y = (y : S8x1024x512.Idx) := by
    blk_ext [index2 t]
  rw [e]

open Cert.Reference4Ideal.Read

/-- The derivative, entry by entry. -/
theorem reference_eq (a : S4096x1024.Idx → EReal) (d : S4096x4096.Idx → EReal) :
    val_main_v8 (F := Ideal) a d = fun y => whole a d (column y) := by
  funext i
  obtain ⟨s, p, q, rfl⟩ : ∃ (s : Fin 8) (p : Fin 1024) (q : Fin 512), i = ix3 s p q := ⟨i 0, i 1, i 2, eq_ix3 i⟩
  have hs := s.isLt
  have hp := p.isLt
  have hq := q.isLt
  have et : idx_main_v5 (idx_main_v6 (idx_main_v7 (ix3 s p q))) = ix2 ⟨s.val * 512 + q.val, by omega⟩ p :=
    at2 _ _ (show ((p.val * 8 + s.val) * 512 + q.val) % 4096 = s.val * 512 + q.val by omega)
      (show ((p.val * 8 + s.val) * 512 + q.val) / 4096 = p.val by omega)
  have el : ∀ j k, lidx_main_v4 (ix2 j p) k = ix2 k j := fun j k => at2 _ _ rfl rfl
  have er : ∀ j k, ridx_main_v4 (ix2 j p) k = ix2 k p := fun j k => at2 _ _ rfl rfl
  rw [val_main_v8_apply, val_main_v7_apply, val_main_v6_apply, val_main_v5_apply, et, val_main_v4_apply]
  simp only [el, er, val_main_v3_apply, val_main_v0_apply]
  exact Finset.sum_congr rfl fun k _ => mul_comm _ _

/-- The reference runs, its arguments end as they were, and it has no semaphore that could be left raised. -/
theorem reference_frame : @Cert.quiescent_Reference4Ideal Cert.Reference4Ideal.Gen.facts := fun m ρ _ =>
  (θ_run Cert.Reference4Ideal.defs _ _).mono
    (fun r h => ⟨fun c => (h c).2, sem_eq_zero_of_no_sems (by decide) r.2⟩)
    (Cert.Reference4Ideal.Value.run (F := Ideal) m ρ)

/-- The kernel and the derivative end with the same array. -/
theorem equal : @Cert.algebraic_Kernel4Ideal_Reference4Ideal Cert.Kernel4Ideal.Gen.facts Cert.Reference4Ideal.Gen.facts := by
  intro m g m' g' _ hargs
  refine ⟨fun c => (dats m 0 c).arrAt 2 cfg0.N, Cert.Kernel4Ideal.Value.run_blocks m g, ?_⟩
  refine (θ_run _ _ _).mono (fun r h c => ?_) (Cert.Reference4Ideal.Value.run m' g')
  obtain ⟨hd, hrest⟩ := h c
  obtain ⟨e0, e1⟩ := hargs c
  refine ⟨hd.trans ?_, hrest⟩
  rw [val_main_v8_eq, e0, e1]
  exact (reference_eq _ _).trans (final m c).symm

end Cert.Kernel4Ideal.UpGrad

end
-- ==== Proof.Norm.lean ====
module

public import Idealize.ShloMosaic.Lib.Pipeline.ValueKit
public import Idealize.ShloMosaic.Lib.Pointwise
public import Idealize.ShloMosaic.Lib.Pipeline.Value
public import proofs.«01_k».proof.Proof.Extended

/-! The root-mean-square norm of a row of 1024 numbers, and the derivative of a product with it, over the extended reals. -/

@[expose] public section

noncomputable section

namespace Cert.Norm

open Idealize.ShloMosaic

/-- The row's length, as the programs write it. -/
abbrev len : EReal := Ideal.ofBits .f32 0x44800000#32
/-- What is added to the mean square. -/
abbrev eps : EReal := Ideal.ofBits .f32 0x358637BD#32
/-- Minus one half. -/
abbrev minusHalf : EReal := Ideal.ofBits .f32 0xBF000000#32

theorem len_eq : len = ((1024 : ℝ) : EReal) := by
  simp [len, Ideal.ofBits, Ideal.ieee, -EReal.coe_mul]
  norm_num

theorem minusHalf_eq : minusHalf = ((-(1 / 2) : ℝ) : EReal) := by
  simp [minusHalf, Ideal.ofBits, Ideal.ieee, -EReal.coe_mul]
  norm_num

theorem eps_pos : ∃ e : ℝ, 0 < e ∧ eps = (e : EReal) := by
  refine ⟨8796093 * 2 ^ (-43 : ℤ), by positivity, ?_⟩
  simp [eps, Ideal.ofBits, Ideal.ieee, -EReal.coe_mul]

/-- The mean square of a row. -/
def meanSq (y : Fin 1024 → EReal) : EReal := Ideal.div (∑ k, y k * y k) len + eps

/-- One over the root of the mean square. -/
def root (y : Fin 1024 → EReal) : EReal := Ideal.rsqrt (meanSq y)

/-- The norm's derivative as the kernel writes it: `z` is the gradient of the normed row. -/
def back (y z : Fin 1024 → EReal) (j : Fin 1024) : EReal :=
  root y * (z j - y j * root y * Ideal.div (∑ k, (y k * root y) * z k) len)

/-- What the derivative of the mean square brings to each entry, twice. -/
def pull (y z : Fin 1024 → EReal) : EReal :=
  Ideal.div ((∑ k, y k * z k) * (minusHalf * Ideal.div (root y) (meanSq y))) len

theorem sq_nonneg (a : EReal) : 0 ≤ a * a := by
  rcases le_total 0 a with h | h
  · exact mul_nonneg h h
  · rw [← neg_mul_neg]
    exact mul_nonneg (EReal.neg_nonneg.mpr h) (EReal.neg_nonneg.mpr h)

/-- The mean square is infinite or a positive real number. -/
theorem meanSq_cases (y : Fin 1024 → EReal) : meanSq y = ⊤ ∨ ∃ a : ℝ, 0 < a ∧ meanSq y = (a : EReal) := by
  obtain ⟨e, he, ee⟩ := eps_pos
  have hs : 0 ≤ ∑ k, y k * y k := Finset.sum_nonneg fun k _ => sq_nonneg _
  rw [meanSq, len_eq, Ideal.div_coe (by norm_num : (1024 : ℝ) ≠ 0), ee]
  generalize ∑ k, y k * y k = s at hs
  induction s using EReal.rec with
  | bot => exact absurd hs (by simp)
  | top =>
    left
    rw [EReal.top_mul_coe_of_pos (by norm_num)]
    exact EReal.top_add_coe _
  | coe s =>
    right
    have hs' : 0 ≤ s := EReal.coe_nonneg.mp hs
    exact ⟨s * (1 / 1024) + e, by positivity, by push_cast; rfl⟩

/-- The derivative as the kernel writes it and as the chain rule gives it. -/
theorem back_eq (y z : Fin 1024 → EReal) (j : Fin 1024) : back y z j = (z j * root y + y j * pull y z) + pull y z * y j := by
  rcases meanSq_cases y with h | ⟨a, ha, h⟩
  · have hr : root y = 0 := by rw [root, h]; rfl
    rw [back, pull, hr, h, len_eq]
    simp [Ideal.div]
  · have hr : root y = (((Real.sqrt a)⁻¹ : ℝ) : EReal) := by
      rw [root, h, Ideal.rsqrt_coe, if_neg (not_lt.mpr ha.le), if_neg ha.ne']
    have hq := Real.sqrt_pos.mpr ha
    obtain ⟨q, eq⟩ : ∃ q, q = (Real.sqrt a)⁻¹ := ⟨_, rfl⟩
    have hq : 0 < q := eq ▸ inv_pos.mpr hq
    have hqa : q * q * a = 1 := by
      rw [eq, ← mul_inv, Real.mul_self_sqrt ha.le, inv_mul_cancel₀ ha.ne']
    rw [← eq] at hr
    have hs : ∑ k, y k * root y * z k = (∑ k, y k * z k) * (q : EReal) := by
      rw [hr, KernelIdeal.Extended.sum_mul _ _ _ (EReal.coe_nonneg.mpr hq.le) (EReal.coe_ne_top _)]
      exact Finset.sum_congr rfl fun k _ => mul_right_comm _ _ _
    rw [back, pull, hs, hr, h, len_eq, minusHalf_eq, Ideal.div_coe (by norm_num : (1024 : ℝ) ≠ 0),
      Ideal.div_coe (by norm_num : (1024 : ℝ) ≠ 0), Ideal.div_coe ha.ne']
    generalize ∑ k, y k * z k = T
    generalize y j = Y
    generalize z j = Z
    obtain ⟨c, ec⟩ : ∃ c : ℝ, c = q * q * q / 2048 := ⟨_, rfl⟩
    have hc : 0 ≤ c := by rw [ec]; positivity
    have e1 : (T * (((-(1 / 2) : ℝ) : EReal) * ((q : EReal) * ((1 / a : ℝ) : EReal)))) * ((1 / 1024 : ℝ) : EReal) = -T * (c : EReal) := by
      rw [← EReal.coe_mul, ← EReal.coe_mul, mul_assoc, ← EReal.coe_mul, neg_mul_comm T (c : EReal), ← EReal.coe_neg]
      refine congrArg (fun u : ℝ => T * (u : EReal)) ?_
      have : q * (1 / a) = q * q * q := by
        rw [mul_one_div, div_eq_iff ha.ne']
        linear_combination -q * hqa
      rw [ec, this]
      ring
    have e2 : (q : EReal) * -(Y * (q : EReal) * (T * (q : EReal) * ((1 / 1024 : ℝ) : EReal))) = (-T * Y) * ((c + c : ℝ) : EReal) := by
      rw [show c + c = q * (q * (q * (1 / 1024))) by rw [ec]; ring]
      push_cast
      rw [mul_neg, neg_mul, neg_mul]
      refine congrArg (- ·) ?_
      simp only [mul_assoc, mul_left_comm, mul_comm]
    rw [e1, sub_eq_add_neg, EReal.left_distrib_of_nonneg_of_ne_top (EReal.coe_nonneg.mpr hq.le) (EReal.coe_ne_top _), e2, EReal.coe_add,
      EReal.left_distrib_of_nonneg (EReal.coe_nonneg.mpr hc) (EReal.coe_nonneg.mpr hc), mul_comm (q : EReal) Z, ← add_assoc,
      mul_right_comm (-T) Y, mul_comm Y (-T * (c : EReal))]

/-- A matrix whose rows are normed. -/
abbrev Mat (n : ℕ) := (⟨2, ![n, 1024]⟩ : Shape).Idx → EReal

/-- A row of a matrix. -/
def row {n : ℕ} (y : Mat n) (i : Fin n) : Fin 1024 → EReal := fun k => y (ix2 i k)

/-- The gradient `d` of the scaled norm carried back to the normed matrix. -/
def into {n : ℕ} (d y : Mat n) (g : Mat 1) (i : Fin n) (j : Fin 1024) : EReal := back (row y i) (fun k => d (ix2 i k) * g (ix2 0 k)) j

/-- What a row adds to the scale's gradient. -/
def gain {n : ℕ} (d y : Mat n) (i : Fin n) (j : Fin 1024) : EReal := d (ix2 i j) * (y (ix2 i j) * root (row y i))

variable {n n' : ℕ} {d y : Mat n} {d' y' : Mat n'} {i : Fin n} {i' : Fin n'}

theorem into_congr (hd : ∀ k, d (ix2 i k) = d' (ix2 i' k)) (hy : ∀ k, y (ix2 i k) = y' (ix2 i' k)) (g : Mat 1) (j : Fin 1024) :
    into d y g i j = into d' y' g i' j := by
  simp only [into, hd, show row y i = row y' i' from funext hy]

theorem gain_congr (hd : ∀ k, d (ix2 i k) = d' (ix2 i' k)) (hy : ∀ k, y (ix2 i k) = y' (ix2 i' k)) (j : Fin 1024) :
    gain d y i j = gain d' y' i' j := by
  simp only [gain, hd, hy, show row y i = row y' i' from funext hy]

end Cert.Norm

end
-- ==== Proof.UpBackRef.lean ====
module

public import proofs.«01_k».proof.Proof.Gen.Reference5Ideal.Read
public import proofs.«01_k».proof.Proof.Loads
public import proofs.«01_k».proof.Proof.Norm

/-! The derivative of the feed-forward part's first product and pre-norm, and of the cross-attention's post-norm, entry by entry. -/

@[expose] public section

set_option maxRecDepth 16384

noncomputable section

namespace Cert.Reference5Ideal.UpBack

open Idealize.ShloMosaic Idealize.ShloMosaic.TcCoe Idealize.ShloMosaic.Tactic
open Cert.Loads Cert.Norm
open Cert.Reference5Ideal Cert.Reference5Ideal.Read

/-- The gradient times the weights, the sum over the weights' columns taken shard by shard. -/
def product {n : ℕ} (a : (⟨2, ![n, 4096]⟩ : Shape).Idx → EReal) (w : (⟨3, ![8, 1024, 512]⟩ : Shape).Idx → EReal) : Mat n := fun i =>
  ∑ s : Fin 8, ∑ k : Fin 512, a (ix2 (i 0) ⟨s.val * 512 + k.val, by have := s.isLt; omega⟩) * w (ix3 s (i 1) k)

/-- What the feed-forward part's gradient and the residual's come to before the pre-norm. -/
def before {n : ℕ} (d y : Mat n) (g : Mat 1) (r : Mat n) : Mat n := fun i => into d y g (i 0) (i 1) + r i

variable (x0 : S4096x4096.Idx → EReal) (x1 : S8x1024x512.Idx → EReal) (x2 : Mat 4096) (x3 : Mat 1) (x4 x5 : Mat 4096) (x6 : Mat 1)

theorem product_eq : val_main_v20 (F := Ideal) x0 x1 = product x0 x1 := by
  funext i
  obtain ⟨p, q, rfl⟩ : ∃ (p : Fin 4096) (q : Fin 1024), i = ix2 p q := ⟨i 0, i 1, eq_ix2 i⟩
  have hN : 8 * 512 = 4096 := rfl
  rw [val_main_v20_apply, product, Fin.sum_univ_tiles 8 512 hN]
  refine Finset.sum_congr rfl fun s _ => Finset.sum_congr rfl fun k _ => ?_
  have hs := s.isLt
  have hk := k.isLt
  have hq := q.isLt
  rw [val_main_v19_apply, val_main_v2_apply, val_main_v1_apply, val_main_v0_apply]
  refine congrArg₂ (· * ·) (congrArg x0 (at2 _ _ rfl rfl)) (congrArg x1 (at3 _ _ ?_ ?_ ?_))
  · show (q.val * 4096 + (s.val * 512 + k.val)) / 512 % 8 = s.val
    omega
  · show (q.val * 4096 + (s.val * 512 + k.val)) / 4096 = q.val
    omega
  · show (q.val * 4096 + (s.val * 512 + k.val)) % 512 = k.val
    omega

theorem meanSq_eq (p : Fin 4096) (z : Fin 1) : val_main_v9 (F := Ideal) x2 (ix2 p z) = meanSq (row x2 p) := by
  have e : ∀ k, idx_main_v4 (idx_main_v5 (ix2 p z)) k = ix2 p k := fun k => at2 _ _ rfl rfl
  rw [val_main_v9_apply, val_main_v7_apply, val_main_v5_apply, val_main_v4_apply, val_main_v8_apply, val_main_v6_apply]
  simp only [e, val_main_v3_apply, val_main_cst_apply, val_main_cst_0_apply, val_main_cst_1_apply]
  pointwise [meanSq, row]

theorem root_eq (p : Fin 4096) (z : Fin 1) : val_main_v10 (F := Ideal) x2 (ix2 p z) = root (row x2 p) := by
  rw [val_main_v10_apply, meanSq_eq]
  rfl

theorem pull_eq (p : Fin 4096) (q : Fin 1024) : val_main_v35 (F := Ideal) x0 x1 x2 x3 (ix2 p q)
    = pull (row x2 p) (fun k => product x0 x1 (ix2 p k) * x3 (ix2 0 k)) := by
  have e1 : idx_main_v34 (idx_main_v35 (ix2 p q)) 0 = ix2 p 0 := at2 _ _ rfl rfl
  have e : ∀ k, idx_main_v27 (idx_main_v28 (ix2 p 0)) k = ix2 p k := fun k => at2 _ _ (show p.val * 1 + 0 = p.val by omega) rfl
  have eg : ∀ k, idx_main_v24 (ix2 p k) = ix2 0 k := fun k => at2 _ _ rfl rfl
  have ev : ∀ k, val_main_v26 (F := Ideal) x0 x1 x2 x3 (ix2 p k) = row x2 p k * (product x0 x1 (ix2 p k) * x3 (ix2 0 k)) := fun k => by
    rw [val_main_v26_apply, val_main_v25_apply, val_main_v24_apply, eg, product_eq]
    rfl
  rw [val_main_v35_apply, val_main_v34_apply, Fin.sum_univ_one, e1, val_main_v33_apply, val_main_v31_apply, val_main_v28_apply,
    val_main_v27_apply, val_main_v32_apply, val_main_v13_apply, val_main_v12_apply, val_main_v11_apply, root_eq, meanSq_eq]
  simp only [e, ev, val_main_cst_2_apply, val_main_cst_4_apply, val_main_cst_5_apply, val_main_cst_6_apply]
  pointwise [pull]

/-- The first result: the residual's gradient and the pre-norm's. -/
theorem before_eq : val_main_v40 (F := Ideal) x0 x1 x2 x3 x4 = before (product x0 x1) x2 x3 x4 := by
  funext i
  obtain ⟨p, q, rfl⟩ : ∃ (p : Fin 4096) (q : Fin 1024), i = ix2 p q := ⟨i 0, i 1, eq_ix2 i⟩
  have eg : idx_main_v24 (ix2 p q) = ix2 0 q := at2 _ _ rfl rfl
  have er : idx_main_v29 (ix2 p q) = ix2 p 0 := at2 _ _ rfl rfl
  rw [val_main_v40_apply, val_main_v39_apply, val_main_v38_apply, val_main_v37_apply, val_main_v36_apply, val_main_v30_apply,
    val_main_v25_apply, val_main_v24_apply, val_main_v29_apply, eg, er, root_eq, pull_eq, product_eq]
  exact (congrArg (x4 (ix2 p q) + ·) (back_eq (row x2 p) (fun k => product x0 x1 (ix2 p k) * x3 (ix2 0 k)) q).symm).trans (add_comm _ _)

/-- The second: the pre-norm's scale's gradient. -/
theorem scale_eq (z : Fin 1) (q : Fin 1024) : val_main_v23 (F := Ideal) x0 x1 x2 (ix2 z q) = ∑ r, gain (product x0 x1) x2 r q := by
  have e : ∀ k, idx_main_v22 (idx_main_v23 (ix2 z q)) k = ix2 k q := fun k =>
    at2 _ _ rfl (show z.val * 1024 + q.val = q.val by omega)
  have er : ∀ k, idx_main_v14 (ix2 k q) = ix2 k 0 := fun k => at2 _ _ rfl rfl
  rw [val_main_v23_apply, val_main_v22_apply]
  refine (congrArg₂ (· + ·) word_zero (Finset.sum_congr rfl fun k _ => ?_)).trans (zero_add _)
  rw [e, val_main_v21_apply, val_main_v15_apply, val_main_v14_apply, er, root_eq, product_eq, gain]
  exact mul_comm _ _

/-- The rows of the cross-attention's result: their mean squares and roots. -/
theorem post_meanSq_eq (p : Fin 4096) (z : Fin 1) : val_main_v47 (F := Ideal) x5 (ix2 p z) = meanSq (row x5 p) := by
  have e : ∀ k, idx_main_v42 (idx_main_v43 (ix2 p z)) k = ix2 p k := fun k => at2 _ _ rfl rfl
  rw [val_main_v47_apply, val_main_v45_apply, val_main_v43_apply, val_main_v42_apply, val_main_v46_apply, val_main_v44_apply]
  simp only [e, val_main_v41_apply, val_main_cst_7_apply, val_main_cst_8_apply, val_main_cst_9_apply]
  pointwise [meanSq, row]

theorem post_root_eq (p : Fin 4096) (z : Fin 1) : val_main_v48 (F := Ideal) x5 (ix2 p z) = root (row x5 p) := by
  rw [val_main_v48_apply, post_meanSq_eq]
  rfl

theorem post_pull_eq (p : Fin 4096) (q : Fin 1024) : val_main_v70 (F := Ideal) x0 x1 x2 x3 x4 x5 x6 (ix2 p q)
    = pull (row x5 p) (fun k => before (product x0 x1) x2 x3 x4 (ix2 p k) * x6 (ix2 0 k)) := by
  have e1 : idx_main_v69 (idx_main_v70 (ix2 p q)) 0 = ix2 p 0 := at2 _ _ rfl rfl
  have e : ∀ k, idx_main_v62 (idx_main_v63 (ix2 p 0)) k = ix2 p k := fun k => at2 _ _ (show p.val * 1 + 0 = p.val by omega) rfl
  have eg : ∀ k, idx_main_v59 (ix2 p k) = ix2 0 k := fun k => at2 _ _ rfl rfl
  have ev : ∀ k, val_main_v61 (F := Ideal) x0 x1 x2 x3 x4 x5 x6 (ix2 p k)
      = row x5 p k * (before (product x0 x1) x2 x3 x4 (ix2 p k) * x6 (ix2 0 k)) := fun k => by
    rw [val_main_v61_apply, val_main_v60_apply, val_main_v59_apply, eg, before_eq]
    rfl
  rw [val_main_v70_apply, val_main_v69_apply, Fin.sum_univ_one, e1, val_main_v68_apply, val_main_v66_apply, val_main_v63_apply,
    val_main_v62_apply, val_main_v67_apply, val_main_v51_apply, val_main_v50_apply, val_main_v49_apply, post_root_eq, post_meanSq_eq]
  simp only [e, ev, val_main_cst_10_apply, val_main_cst_12_apply, val_main_cst_13_apply, val_main_cst_14_apply]
  pointwise [pull]

/-- The third result: the gradient carried back through the post-norm. -/
theorem post_eq (p : Fin 4096) (q : Fin 1024) : val_main_v75 (F := Ideal) x0 x1 x2 x3 x4 x5 x6 (ix2 p q)
    = into (before (product x0 x1) x2 x3 x4) x5 x6 p q := by
  have eg : idx_main_v59 (ix2 p q) = ix2 0 q := at2 _ _ rfl rfl
  have er : idx_main_v64 (ix2 p q) = ix2 p 0 := at2 _ _ rfl rfl
  rw [val_main_v75_apply, val_main_v74_apply, val_main_v73_apply, val_main_v72_apply, val_main_v71_apply, val_main_v65_apply,
    val_main_v60_apply, val_main_v59_apply, val_main_v64_apply, eg, er, post_root_eq, post_pull_eq, before_eq]
  exact (back_eq (row x5 p) (fun k => before (product x0 x1) x2 x3 x4 (ix2 p k) * x6 (ix2 0 k)) q).symm

/-- The fourth: the post-norm's scale's gradient. -/
theorem post_scale_eq (z : Fin 1) (q : Fin 1024) : val_main_v58 (F := Ideal) x0 x1 x2 x3 x4 x5 (ix2 z q)
    = ∑ r, gain (before (product x0 x1) x2 x3 x4) x5 r q := by
  have e : ∀ k, idx_main_v57 (idx_main_v58 (ix2 z q)) k = ix2 k q := fun k =>
    at2 _ _ rfl (show z.val * 1024 + q.val = q.val by omega)
  have er : ∀ k, idx_main_v52 (ix2 k q) = ix2 k 0 := fun k => at2 _ _ rfl rfl
  rw [val_main_v58_apply, val_main_v57_apply]
  refine (congrArg₂ (· + ·) word_zero (Finset.sum_congr rfl fun k _ => ?_)).trans (zero_add _)
  rw [e, val_main_v56_apply, val_main_v53_apply, val_main_v52_apply, er, post_root_eq, before_eq, gain]
  exact mul_comm _ _

end Cert.Reference5Ideal.UpBack

end
-- ==== Proof.UpBack.lean ====
module

public import proofs.«01_k».proof.Proof.Gen.Kernel5Ideal.Value
public import proofs.«01_k».proof.Proof.Gen.Reference5Ideal.Run
public import proofs.«01_k».proof.Proof.Gen.Reference5Ideal.Read
public import proofs.«01_k».proof.Proof.Loads
public import proofs.«01_k».proof.Proof.Norm
public import proofs.«01_k».proof.Proof.UpBackRef
public import proofs.«01_k».proof.Defs
public import Idealize.ShloMosaic.Lib.Pipeline.ReadBack
public import Idealize.ShloMosaic.Adequacy
public import Idealize.ShloMosaic.Init

/-! The gradient through the feed-forward part's first product and pre-norm, and on through the cross-attention's post-norm. -/

@[expose] public section

set_option maxRecDepth 16384

noncomputable section

namespace Cert.Kernel5Ideal.UpBack

open Idealize.ShloMosaic Idealize.ShloMosaic.TcCoe Idealize.ShloMosaic.Tactic
open Idealize.SL Idealize.SL.Sem
open Cert.Loads
open Cert.Kernel5Ideal Cert.Kernel5Ideal.Gen

open Cert.Norm
open Cert.Reference5Ideal.UpBack (product before)

theorem part_apply (v0 v4 v9 v14 v19 v24 v29 v34 : Vec Ideal S512x512 .bf16) (v1 v5 v10 v15 v20 v25 v30 v35 : Vec Ideal S1x1024x512 .bf16)
    (p : Fin 512) (q : Fin 1024) :
    k0_pay4 (k0_pay3 v0 v1 v4 v5 v9 v10 v14 v15 v19 v20) v24 v25 v29 v30 v34 v35 (ix2 p q)
      = (∑ k, v0 (ix2 p k) * v1 (ix3 0 q k)) + (∑ k, v4 (ix2 p k) * v5 (ix3 0 q k)) + (∑ k, v9 (ix2 p k) * v10 (ix3 0 q k))
        + (∑ k, v14 (ix2 p k) * v15 (ix3 0 q k)) + (∑ k, v19 (ix2 p k) * v20 (ix3 0 q k)) + (∑ k, v24 (ix2 p k) * v25 (ix3 0 q k))
        + (∑ k, v29 (ix2 p k) * v30 (ix3 0 q k)) + (∑ k, v34 (ix2 p k) * v35 (ix3 0 q k)) := by
  pointwise [k0_pay4, k0_pay3]

theorem part_sum (a : Vec Ideal S512x4096 .bf16) (w : Vec Ideal S8x1024x512 .bf16) (o : ℕ) (s : Fin 8) (h : o = s.val * 512)
    (i : ∀ b, (![0, o] : Fin 2 → ℕ) b + (![512, 512] : Fin 2 → ℕ) b ≤ S512x4096.size b)
    (j : ∀ b, (![s.val, 0, 0] : Fin 3 → ℕ) b + (![1, 1024, 512] : Fin 3 → ℕ) b ≤ S8x1024x512.size b) (p : Fin 512) (q : Fin 1024) :
    ∑ k, View.ld (Val := Elt Ideal) a (Rect.unit (s := S512x4096) ![0, o] ![512, 512] i) (ix2 p k)
        * View.ld (Val := Elt Ideal) w (Rect.unit (s := S8x1024x512) ![s.val, 0, 0] ![1, 1024, 512] j) (ix3 0 q k)
      = ∑ k : Fin 512, a (ix2 p ⟨s.val * 512 + k.val, by have := s.isLt; omega⟩) * w (ix3 s q k) :=
  Finset.sum_congr rfl fun k _ => congrArg₂ (· * ·)
    (ld2 a 0 o i _ _ (Nat.zero_add _).symm (congrArg (· + k.val) h.symm))
    (ld3 w s.val 0 0 j _ _ rfl (Nat.zero_add _).symm (Nat.zero_add _).symm)

theorem product_eq (a : Vec Ideal S512x4096 .bf16) (w : Vec Ideal S8x1024x512 .bf16) (i0 i1 i2 i3 i4 i5 i6 i7 j0 j1 j2 j3 j4 j5 j6 j7) :
    k0_pay4 (F := Ideal) (k0_pay3
        (View.ld (Val := Elt Ideal) a (Rect.unit (s := S512x4096) ![0, 0] ![512, 512] i0))
        (View.ld (Val := Elt Ideal) w (Rect.unit (s := S8x1024x512) ![0, 0, 0] ![1, 1024, 512] j0))
        (View.ld (Val := Elt Ideal) a (Rect.unit (s := S512x4096) ![0, 512] ![512, 512] i1))
        (View.ld (Val := Elt Ideal) w (Rect.unit (s := S8x1024x512) ![1, 0, 0] ![1, 1024, 512] j1))
        (View.ld (Val := Elt Ideal) a (Rect.unit (s := S512x4096) ![0, 1024] ![512, 512] i2))
        (View.ld (Val := Elt Ideal) w (Rect.unit (s := S8x1024x512) ![2, 0, 0] ![1, 1024, 512] j2))
        (View.ld (Val := Elt Ideal) a (Rect.unit (s := S512x4096) ![0, 1536] ![512, 512] i3))
        (View.ld (Val := Elt Ideal) w (Rect.unit (s := S8x1024x512) ![3, 0, 0] ![1, 1024, 512] j3))
        (View.ld (Val := Elt Ideal) a (Rect.unit (s := S512x4096) ![0, 2048] ![512, 512] i4))
        (View.ld (Val := Elt Ideal) w (Rect.unit (s := S8x1024x512) ![4, 0, 0] ![1, 1024, 512] j4)))
      (View.ld (Val := Elt Ideal) a (Rect.unit (s := S512x4096) ![0, 2560] ![512, 512] i5))
      (View.ld (Val := Elt Ideal) w (Rect.unit (s := S8x1024x512) ![5, 0, 0] ![1, 1024, 512] j5))
      (View.ld (Val := Elt Ideal) a (Rect.unit (s := S512x4096) ![0, 3072] ![512, 512] i6))
      (View.ld (Val := Elt Ideal) w (Rect.unit (s := S8x1024x512) ![6, 0, 0] ![1, 1024, 512] j6))
      (View.ld (Val := Elt Ideal) a (Rect.unit (s := S512x4096) ![0, 3584] ![512, 512] i7))
      (View.ld (Val := Elt Ideal) w (Rect.unit (s := S8x1024x512) ![7, 0, 0] ![1, 1024, 512] j7)) = product a w := by
  funext i
  obtain ⟨p, q, rfl⟩ : ∃ (p : Fin 512) (q : Fin 1024), i = ix2 p q := ⟨i 0, i 1, eq_ix2 i⟩
  rw [part_apply, product, Fin.sum_univ_eight]
  exact congrArg₂ (· + ·) (congrArg₂ (· + ·) (congrArg₂ (· + ·) (congrArg₂ (· + ·) (congrArg₂ (· + ·) (congrArg₂ (· + ·) (congrArg₂ (· + ·)
    (part_sum a w 0 0 rfl i0 j0 p q) (part_sum a w 512 1 rfl i1 j1 p q)) (part_sum a w 1024 2 rfl i2 j2 p q))
    (part_sum a w 1536 3 rfl i3 j3 p q)) (part_sum a w 2048 4 rfl i4 j4 p q)) (part_sum a w 2560 5 rfl i5 j5 p q))
    (part_sum a w 3072 6 rfl i6 j6 p q)) (part_sum a w 3584 7 rfl i7 j7 p q)

/-- The pre-norm's rows: the gradient carried back, and the residual's added. -/
theorem dx_apply (v23 : FVec Ideal S512x1024 .f32) (v24 v29 v34 : Vec Ideal S512x512 .bf16) (v25 v30 v35 : Vec Ideal S1x1024x512 .bf16)
    (y : Vec Ideal S512x1024 .f32) (g : Vec Ideal S1x1024 .f32) (r : Vec Ideal S512x1024 .f32) (p : Fin 512) (q : Fin 1024) :
    k0_pay9 (k0_pay7 v23 v24 v25 v29 v30 v34 v35 y g) (k0_pay8 y) r (ix2 p q)
      = into (k0_pay4 v23 v24 v25 v29 v30 v34 v35) y g p q + r (ix2 p q) := by
  pointwise [k0_pay9, k0_pay7, k0_pay8, k0_pay6, k0_pay5, into, back, row, root, meanSq]

/-- The scale's gradient, one block further. -/
theorem dg_apply (d : FVec Ideal S512x1024 .f32) (y : Vec Ideal S512x1024 .f32) (old : Vec Ideal S1x1024 .f32) (q : Fin 1024) :
    k0_pay12 d (k0_pay6 y) old (ix2 0 q) = old (ix2 0 q) + ∑ p, gain d y p q := by
  pointwise [k0_pay12, k0_pay6, k0_pay5, gain, row, root, meanSq]

/-- The post-norm's rows. -/
theorem dxo_apply (v60 v61 : FVec Ideal S512x1024 .f32) (r y : Vec Ideal S512x1024 .f32) (g : Vec Ideal S1x1024 .f32) (p : Fin 512) (q : Fin 1024) :
    k0_pay1 (k0_pay15 v60 v61 r y g) (k0_pay16 y) (ix2 p q) = into (k0_pay9 v60 v61 r) y g p q := by
  pointwise [k0_pay1, k0_pay15, k0_pay16, k0_pay14, k0_pay13, into, back, row, root, meanSq]

/-- The post-norm's scale's gradient, one block further. -/
theorem dgo_apply (d : FVec Ideal S512x1024 .f32) (y : Vec Ideal S512x1024 .f32) (old : Vec Ideal S1x1024 .f32) (q : Fin 1024) :
    k0_pay2 d (k0_pay14 y) old (ix2 0 q) = old (ix2 0 q) + ∑ p, gain d y p q := by
  pointwise [k0_pay2, k0_pay14, k0_pay13, gain, row, root, meanSq]

variable (m : (ℓ : Loc nD τ sig) → Buf (Elt Ideal) ℓ) (c : Dev nD) (t : Fin cfg0.N)

/-- The block's product with the weights, and what stands before the pre-norm. -/
abbrev blockD : Mat 512 := product (iblk m c 0 t) (iblk m c 1 t)
abbrev blockX : Mat 512 := before (blockD m c t) (iblk m c 2 t) (iblk m c 3 t) (iblk m c 4 t)

theorem before_point (p : Fin 512) (q : Fin 1024) : (outsAt0 m c t.val t.isLt).1 (ix2 p q) = blockX m c t (ix2 p q) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine (dx_apply ..).trans ?_
    rw [product_eq]
    rfl

theorem post_point (p : Fin 512) (q : Fin 1024) :
    (outsAt0 m c t.val t.isLt).2.2.1 (ix2 p q) = into (blockX m c t) (iblk m c 5 t) (iblk m c 6 t) p q := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine (dxo_apply ..).trans (into_congr (fun k => ?_) (fun _ => rfl) _ _)
    refine (dx_apply ..).trans ?_
    rw [product_eq]
    rfl

theorem scale_first (h0 : t.val % 8 = 0) (q : Fin 1024) :
    (outsAt0 m c t.val t.isLt).2.1 (ix2 0 q) = 0 + ∑ r, gain (blockD m c t) (iblk m c 2 t) r q := by
  rw [outsAt0_A m c t h0]
  frame_open
  simp (disch := decide) only [↓ View.readCov_skip, ↓ View.readCov_cons_toLoadRect, ↓ View.readCov_fill]
  frame_out
  rw [product_eq]
  exact (dg_apply ..).trans (congrArg (· + _) word_zero)

theorem scale_next (h0 : ¬t.val % 8 = 0) (q : Fin 1024) :
    (outsAt0 m c t.val t.isLt).2.1 (ix2 0 q)
      = (outsAt0 m c (t.val - 1) (Nat.lt_of_le_of_lt (Nat.sub_le _ _) t.isLt)).2.1 (ix2 0 q) + ∑ r, gain (blockD m c t) (iblk m c 2 t) r q := by
  rw [outsAt0_B m c t h0]
  frame_open
  simp (disch := decide) only [↓ View.readCov_skip, ↓ View.readCov_cons_toLoadRect, ↓ View.readCov_fill]
  frame_out
  rw [product_eq]
  exact dg_apply ..

theorem post_scale_first (h0 : t.val % 8 = 0) (q : Fin 1024) :
    (outsAt0 m c t.val t.isLt).2.2.2 (ix2 0 q) = 0 + ∑ r, gain (blockX m c t) (iblk m c 5 t) r q := by
  rw [outsAt0_A m c t h0]
  frame_open
  simp (disch := decide) only [↓ View.readCov_skip, ↓ View.readCov_cons_toLoadRect, ↓ View.readCov_fill]
  frame_out
  refine (dgo_apply ..).trans (congrArg₂ (· + ·) word_zero (Finset.sum_congr rfl fun r _ => gain_congr (fun k => ?_) (fun _ => rfl) _))
  refine (dx_apply ..).trans ?_
  rw [product_eq]
  rfl

theorem post_scale_next (h0 : ¬t.val % 8 = 0) (q : Fin 1024) :
    (outsAt0 m c t.val t.isLt).2.2.2 (ix2 0 q)
      = (outsAt0 m c (t.val - 1) (Nat.lt_of_le_of_lt (Nat.sub_le _ _) t.isLt)).2.2.2 (ix2 0 q) + ∑ r, gain (blockX m c t) (iblk m c 5 t) r q := by
  rw [outsAt0_B m c t h0]
  frame_open
  simp (disch := decide) only [↓ View.readCov_skip, ↓ View.readCov_cons_toLoadRect, ↓ View.readCov_fill]
  frame_out
  refine (dgo_apply ..).trans (congrArg (_ + ·) (Finset.sum_congr rfl fun r _ => gain_congr (fun k => ?_) (fun _ => rfl) _))
  refine (dx_apply ..).trans ?_
  rw [product_eq]
  rfl

/-- After the last point the two scales' gradients hold every point's terms. -/
theorem scale_end (ht : t.val + 1 = cfg0.N) (q : Fin 1024) :
    (outsAt0 m c t.val t.isLt).2.1 (ix2 0 q) = 0 + ∑ p : Fin cfg0.N, ∑ r, gain (blockD m c p) (iblk m c 2 p) r q :=
  Pipeline.eq_sum_fin_of_reset_step_apply_last (fun n h (q : Fin 1024) => (outsAt0 m c n h).2.1 (ix2 0 q)) 8 (fun _ => (0 : EReal))
    (fun p q => ∑ r, gain (blockD m c p) (iblk m c 2 p) r q) (fun p h0 q => scale_first m c p h0 q) (fun p h0 q => scale_next m c p h0 q)
    (le_of_eq N_0) t ht q

theorem post_scale_end (ht : t.val + 1 = cfg0.N) (q : Fin 1024) :
    (outsAt0 m c t.val t.isLt).2.2.2 (ix2 0 q) = 0 + ∑ p : Fin cfg0.N, ∑ r, gain (blockX m c p) (iblk m c 5 p) r q :=
  Pipeline.eq_sum_fin_of_reset_step_apply_last (fun n h (q : Fin 1024) => (outsAt0 m c n h).2.2.2 (ix2 0 q)) 8 (fun _ => (0 : EReal))
    (fun p q => ∑ r, gain (blockX m c p) (iblk m c 5 p) r q) (fun p h0 q => post_scale_first m c p h0 q)
    (fun p h0 q => post_scale_next m c p h0 q) (le_of_eq N_0) t ht q

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

theorem left_block (r : Fin 512) (k : Fin 4096) : iblk m c 0 t (ix2 r k) = m ((c : Thread nD τ).loc main_arg0) (ix2 (rowAt t r) k) := by
  blk_ext [iblk, V, index0 t]

theorem weight_block : iblk m c 1 t = m ((c : Thread nD τ).loc main_arg1) := by
  funext y
  obtain ⟨a, b, d, rfl⟩ : ∃ (a : Fin 8) (b : Fin 1024) (d : Fin 512), y = ix3 a b d := ⟨y 0, y 1, y 2, eq_ix3 y⟩
  blk_ext [iblk, V, index1 t]

theorem pre_block (r : Fin 512) (k : Fin 1024) : iblk m c 2 t (ix2 r k) = m ((c : Thread nD τ).loc main_arg2) (ix2 (rowAt t r) k) := by
  blk_ext [iblk, V, index2 t]

theorem pre_scale_block : iblk m c 3 t = m ((c : Thread nD τ).loc main_arg3) := by
  funext y
  obtain ⟨a, b, rfl⟩ : ∃ (a : Fin 1) (b : Fin 1024), y = ix2 a b := ⟨y 0, y 1, eq_ix2 y⟩
  blk_ext [iblk, V, index3 t]

theorem residual_block (r : Fin 512) (k : Fin 1024) : iblk m c 4 t (ix2 r k) = m ((c : Thread nD τ).loc main_arg4) (ix2 (rowAt t r) k) := by
  blk_ext [iblk, V, index4 t]

theorem post_block (r : Fin 512) (k : Fin 1024) : iblk m c 5 t (ix2 r k) = m ((c : Thread nD τ).loc main_arg5) (ix2 (rowAt t r) k) := by
  blk_ext [iblk, V, index5 t]

theorem post_scale_block : iblk m c 6 t = m ((c : Thread nD τ).loc main_arg6) := by
  funext y
  obtain ⟨a, b, rfl⟩ : ∃ (a : Fin 1) (b : Fin 1024), y = ix2 a b := ⟨y 0, y 1, eq_ix2 y⟩
  blk_ext [iblk, V, index6 t]

/-- The whole product, and what stands before the pre-norm. -/
abbrev allD : Mat 4096 := product (m ((c : Thread nD τ).loc main_arg0)) (m ((c : Thread nD τ).loc main_arg1))
abbrev allX : Mat 4096 :=
  before (allD m c) (m ((c : Thread nD τ).loc main_arg2)) (m ((c : Thread nD τ).loc main_arg3)) (m ((c : Thread nD τ).loc main_arg4))

theorem product_block (r : Fin 512) (k : Fin 1024) : blockD m c t (ix2 r k) = allD m c (ix2 (rowAt t r) k) := by
  rw [blockD, weight_block]
  exact Finset.sum_congr rfl fun s _ => Finset.sum_congr rfl fun j _ => congrArg (· * _) (left_block m c t r _)

theorem before_block (r : Fin 512) (k : Fin 1024) : blockX m c t (ix2 r k) = allX m c (ix2 (rowAt t r) k) := by
  rw [blockX, pre_scale_block]
  exact congrArg₂ (· + ·) (into_congr (product_block m c t r) (pre_block m c t r) _ _) (residual_block m c t r k)

/-- A scale's gradient summed block by block. -/
theorem gain_parts {d y : Fin cfg0.N → Mat 512} {D Y : Mat 4096} (hd : ∀ p r k, d p (ix2 r k) = D (ix2 (rowAt p r) k))
    (hy : ∀ p r k, y p (ix2 r k) = Y (ix2 (rowAt p r) k)) (q : Fin 1024) :
    ∑ p, ∑ r, gain (d p) (y p) r q = ∑ r, gain D Y r q := by
  have hT : cfg0.N * 512 = 4096 := congrArg (· * 512) N_0
  rw [Fin.sum_univ_tiles cfg0.N 512 hT]
  exact Finset.sum_congr rfl fun p _ => Finset.sum_congr rfl fun r _ => gain_congr (hd p r) (hy p r) _

/-- The first array after the run. -/
theorem before_final : (dats m 0 c).arrAt 7 cfg0.N = allX m c := by
  refine (dats m 0 c).arrAt_eq_of_covers 7 _ (by decide +kernel) fun t hf y => ?_
  blk_simp
  obtain ⟨a, b, rfl⟩ : ∃ (a : Fin 512) (b : Fin 1024), y = ix2 a b := ⟨y 0, y 1, eq_ix2 y⟩
  rw [after0_7, before_point, before_block]
  have e : (win0_7.blk t).view.emb (ix2 a b) = ix2 (rowAt t a) b := by
    blk_ext [index7 t]
  rw [e]

/-- The third. -/
theorem post_final :
    (dats m 0 c).arrAt 9 cfg0.N
      = fun y => into (allX m c) (m ((c : Thread nD τ).loc main_arg5)) (m ((c : Thread nD τ).loc main_arg6)) (y 0) (y 1) := by
  refine (dats m 0 c).arrAt_eq_of_covers 9 _ (by decide +kernel) fun t hf y => ?_
  blk_simp
  obtain ⟨a, b, rfl⟩ : ∃ (a : Fin 512) (b : Fin 1024), y = ix2 a b := ⟨y 0, y 1, eq_ix2 y⟩
  rw [after0_9, post_point, post_scale_block]
  have e : (win0_9.blk t).view.emb (ix2 a b) = ix2 (rowAt t a) b := by
    blk_ext [index9 t]
  rw [e]
  exact into_congr (before_block m c t a) (post_block m c t a) _ _

/-- The second. -/
theorem scale_final :
    (dats m 0 c).arrAt 8 cfg0.N = fun y => ∑ r, gain (allD m c) (m ((c : Thread nD τ).loc main_arg2)) r (y 1) := by
  refine (dats m 0 c).arrAt_eq_of_covers 8 _ (by decide +kernel) fun t hf y => ?_
  have h1 : t.val % 8 = 7 := (flush0_8 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_8, scale_end m c t (Eq.trans (by omega) N_0.symm), zero_add]
  have e : (win0_8.blk t).view.emb (ix2 0 b) = ix2 0 b := by
    blk_ext [index8 t]
  rw [e]
  exact gain_parts (product_block m c) (pre_block m c) b

/-- The fourth. -/
theorem post_scale_final :
    (dats m 0 c).arrAt 10 cfg0.N = fun y => ∑ r, gain (allX m c) (m ((c : Thread nD τ).loc main_arg5)) r (y 1) := by
  refine (dats m 0 c).arrAt_eq_of_covers 10 _ (by decide +kernel) fun t hf y => ?_
  have h1 : t.val % 8 = 7 := (flush0_10 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_10, post_scale_end m c t (Eq.trans (by omega) N_0.symm), zero_add]
  have e : (win0_10.blk t).view.emb (ix2 0 b) = ix2 0 b := by
    blk_ext [index10 t]
  rw [e]
  exact gain_parts (before_block m c) (post_block m c) b

/-- The reference runs, its arguments end as they were, and it has no semaphore that could be left raised. -/
theorem reference_frame : @Cert.quiescent_Reference5Ideal Cert.Reference5Ideal.Gen.facts := fun m ρ _ =>
  (θ_run Cert.Reference5Ideal.defs _ _).mono
    (fun r h => ⟨fun c => (h c).2.2.2.2, sem_eq_zero_of_no_sems (by decide) r.2⟩)
    (Cert.Reference5Ideal.Value.run (F := Ideal) m ρ)

open Cert.Reference5Ideal.Read Cert.Reference5Ideal.UpBack in
/-- The kernel and the reference end with the same four arrays. -/
theorem equal : @Cert.algebraic_Kernel5Ideal_Reference5Ideal Cert.Kernel5Ideal.Gen.facts Cert.Reference5Ideal.Gen.facts := by
  intro m g m' g' _ hargs
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel5Ideal.Value.run_blocks m g, ?_⟩
  refine (θ_run _ _ _).mono (fun r h c => ?_) (Cert.Reference5Ideal.Value.run m' g')
  obtain ⟨h40, h23, h75, h58, hrest⟩ := h c
  obtain ⟨e0, e1, e2, e3, e4, e5, e6⟩ := hargs c
  refine ⟨h40.trans ?_, h23.trans ?_, h75.trans ?_, h58.trans ?_, hrest⟩
  · rw [val_main_v40_eq, e0, e1, e2, e3, e4]
    exact (before_eq _ _ _ _ _).trans (before_final m c).symm
  · rw [val_main_v23_eq, e0, e1, e2]
    refine Eq.trans ?_ (scale_final m c).symm
    funext i
    obtain ⟨a, b, rfl⟩ : ∃ (a : Fin 1) (b : Fin 1024), i = ix2 a b := ⟨i 0, i 1, eq_ix2 i⟩
    exact scale_eq _ _ _ a b
  · rw [val_main_v75_eq, e0, e1, e2, e3, e4, e5, e6]
    refine Eq.trans ?_ (post_final m c).symm
    funext i
    obtain ⟨a, b, rfl⟩ : ∃ (a : Fin 4096) (b : Fin 1024), i = ix2 a b := ⟨i 0, i 1, eq_ix2 i⟩
    exact post_eq _ _ _ _ _ _ _ a b
  · rw [val_main_v58_eq, e0, e1, e2, e3, e4, e5]
    refine Eq.trans ?_ (post_scale_final m c).symm
    funext i
    obtain ⟨a, b, rfl⟩ : ∃ (a : Fin 1) (b : Fin 1024), i = ix2 a b := ⟨i 0, i 1, eq_ix2 i⟩
    exact post_scale_eq _ _ _ _ _ _ a b

end Cert.Kernel5Ideal.UpBack

end
-- ==== Proof.Products.lean ====
module

public import proofs.«01_k».proof.Proof.Norm
public import proofs.«01_k».proof.Proof.Loads

/-! Products of matrices entry by entry, and the norms that follow them. -/

@[expose] public section

noncomputable section

namespace Cert.Products

open Idealize.ShloMosaic
open Cert.Norm (row root Mat)

/-- An entry of `a · w`. -/
def rows {p n q : ℕ} (a : (⟨2, ![p, n]⟩ : Shape).Idx → EReal) (w : (⟨2, ![n, q]⟩ : Shape).Idx → EReal) (i : Fin p) (j : Fin q) : EReal :=
  ∑ k, a (ix2 i k) * w (ix2 k j)

/-- An entry of `a · wᵀ`. -/
def rowsT {p n q : ℕ} (a : (⟨2, ![p, n]⟩ : Shape).Idx → EReal) (w : (⟨2, ![q, n]⟩ : Shape).Idx → EReal) (i : Fin p) (j : Fin q) : EReal :=
  ∑ k, a (ix2 i k) * w (ix2 j k)

/-- An entry of `aᵀ · b`. -/
def columns {r p q : ℕ} (a : (⟨2, ![r, p]⟩ : Shape).Idx → EReal) (b : (⟨2, ![r, q]⟩ : Shape).Idx → EReal) (i : Fin p) (j : Fin q) : EReal :=
  ∑ k, a (ix2 k i) * b (ix2 k j)

theorem rows_congr {p p' n q q' : ℕ} {a : (⟨2, ![p, n]⟩ : Shape).Idx → EReal} {a' : (⟨2, ![p', n]⟩ : Shape).Idx → EReal}
    {w : (⟨2, ![n, q]⟩ : Shape).Idx → EReal} {w' : (⟨2, ![n, q']⟩ : Shape).Idx → EReal} {i : Fin p} {i' : Fin p'} {j : Fin q} {j' : Fin q'}
    (h : ∀ k, a (ix2 i k) = a' (ix2 i' k)) (h' : ∀ k, w (ix2 k j) = w' (ix2 k j')) : rows a w i j = rows a' w' i' j' :=
  Finset.sum_congr rfl fun k _ => congrArg₂ (· * ·) (h k) (h' k)

theorem rowsT_congr {p p' n q q' : ℕ} {a : (⟨2, ![p, n]⟩ : Shape).Idx → EReal} {a' : (⟨2, ![p', n]⟩ : Shape).Idx → EReal}
    {w : (⟨2, ![q, n]⟩ : Shape).Idx → EReal} {w' : (⟨2, ![q', n]⟩ : Shape).Idx → EReal} {i : Fin p} {i' : Fin p'} {j : Fin q} {j' : Fin q'}
    (h : ∀ k, a (ix2 i k) = a' (ix2 i' k)) (h' : ∀ k, w (ix2 j k) = w' (ix2 j' k)) : rowsT a w i j = rowsT a' w' i' j' :=
  Finset.sum_congr rfl fun k _ => congrArg₂ (· * ·) (h k) (h' k)

/-- A product's entries as a matrix. -/
abbrev mat {n : ℕ} (f : Fin n → Fin 1024 → EReal) : Mat n := fun i => f (i 0) (i 1)

/-- A row normalised and scaled. -/
def normed {n : ℕ} (y : Mat n) (g : Mat 1) (i : Fin n) (j : Fin 1024) : EReal := y (ix2 i j) * root (row y i) * g (ix2 0 j)

/-- A row normalised and scaled, on the residual's. -/
def onto {n : ℕ} (x : Mat n) (y : Mat n) (g : Mat 1) (i : Fin n) (j : Fin 1024) : EReal := x (ix2 i j) + normed y g i j

theorem normed_congr {n n' : ℕ} {y : Mat n} {y' : Mat n'} {g g' : Mat 1} {i : Fin n} {i' : Fin n'} (h : ∀ k, y (ix2 i k) = y' (ix2 i' k))
    (hg : ∀ k, g (ix2 0 k) = g' (ix2 0 k)) (j : Fin 1024) : normed y g i j = normed y' g' i' j := by
  rw [normed, normed, h j, hg j, show row y i = row y' i' from funext h]

theorem onto_congr {n n' : ℕ} {x y : Mat n} {x' y' : Mat n'} {g g' : Mat 1} {i : Fin n} {i' : Fin n'} (hx : ∀ k, x (ix2 i k) = x' (ix2 i' k))
    (hy : ∀ k, y (ix2 i k) = y' (ix2 i' k)) (hg : ∀ k, g (ix2 0 k) = g' (ix2 0 k)) (j : Fin 1024) : onto x y g i j = onto x' y' g' i' j :=
  congrArg₂ (· + ·) (hx j) (normed_congr hy hg j)

/-- A load of a whole matrix is the matrix. -/
theorem ld2_all {n0 n1 : ℕ} {e : EltTy} (X : Vec Ideal ⟨2, ![n0, n1]⟩ e)
    (i : ∀ a, (![0, 0] : Fin 2 → ℕ) a + (![n0, n1] : Fin 2 → ℕ) a ≤ (⟨2, ![n0, n1]⟩ : Shape).size a) :
    View.ld (Val := Elt Ideal) X (Rect.unit (s := ⟨2, ![n0, n1]⟩) ![0, 0] ![n0, n1] i) = X :=
  funext fun x => Cert.Loads.ld2 X 0 0 i x x (Nat.zero_add _).symm (Nat.zero_add _).symm

end Cert.Products

end
-- ==== Proof.SquareGrad.lean ====
module

public import proofs.«01_k».proof.Proof.Gen.Kernel6Ideal.Value
public import proofs.«01_k».proof.Proof.Gen.Reference6Ideal.Run
public import proofs.«01_k».proof.Proof.Gen.Reference6Ideal.Read
public import proofs.«01_k».proof.Proof.Products
public import proofs.«01_k».proof.Defs
public import Idealize.ShloMosaic.Lib.Pipeline.ReadBack
public import Idealize.ShloMosaic.Adequacy
public import Idealize.ShloMosaic.Init

/-! The gradient of a square matrix of weights, from the inputs it saw and the gradients of what it gave: the sums over the rows
grow block of rows by block of rows, and at the last block they are every row's. -/

@[expose] public section

set_option maxRecDepth 16384

noncomputable section

namespace Cert.Kernel6Ideal.SquareGrad

open Idealize.ShloMosaic Idealize.ShloMosaic.TcCoe Idealize.ShloMosaic.Tactic
open Idealize.SL Idealize.SL.Sem
open Cert.Loads Cert.Products
open Cert.Kernel6Ideal Cert.Kernel6Ideal.Gen

/-- A tile of 512 columns that begins at `o`: what stood there and the block's product, the right block being those columns of the whole one. -/
theorem tile_at (x0 x1 : Vec Ideal S512x1024 .bf16) (old : Vec Ideal S1024x512 .f32) (o : ℕ)
    (i : ∀ a, (![0, o] : Fin 2 → ℕ) a + (![512, 512] : Fin 2 → ℕ) a ≤ S512x1024.size a) (x : S1024x512.Idx) (y : S1024x1024.Idx) (v : EReal)
    (hold : old x = v) (h0 : (y 0).val = (x 0).val) (h1 : (y 1).val = o + (x 1).val) :
    k0_pay4 x0 old (View.ld (Val := Elt Ideal) x1 (Rect.unit (s := S512x1024) ![0, o] ![512, 512] i)) x = v + columns x0 x1 (y 0) (y 1) := by
  have e : ∀ b : Vec Ideal S512x512 .bf16, k0_pay4 x0 old b x = old x + columns x0 b (x 0) (x 1) := fun b => by
    obtain ⟨p, q, rfl⟩ : ∃ (p : Fin 1024) (q : Fin 512), x = ix2 p q := ⟨x 0, x 1, eq_ix2 x⟩
    pointwise [k0_pay4, k0_pay2, columns]
  rw [e, hold]
  exact congrArg (v + ·) (Finset.sum_congr rfl fun k _ => congrArg₂ (· * ·) (congrArg x0 (at2 _ _ rfl h0.symm))
    (ld2 x1 0 o i _ (ix2 k (y 1)) (Nat.zero_add _).symm h1))

variable (m : (ℓ : Loc nD τ sig) → Buf (Elt Ideal) ℓ) (c : Dev nD) (t : Fin cfg0.N)

/-- The sums that the point before left. -/
abbrev carried : Vec Ideal S1024x1024 .f32 := (outsAt0 m c (t.val - 1) (Nat.lt_of_le_of_lt (Nat.sub_le _ _) t.isLt)).2

/-- What point `t` adds. -/
abbrev gained (t : Fin cfg0.N) (y : S1024x1024.Idx) : EReal := columns (iblk m c 0 t) (iblk m c 1 t) (y 0) (y 1)

theorem sums_first (h0 : t.val % 8 = 0) (y : S1024x1024.Idx) : (outsAt0 m c t.val t.isLt).2 y = 0 + gained m c t y := by
  rw [outsAt0_A m c t h0 (by omega)]
  frame_open
  simp (disch := decide) only [↓ View.readCov_skip, ↓ View.readCov_cons_toLoadRect, ↓ View.readCov_fill]
  frame_out
  refine (canon_over y [_] [_, _] (View.cover_of_tiled_head _ _ _ (by rfl) y)).trans ?_
  canon_tiles x h
  · exact tile_at _ _ _ 512 _ x y _ word_zero h0 h1
  · exact tile_at _ _ _ 0 _ x y _ word_zero h0 (h1.trans (Nat.zero_add _).symm)

theorem sums_later (h0 : ¬t.val % 8 = 0) (y : S1024x1024.Idx) :
    (outsAt0 m c t.val t.isLt).2 y = carried m c t y + gained m c t y
      ∧ (t.val % 8 = 7 → (outsAt0 m c t.val t.isLt).1 y = carried m c t y + gained m c t y) := by
  refine ⟨?_, fun h1 => ?_⟩
  · by_cases h1 : t.val % 8 = 7
    on_goal 1 => rw [outsAt0_C m c t h0 h1]
    on_goal 2 => rw [outsAt0_B m c t h0 h1]
    all_goals
      frame_open
      simp (disch := decide) only [↓ View.readCov_skip, ↓ View.readCov_cons_toLoadRect, ↓ View.readCov_fill]
      frame_out
      canon_tiles x h
      all_goals rw [read_unread_whole]
      · exact tile_at _ _ _ 512 _ x y _ (ld2 (carried m c t) 0 512 _ x y (h0.trans (Nat.zero_add _).symm) h1) h0 h1
      · have h1 := h1.trans (Nat.zero_add _).symm
        exact tile_at _ _ _ 0 _ x y _ (ld2 (carried m c t) 0 0 _ x y (h0.trans (Nat.zero_add _).symm) h1) h0 h1
  · rw [outsAt0_C m c t h0 h1]
    frame_open
    simp (disch := decide) only [↓ View.readCov_skip, ↓ View.readCov_cons_toLoadRect, ↓ View.readCov_fill]
    frame_out
    canon_tiles x h
    all_goals rw [read_unread_whole]
    · exact tile_at _ _ _ 512 _ x y _ (ld2 (carried m c t) 0 512 _ x y (h0.trans (Nat.zero_add _).symm) h1) h0 h1
    · have h1 := h1.trans (Nat.zero_add _).symm
      exact tile_at _ _ _ 0 _ x y _ (ld2 (carried m c t) 0 0 _ x y (h0.trans (Nat.zero_add _).symm) h1) h0 h1

/-- After the last point the sums hold every point's terms. -/
theorem sums_end (ht : t.val + 1 = cfg0.N) (y : S1024x1024.Idx) :
    (outsAt0 m c t.val t.isLt).2 y = 0 + ∑ p : Fin cfg0.N, gained m c p y :=
  Pipeline.eq_sum_fin_of_reset_step_apply_last (fun n h => (outsAt0 m c n h).2) 8 (fun _ => (0 : EReal)) (gained m c)
    (fun p h0 y => sums_first m c p h0 y) (fun p h0 y => (sums_later m c p h0 y).1) (le_of_eq N_0) t ht y

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

theorem inputs_block (p : Fin cfg0.N) (r : Fin 512) (i : Fin 1024) :
    iblk m c 0 p (ix2 r i) = m ((c : Thread nD τ).loc main_arg0) (ix2 (rowAt p r) i) := by
  blk_ext [iblk, V, index0 p]

theorem grads_block (p : Fin cfg0.N) (r : Fin 512) (i : Fin 1024) :
    iblk m c 1 p (ix2 r i) = m ((c : Thread nD τ).loc main_arg1) (ix2 (rowAt p r) i) := by
  blk_ext [iblk, V, index1 p]

/-- Every point's terms together are every row's. -/
theorem gained_all (y : S1024x1024.Idx) :
    ∑ p : Fin cfg0.N, gained m c p y = columns (m ((c : Thread nD τ).loc main_arg0)) (m ((c : Thread nD τ).loc main_arg1)) (y 0) (y 1) := by
  have hN : cfg0.N * 512 = 4096 := congrArg (· * 512) N_0
  refine Eq.trans ?_ (Fin.sum_univ_tiles cfg0.N 512 hN _).symm
  exact Finset.sum_congr rfl fun p _ => Finset.sum_congr rfl fun r _ =>
    congrArg₂ (· * ·) (inputs_block m c p r _) (grads_block m c p r _)

/-- The array after the run. -/
theorem final : (dats m 0 c).arrAt 2 cfg0.N
    = fun y => columns (m ((c : Thread nD τ).loc main_arg0)) (m ((c : Thread nD τ).loc main_arg1)) (y 0) (y 1) := by
  refine (dats m 0 c).arrAt_eq_of_covers 2 _ (by decide +kernel) fun t hf y => ?_
  have h1 : t.val % 8 = 7 := (flush0_2 t).mp hf
  have hN := lt_of_lt_of_eq t.isLt N_0
  have h0 : ¬t.val % 8 = 0 := by omega
  blk_simp
  rw [after0_2, (sums_later m c t h0 _).2 h1, ← (sums_later m c t h0 _).1, sums_end m c t (Eq.trans (by omega) N_0.symm), gained_all, zero_add]
  have e : (win0_2.blk t).view.emb y = (y : S1024x1024.Idx) := by
    blk_ext [index2 t]
  rw [e]

open Cert.Reference6Ideal.Read in
/-- The derivative, entry by entry. -/
theorem reference_eq (a d : S4096x1024.Idx → EReal) : val_main_v6 (F := Ideal) a d = fun y => columns a d (y 0) (y 1) := by
  funext i
  obtain ⟨p, q, rfl⟩ : ∃ (p : Fin 1024) (q : Fin 1024), i = ix2 p q := ⟨i 0, i 1, eq_ix2 i⟩
  have et : idx_main_v5 (ix2 p q) = ix2 q p := at2 _ _ rfl rfl
  have el : ∀ k, lidx_main_v4 (ix2 q p) k = ix2 k q := fun k => at2 _ _ rfl rfl
  have er : ∀ k, ridx_main_v4 (ix2 q p) k = ix2 k p := fun k => at2 _ _ rfl rfl
  rw [val_main_v6_apply, val_main_v5_apply, et, val_main_v4_apply]
  simp only [el, er, val_main_v3_apply, val_main_v0_apply]
  exact Finset.sum_congr rfl fun k _ => mul_comm _ _

/-- The reference runs, its arguments end as they were, and it has no semaphore that could be left raised. -/
theorem reference_frame : @Cert.quiescent_Reference6Ideal Cert.Reference6Ideal.Gen.facts := fun m ρ _ =>
  (θ_run Cert.Reference6Ideal.defs _ _).mono
    (fun r h => ⟨fun c => (h c).2, sem_eq_zero_of_no_sems (by decide) r.2⟩)
    (Cert.Reference6Ideal.Value.run (F := Ideal) m ρ)

open Cert.Reference6Ideal.Read in
/-- The kernel and the derivative end with the same array. -/
theorem equal : @Cert.algebraic_Kernel6Ideal_Reference6Ideal Cert.Kernel6Ideal.Gen.facts Cert.Reference6Ideal.Gen.facts := by
  intro m g m' g' _ hargs
  refine ⟨fun c => (dats m 0 c).arrAt 2 cfg0.N, Cert.Kernel6Ideal.Value.run_blocks m g, ?_⟩
  refine (θ_run _ _ _).mono (fun r h c => ?_) (Cert.Reference6Ideal.Value.run m' g')
  obtain ⟨hd, hrest⟩ := h c
  obtain ⟨e0, e1⟩ := hargs c
  refine ⟨hd.trans ?_, hrest⟩
  rw [val_main_v6_eq, e0, e1]
  exact (reference_eq _ _).trans (final m c).symm

end Cert.Kernel6Ideal.SquareGrad

end
-- ==== Proof.Square.lean ====
module

public import proofs.«01_k».proof.Proof.Gen.Kernel7Ideal.Value
public import proofs.«01_k».proof.Proof.Gen.Reference7Ideal.Run
public import proofs.«01_k».proof.Proof.Gen.Reference7Ideal.Read
public import proofs.«01_k».proof.Proof.Products
public import proofs.«01_k».proof.Defs
public import Idealize.ShloMosaic.Adequacy
public import Idealize.ShloMosaic.Init

/-! The gradient of the cross-attention's output projection in its input. -/

@[expose] public section

set_option maxRecDepth 16384

noncomputable section

namespace Cert.Kernel7Ideal.Square

open Idealize.ShloMosaic Idealize.ShloMosaic.TcCoe Idealize.ShloMosaic.Tactic
open Idealize.SL Idealize.SL.Sem
open Cert.Loads Cert.Products
open Cert.Kernel7Ideal Cert.Kernel7Ideal.Gen

theorem block_eq (a : Vec Ideal S1024x1024 .bf16) (w : Vec Ideal S1024x1024 .bf16) (y : S1024x1024.Idx) :
    out0_2 a w y = rowsT a w (y 0) (y 1) := by
  unfold out0_2
  canon_tiles z h
  obtain rfl := at2 y z h0 h1
  obtain ⟨p, q, rfl⟩ : ∃ (p : Fin 1024) (q : Fin 1024), y = ix2 p q := ⟨y 0, y 1, eq_ix2 y⟩
  rw [ld2_all, ld2_all]
  pointwise [k0_pay1, rowsT]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The array after the run. -/
theorem final (m : (ℓ : Loc nD τ sig) → Buf (Elt Ideal) ℓ) (c : Dev nD) :
    (dats m 0 c).arrAt 2 cfg0.N
      = fun y => rowsT (m ((c : Thread nD τ).loc main_arg0)) (m ((c : Thread nD τ).loc main_arg1)) (y 0) (y 1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  rw [after0_2, block_eq]
  refine rowsT_congr (fun k => ?_) (fun k => ?_)
  · blk_ext [iblk, V, index0 t, index2 t]
  · blk_ext [iblk, V, index1 t, index2 t]

open Cert.Reference7Ideal.Read in
theorem reference_eq (d : S4096x1024.Idx → EReal) (w : S1024x1024.Idx → EReal) :
    val_main_v5 (F := Ideal) d w = fun y => rowsT d w (y 0) (y 1) := by
  funext i
  obtain ⟨p, q, rfl⟩ : ∃ (p : Fin 4096) (q : Fin 1024), i = ix2 p q := ⟨i 0, i 1, eq_ix2 i⟩
  have el : ∀ k, lidx_main_v4 (ix2 p q) k = ix2 p k := fun k => at2 _ _ rfl rfl
  have er : ∀ k, ridx_main_v4 (ix2 p q) k = ix2 q k := fun k => at2 _ _ rfl rfl
  rw [val_main_v5_apply, val_main_v4_apply]
  simp only [el, er, val_main_v3_apply, val_main_v1_apply]
  rfl

/-- The reference runs, its arguments end as they were, and it has no semaphore that could be left raised. -/
theorem reference_frame : @Cert.quiescent_Reference7Ideal Cert.Reference7Ideal.Gen.facts := fun m ρ _ =>
  (θ_run Cert.Reference7Ideal.defs _ _).mono
    (fun r h => ⟨fun c => (h c).2, sem_eq_zero_of_no_sems (by decide) r.2⟩)
    (Cert.Reference7Ideal.Value.run (F := Ideal) m ρ)

open Cert.Reference7Ideal.Read in
/-- The kernel and the derivative end with the same array. -/
theorem equal : @Cert.algebraic_Kernel7Ideal_Reference7Ideal Cert.Kernel7Ideal.Gen.facts Cert.Reference7Ideal.Gen.facts := by
  intro m g m' g' _ hargs
  refine ⟨fun c => (dats m 0 c).arrAt 2 cfg0.N, Cert.Kernel7Ideal.Value.run_blocks m g, ?_⟩
  refine (θ_run _ _ _).mono (fun r h c => ?_) (Cert.Reference7Ideal.Value.run m' g')
  obtain ⟨hd, hrest⟩ := h c
  obtain ⟨e0, e1⟩ := hargs c
  refine ⟨hd.trans ?_, hrest⟩
  rw [val_main_v5_eq, e0, e1]
  exact (reference_eq _ _).trans (final m c).symm

end Cert.Kernel7Ideal.Square

end
-- ==== Proof.QueryBackRef.lean ====
module

public import proofs.«01_k».proof.Proof.Gen.Reference8Ideal.Read
public import proofs.«01_k».proof.Proof.Loads
public import proofs.«01_k».proof.Proof.Norm
public import proofs.«01_k».proof.Proof.Products
public import proofs.«01_k».proof.Proof.UpBackRef

/-! The derivative of the cross-attention's queries and pre-norm, and of the mixer's post-norm, entry by entry. The two norms
are written as in the feed-forward part, so what was read there of their rows is used here. -/

@[expose] public section

set_option maxRecDepth 16384

noncomputable section

namespace Cert.Reference8Ideal.QueryBack

open Idealize.ShloMosaic Idealize.ShloMosaic.TcCoe Idealize.ShloMosaic.Tactic
open Cert.Loads Cert.Norm
open Cert.Products
open Cert.Reference5Ideal.UpBack (before)
open Cert.Reference8Ideal Cert.Reference8Ideal.Read

/-- The gradient times the weights' transpose. -/
def product {n : ℕ} (a : (⟨2, ![n, 1024]⟩ : Shape).Idx → EReal) (w : (⟨2, ![1024, 1024]⟩ : Shape).Idx → EReal) : Mat n := mat (rowsT a w)

variable (x0 : S4096x1024.Idx → EReal) (x1 : S1024x1024.Idx → EReal) (x2 : Mat 4096) (x3 : Mat 1) (x4 x5 : Mat 4096) (x6 : Mat 1)

theorem product_eq : val_main_v18 (F := Ideal) x0 x1 = product x0 x1 := by
  funext i
  obtain ⟨p, q, rfl⟩ : ∃ (p : Fin 4096) (q : Fin 1024), i = ix2 p q := ⟨i 0, i 1, eq_ix2 i⟩
  have el : ∀ k, lidx_main_v18 (ix2 p q) k = ix2 p k := fun k => at2 _ _ rfl rfl
  have er : ∀ k, ridx_main_v18 (ix2 p q) k = ix2 q k := fun k => at2 _ _ rfl rfl
  rw [val_main_v18_apply]
  simp only [el, er, val_main_v17_apply, val_main_v0_apply]
  rfl

theorem meanSq_eq (p : Fin 4096) (z : Fin 1) : val_main_v7 (F := Ideal) x2 (ix2 p z) = meanSq (row x2 p) :=
  Cert.Reference5Ideal.UpBack.meanSq_eq x2 p z

theorem root_eq (p : Fin 4096) (z : Fin 1) : val_main_v8 (F := Ideal) x2 (ix2 p z) = root (row x2 p) :=
  Cert.Reference5Ideal.UpBack.root_eq x2 p z

theorem pull_eq (p : Fin 4096) (q : Fin 1024) : val_main_v33 (F := Ideal) x0 x1 x2 x3 (ix2 p q)
    = pull (row x2 p) (fun k => product x0 x1 (ix2 p k) * x3 (ix2 0 k)) := by
  have e1 : idx_main_v32 (idx_main_v33 (ix2 p q)) 0 = ix2 p 0 := at2 _ _ rfl rfl
  have e : ∀ k, idx_main_v25 (idx_main_v26 (ix2 p 0)) k = ix2 p k := fun k => at2 _ _ (show p.val * 1 + 0 = p.val by omega) rfl
  have eg : ∀ k, idx_main_v22 (ix2 p k) = ix2 0 k := fun k => at2 _ _ rfl rfl
  have ev : ∀ k, val_main_v24 (F := Ideal) x0 x1 x2 x3 (ix2 p k) = row x2 p k * (product x0 x1 (ix2 p k) * x3 (ix2 0 k)) := fun k => by
    rw [val_main_v24_apply, val_main_v23_apply, val_main_v22_apply, eg, product_eq]
    rfl
  rw [val_main_v33_apply, val_main_v32_apply, Fin.sum_univ_one, e1, val_main_v31_apply, val_main_v29_apply, val_main_v26_apply,
    val_main_v25_apply, val_main_v30_apply, val_main_v11_apply, val_main_v10_apply, val_main_v9_apply, root_eq, meanSq_eq]
  simp only [e, ev, val_main_cst_2_apply, val_main_cst_4_apply, val_main_cst_5_apply, val_main_cst_6_apply]
  pointwise [pull]

/-- The first result: the residual's gradient and the pre-norm's. -/
theorem before_eq : val_main_v38 (F := Ideal) x0 x1 x2 x3 x4 = before (product x0 x1) x2 x3 x4 := by
  funext i
  obtain ⟨p, q, rfl⟩ : ∃ (p : Fin 4096) (q : Fin 1024), i = ix2 p q := ⟨i 0, i 1, eq_ix2 i⟩
  have eg : idx_main_v22 (ix2 p q) = ix2 0 q := at2 _ _ rfl rfl
  have er : idx_main_v27 (ix2 p q) = ix2 p 0 := at2 _ _ rfl rfl
  rw [val_main_v38_apply, val_main_v37_apply, val_main_v36_apply, val_main_v35_apply, val_main_v34_apply, val_main_v28_apply,
    val_main_v23_apply, val_main_v22_apply, val_main_v27_apply, eg, er, root_eq, pull_eq, product_eq]
  exact (congrArg (x4 (ix2 p q) + ·) (back_eq (row x2 p) (fun k => product x0 x1 (ix2 p k) * x3 (ix2 0 k)) q).symm).trans (add_comm _ _)

/-- The second: the pre-norm's scale's gradient. -/
theorem scale_eq (z : Fin 1) (q : Fin 1024) : val_main_v21 (F := Ideal) x0 x1 x2 (ix2 z q) = ∑ r, gain (product x0 x1) x2 r q := by
  have e : ∀ k, idx_main_v20 (idx_main_v21 (ix2 z q)) k = ix2 k q := fun k =>
    at2 _ _ rfl (show z.val * 1024 + q.val = q.val by omega)
  have er : ∀ k, idx_main_v12 (ix2 k q) = ix2 k 0 := fun k => at2 _ _ rfl rfl
  rw [val_main_v21_apply, val_main_v20_apply]
  refine (congrArg₂ (· + ·) word_zero (Finset.sum_congr rfl fun k _ => ?_)).trans (zero_add _)
  rw [e, val_main_v19_apply, val_main_v13_apply, val_main_v12_apply, er, root_eq, product_eq, gain]
  exact mul_comm _ _

/-- The rows of the mixer's result: their mean squares and roots. -/
theorem post_meanSq_eq (p : Fin 4096) (z : Fin 1) : val_main_v45 (F := Ideal) x5 (ix2 p z) = meanSq (row x5 p) :=
  Cert.Reference5Ideal.UpBack.post_meanSq_eq x5 p z

theorem post_root_eq (p : Fin 4096) (z : Fin 1) : val_main_v46 (F := Ideal) x5 (ix2 p z) = root (row x5 p) :=
  Cert.Reference5Ideal.UpBack.post_root_eq x5 p z

theorem post_pull_eq (p : Fin 4096) (q : Fin 1024) : val_main_v68 (F := Ideal) x0 x1 x2 x3 x4 x5 x6 (ix2 p q)
    = pull (row x5 p) (fun k => before (product x0 x1) x2 x3 x4 (ix2 p k) * x6 (ix2 0 k)) := by
  have e1 : idx_main_v67 (idx_main_v68 (ix2 p q)) 0 = ix2 p 0 := at2 _ _ rfl rfl
  have e : ∀ k, idx_main_v60 (idx_main_v61 (ix2 p 0)) k = ix2 p k := fun k => at2 _ _ (show p.val * 1 + 0 = p.val by omega) rfl
  have eg : ∀ k, idx_main_v57 (ix2 p k) = ix2 0 k := fun k => at2 _ _ rfl rfl
  have ev : ∀ k, val_main_v59 (F := Ideal) x0 x1 x2 x3 x4 x5 x6 (ix2 p k)
      = row x5 p k * (before (product x0 x1) x2 x3 x4 (ix2 p k) * x6 (ix2 0 k)) := fun k => by
    rw [val_main_v59_apply, val_main_v58_apply, val_main_v57_apply, eg, before_eq]
    rfl
  rw [val_main_v68_apply, val_main_v67_apply, Fin.sum_univ_one, e1, val_main_v66_apply, val_main_v64_apply, val_main_v61_apply,
    val_main_v60_apply, val_main_v65_apply, val_main_v49_apply, val_main_v48_apply, val_main_v47_apply, post_root_eq, post_meanSq_eq]
  simp only [e, ev, val_main_cst_10_apply, val_main_cst_12_apply, val_main_cst_13_apply, val_main_cst_14_apply]
  pointwise [pull]

/-- The third result: the gradient carried back through the post-norm. -/
theorem post_eq (p : Fin 4096) (q : Fin 1024) : val_main_v73 (F := Ideal) x0 x1 x2 x3 x4 x5 x6 (ix2 p q)
    = into (before (product x0 x1) x2 x3 x4) x5 x6 p q := by
  have eg : idx_main_v57 (ix2 p q) = ix2 0 q := at2 _ _ rfl rfl
  have er : idx_main_v62 (ix2 p q) = ix2 p 0 := at2 _ _ rfl rfl
  rw [val_main_v73_apply, val_main_v72_apply, val_main_v71_apply, val_main_v70_apply, val_main_v69_apply, val_main_v63_apply,
    val_main_v58_apply, val_main_v57_apply, val_main_v62_apply, eg, er, post_root_eq, post_pull_eq, before_eq]
  exact (back_eq (row x5 p) (fun k => before (product x0 x1) x2 x3 x4 (ix2 p k) * x6 (ix2 0 k)) q).symm

/-- The fourth: the post-norm's scale's gradient. -/
theorem post_scale_eq (z : Fin 1) (q : Fin 1024) : val_main_v56 (F := Ideal) x0 x1 x2 x3 x4 x5 (ix2 z q)
    = ∑ r, gain (before (product x0 x1) x2 x3 x4) x5 r q := by
  have e : ∀ k, idx_main_v55 (idx_main_v56 (ix2 z q)) k = ix2 k q := fun k =>
    at2 _ _ rfl (show z.val * 1024 + q.val = q.val by omega)
  have er : ∀ k, idx_main_v50 (ix2 k q) = ix2 k 0 := fun k => at2 _ _ rfl rfl
  rw [val_main_v56_apply, val_main_v55_apply]
  refine (congrArg₂ (· + ·) word_zero (Finset.sum_congr rfl fun k _ => ?_)).trans (zero_add _)
  rw [e, val_main_v54_apply, val_main_v51_apply, val_main_v50_apply, er, post_root_eq, before_eq, gain]
  exact mul_comm _ _

end Cert.Reference8Ideal.QueryBack

end
-- ==== Proof.QueryBack.lean ====
module

public import proofs.«01_k».proof.Proof.Gen.Kernel8Ideal.Value
public import proofs.«01_k».proof.Proof.Gen.Reference8Ideal.Run
public import proofs.«01_k».proof.Proof.Gen.Reference8Ideal.Read
public import proofs.«01_k».proof.Proof.Loads
public import proofs.«01_k».proof.Proof.Norm
public import proofs.«01_k».proof.Proof.Products
public import proofs.«01_k».proof.Proof.QueryBackRef
public import proofs.«01_k».proof.Defs
public import Idealize.ShloMosaic.Lib.Pipeline.ReadBack
public import Idealize.ShloMosaic.Adequacy
public import Idealize.ShloMosaic.Init

/-! The gradient through the cross-attention's queries and pre-norm, and on through the mixer's post-norm. -/

@[expose] public section

set_option maxRecDepth 16384

noncomputable section

namespace Cert.Kernel8Ideal.QueryBack

open Idealize.ShloMosaic Idealize.ShloMosaic.TcCoe Idealize.ShloMosaic.Tactic
open Idealize.SL Idealize.SL.Sem
open Cert.Loads
open Cert.Kernel8Ideal Cert.Kernel8Ideal.Gen

open Cert.Norm
open Cert.Reference8Ideal.QueryBack (product)
open Cert.Products
open Cert.Reference5Ideal.UpBack (before)

theorem product_eq (a : Vec Ideal S512x1024 .bf16) (w : Vec Ideal S1024x1024 .bf16) : k0_pay1 (F := Ideal) a w = product a w := by
  funext i
  obtain ⟨p, q, rfl⟩ : ∃ (p : Fin 512) (q : Fin 1024), i = ix2 p q := ⟨i 0, i 1, eq_ix2 i⟩
  pointwise [k0_pay1, product, rowsT]

/-- The pre-norm's rows: the gradient carried back, and the residual's added. -/
theorem dx_apply (a : Vec Ideal S512x1024 .bf16) (w : Vec Ideal S1024x1024 .bf16) (y : Vec Ideal S512x1024 .f32) (g : Vec Ideal S1x1024 .f32)
    (r : Vec Ideal S512x1024 .f32) (p : Fin 512) (q : Fin 1024) :
    k0_pay5 a w y g r (ix2 p q) = before (product a w) y g r (ix2 p q) := by
  rw [← product_eq]
  pointwise [k0_pay5, k0_pay3, k0_pay2, before, into, back, row, root, meanSq]

/-- The scale's gradient, one block further. -/
theorem dg_apply (a : Vec Ideal S512x1024 .bf16) (w : Vec Ideal S1024x1024 .bf16) (y : Vec Ideal S512x1024 .f32) (old : Vec Ideal S1x1024 .f32)
    (q : Fin 1024) : k0_pay8 (k0_pay4 a w y) old (ix2 0 q) = old (ix2 0 q) + ∑ p, gain (product a w) y p q := by
  rw [← product_eq]
  pointwise [k0_pay8, k0_pay4, k0_pay3, k0_pay2, gain, row, root, meanSq]

/-- The post-norm's rows. -/
theorem dxo_apply (d : FVec Ideal S512x1024 .f32) (y : Vec Ideal S512x1024 .f32) (g : Vec Ideal S1x1024 .f32) (p : Fin 512) (q : Fin 1024) :
    k0_pay11 d y g (ix2 p q) = into d y g p q := by
  pointwise [k0_pay11, k0_pay10, k0_pay9, into, back, row, root, meanSq]

/-- The post-norm's scale's gradient, one block further. -/
theorem dgo_apply (d : FVec Ideal S512x1024 .f32) (y : Vec Ideal S512x1024 .f32) (old : Vec Ideal S1x1024 .f32) (q : Fin 1024) :
    k0_pay12 d y old (ix2 0 q) = old (ix2 0 q) + ∑ p, gain d y p q := by
  pointwise [k0_pay12, k0_pay10, k0_pay9, gain, row, root, meanSq]

variable (m : (ℓ : Loc nD τ sig) → Buf (Elt Ideal) ℓ) (c : Dev nD) (t : Fin cfg0.N)

/-- The block's product with the weights, and what stands before the pre-norm. -/
abbrev blockD : Mat 512 := product (iblk m c 0 t) (iblk m c 1 t)
abbrev blockX : Mat 512 := before (blockD m c t) (iblk m c 2 t) (iblk m c 3 t) (iblk m c 4 t)

theorem before_point (p : Fin 512) (q : Fin 1024) : (outsAt0 m c t.val t.isLt).1 (ix2 p q) = blockX m c t (ix2 p q) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    exact dx_apply ..

theorem post_point (p : Fin 512) (q : Fin 1024) :
    (outsAt0 m c t.val t.isLt).2.2.1 (ix2 p q) = into (blockX m c t) (iblk m c 5 t) (iblk m c 6 t) p q := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    refine (dxo_apply ..).trans (into_congr (fun k => ?_) (fun _ => rfl) _ _)
    exact dx_apply ..

theorem scale_first (h0 : t.val % 8 = 0) (q : Fin 1024) :
    (outsAt0 m c t.val t.isLt).2.1 (ix2 0 q) = 0 + ∑ r, gain (blockD m c t) (iblk m c 2 t) r q := by
  rw [outsAt0_A m c t h0]
  frame_open
  simp (disch := decide) only [↓ View.readCov_skip, ↓ View.readCov_cons_toLoadRect, ↓ View.readCov_fill]
  frame_out
  exact (dg_apply ..).trans (congrArg (· + _) word_zero)

theorem scale_next (h0 : ¬t.val % 8 = 0) (q : Fin 1024) :
    (outsAt0 m c t.val t.isLt).2.1 (ix2 0 q)
      = (outsAt0 m c (t.val - 1) (Nat.lt_of_le_of_lt (Nat.sub_le _ _) t.isLt)).2.1 (ix2 0 q) + ∑ r, gain (blockD m c t) (iblk m c 2 t) r q := by
  rw [outsAt0_B m c t h0]
  frame_open
  simp (disch := decide) only [↓ View.readCov_skip, ↓ View.readCov_cons_toLoadRect, ↓ View.readCov_fill]
  frame_out
  exact dg_apply ..

theorem post_scale_first (h0 : t.val % 8 = 0) (q : Fin 1024) :
    (outsAt0 m c t.val t.isLt).2.2.2 (ix2 0 q) = 0 + ∑ r, gain (blockX m c t) (iblk m c 5 t) r q := by
  rw [outsAt0_A m c t h0]
  frame_open
  simp (disch := decide) only [↓ View.readCov_skip, ↓ View.readCov_cons_toLoadRect, ↓ View.readCov_fill]
  frame_out
  refine (dgo_apply ..).trans (congrArg₂ (· + ·) word_zero (Finset.sum_congr rfl fun r _ => gain_congr (fun k => ?_) (fun _ => rfl) _))
  exact dx_apply ..

theorem post_scale_next (h0 : ¬t.val % 8 = 0) (q : Fin 1024) :
    (outsAt0 m c t.val t.isLt).2.2.2 (ix2 0 q)
      = (outsAt0 m c (t.val - 1) (Nat.lt_of_le_of_lt (Nat.sub_le _ _) t.isLt)).2.2.2 (ix2 0 q) + ∑ r, gain (blockX m c t) (iblk m c 5 t) r q := by
  rw [outsAt0_B m c t h0]
  frame_open
  simp (disch := decide) only [↓ View.readCov_skip, ↓ View.readCov_cons_toLoadRect, ↓ View.readCov_fill]
  frame_out
  refine (dgo_apply ..).trans (congrArg (_ + ·) (Finset.sum_congr rfl fun r _ => gain_congr (fun k => ?_) (fun _ => rfl) _))
  exact dx_apply ..

/-- After the last point the two scales' gradients hold every point's terms. -/
theorem scale_end (ht : t.val + 1 = cfg0.N) (q : Fin 1024) :
    (outsAt0 m c t.val t.isLt).2.1 (ix2 0 q) = 0 + ∑ p : Fin cfg0.N, ∑ r, gain (blockD m c p) (iblk m c 2 p) r q :=
  Pipeline.eq_sum_fin_of_reset_step_apply_last (fun n h (q : Fin 1024) => (outsAt0 m c n h).2.1 (ix2 0 q)) 8 (fun _ => (0 : EReal))
    (fun p q => ∑ r, gain (blockD m c p) (iblk m c 2 p) r q) (fun p h0 q => scale_first m c p h0 q) (fun p h0 q => scale_next m c p h0 q)
    (le_of_eq N_0) t ht q

theorem post_scale_end (ht : t.val + 1 = cfg0.N) (q : Fin 1024) :
    (outsAt0 m c t.val t.isLt).2.2.2 (ix2 0 q) = 0 + ∑ p : Fin cfg0.N, ∑ r, gain (blockX m c p) (iblk m c 5 p) r q :=
  Pipeline.eq_sum_fin_of_reset_step_apply_last (fun n h (q : Fin 1024) => (outsAt0 m c n h).2.2.2 (ix2 0 q)) 8 (fun _ => (0 : EReal))
    (fun p q => ∑ r, gain (blockX m c p) (iblk m c 5 p) r q) (fun p h0 q => post_scale_first m c p h0 q)
    (fun p h0 q => post_scale_next m c p h0 q) (le_of_eq N_0) t ht q

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

theorem left_block (r : Fin 512) (k : Fin 1024) : iblk m c 0 t (ix2 r k) = m ((c : Thread nD τ).loc main_arg0) (ix2 (rowAt t r) k) := by
  blk_ext [iblk, V, index0 t]

theorem weight_block : iblk m c 1 t = m ((c : Thread nD τ).loc main_arg1) := by
  funext y
  obtain ⟨a, b, rfl⟩ : ∃ (a : Fin 1024) (b : Fin 1024), y = ix2 a b := ⟨y 0, y 1, eq_ix2 y⟩
  blk_ext [iblk, V, index1 t]

theorem pre_block (r : Fin 512) (k : Fin 1024) : iblk m c 2 t (ix2 r k) = m ((c : Thread nD τ).loc main_arg2) (ix2 (rowAt t r) k) := by
  blk_ext [iblk, V, index2 t]

theorem pre_scale_block : iblk m c 3 t = m ((c : Thread nD τ).loc main_arg3) := by
  funext y
  obtain ⟨a, b, rfl⟩ : ∃ (a : Fin 1) (b : Fin 1024), y = ix2 a b := ⟨y 0, y 1, eq_ix2 y⟩
  blk_ext [iblk, V, index3 t]

theorem residual_block (r : Fin 512) (k : Fin 1024) : iblk m c 4 t (ix2 r k) = m ((c : Thread nD τ).loc main_arg4) (ix2 (rowAt t r) k) := by
  blk_ext [iblk, V, index4 t]

theorem post_block (r : Fin 512) (k : Fin 1024) : iblk m c 5 t (ix2 r k) = m ((c : Thread nD τ).loc main_arg5) (ix2 (rowAt t r) k) := by
  blk_ext [iblk, V, index5 t]

theorem post_scale_block : iblk m c 6 t = m ((c : Thread nD τ).loc main_arg6) := by
  funext y
  obtain ⟨a, b, rfl⟩ : ∃ (a : Fin 1) (b : Fin 1024), y = ix2 a b := ⟨y 0, y 1, eq_ix2 y⟩
  blk_ext [iblk, V, index6 t]

/-- The whole product, and what stands before the pre-norm. -/
abbrev allD : Mat 4096 := product (m ((c : Thread nD τ).loc main_arg0)) (m ((c : Thread nD τ).loc main_arg1))
abbrev allX : Mat 4096 :=
  before (allD m c) (m ((c : Thread nD τ).loc main_arg2)) (m ((c : Thread nD τ).loc main_arg3)) (m ((c : Thread nD τ).loc main_arg4))

theorem product_block (r : Fin 512) (k : Fin 1024) : blockD m c t (ix2 r k) = allD m c (ix2 (rowAt t r) k) := by
  rw [blockD, weight_block]
  exact rowsT_congr (left_block m c t r) fun _ => rfl

theorem before_block (r : Fin 512) (k : Fin 1024) : blockX m c t (ix2 r k) = allX m c (ix2 (rowAt t r) k) := by
  rw [blockX, pre_scale_block]
  exact congrArg₂ (· + ·) (into_congr (product_block m c t r) (pre_block m c t r) _ _) (residual_block m c t r k)

/-- A scale's gradient summed block by block. -/
theorem gain_parts {d y : Fin cfg0.N → Mat 512} {D Y : Mat 4096} (hd : ∀ p r k, d p (ix2 r k) = D (ix2 (rowAt p r) k))
    (hy : ∀ p r k, y p (ix2 r k) = Y (ix2 (rowAt p r) k)) (q : Fin 1024) :
    ∑ p, ∑ r, gain (d p) (y p) r q = ∑ r, gain D Y r q := by
  have hT : cfg0.N * 512 = 4096 := congrArg (· * 512) N_0
  rw [Fin.sum_univ_tiles cfg0.N 512 hT]
  exact Finset.sum_congr rfl fun p _ => Finset.sum_congr rfl fun r _ => gain_congr (hd p r) (hy p r) _

/-- The first array after the run. -/
theorem before_final : (dats m 0 c).arrAt 7 cfg0.N = allX m c := by
  refine (dats m 0 c).arrAt_eq_of_covers 7 _ (by decide +kernel) fun t hf y => ?_
  blk_simp
  obtain ⟨a, b, rfl⟩ : ∃ (a : Fin 512) (b : Fin 1024), y = ix2 a b := ⟨y 0, y 1, eq_ix2 y⟩
  rw [after0_7, before_point, before_block]
  have e : (win0_7.blk t).view.emb (ix2 a b) = ix2 (rowAt t a) b := by
    blk_ext [index7 t]
  rw [e]

/-- The third. -/
theorem post_final :
    (dats m 0 c).arrAt 9 cfg0.N
      = fun y => into (allX m c) (m ((c : Thread nD τ).loc main_arg5)) (m ((c : Thread nD τ).loc main_arg6)) (y 0) (y 1) := by
  refine (dats m 0 c).arrAt_eq_of_covers 9 _ (by decide +kernel) fun t hf y => ?_
  blk_simp
  obtain ⟨a, b, rfl⟩ : ∃ (a : Fin 512) (b : Fin 1024), y = ix2 a b := ⟨y 0, y 1, eq_ix2 y⟩
  rw [after0_9, post_point, post_scale_block]
  have e : (win0_9.blk t).view.emb (ix2 a b) = ix2 (rowAt t a) b := by
    blk_ext [index9 t]
  rw [e]
  exact into_congr (before_block m c t a) (post_block m c t a) _ _

/-- The second. -/
theorem scale_final :
    (dats m 0 c).arrAt 8 cfg0.N = fun y => ∑ r, gain (allD m c) (m ((c : Thread nD τ).loc main_arg2)) r (y 1) := by
  refine (dats m 0 c).arrAt_eq_of_covers 8 _ (by decide +kernel) fun t hf y => ?_
  have h1 : t.val % 8 = 7 := (flush0_8 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_8, scale_end m c t (Eq.trans (by omega) N_0.symm), zero_add]
  have e : (win0_8.blk t).view.emb (ix2 0 b) = ix2 0 b := by
    blk_ext [index8 t]
  rw [e]
  exact gain_parts (product_block m c) (pre_block m c) b

/-- The fourth. -/
theorem post_scale_final :
    (dats m 0 c).arrAt 10 cfg0.N = fun y => ∑ r, gain (allX m c) (m ((c : Thread nD τ).loc main_arg5)) r (y 1) := by
  refine (dats m 0 c).arrAt_eq_of_covers 10 _ (by decide +kernel) fun t hf y => ?_
  have h1 : t.val % 8 = 7 := (flush0_10 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_10, post_scale_end m c t (Eq.trans (by omega) N_0.symm), zero_add]
  have e : (win0_10.blk t).view.emb (ix2 0 b) = ix2 0 b := by
    blk_ext [index10 t]
  rw [e]
  exact gain_parts (before_block m c) (post_block m c) b

/-- The reference runs, its arguments end as they were, and it has no semaphore that could be left raised. -/
theorem reference_frame : @Cert.quiescent_Reference8Ideal Cert.Reference8Ideal.Gen.facts := fun m ρ _ =>
  (θ_run Cert.Reference8Ideal.defs _ _).mono
    (fun r h => ⟨fun c => (h c).2.2.2.2, sem_eq_zero_of_no_sems (by decide) r.2⟩)
    (Cert.Reference8Ideal.Value.run (F := Ideal) m ρ)

open Cert.Reference8Ideal.Read Cert.Reference8Ideal.QueryBack in
/-- The kernel and the reference end with the same four arrays. -/
theorem equal : @Cert.algebraic_Kernel8Ideal_Reference8Ideal Cert.Kernel8Ideal.Gen.facts Cert.Reference8Ideal.Gen.facts := by
  intro m g m' g' _ hargs
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel8Ideal.Value.run_blocks m g, ?_⟩
  refine (θ_run _ _ _).mono (fun r h c => ?_) (Cert.Reference8Ideal.Value.run m' g')
  obtain ⟨h38, h21, h73, h56, hrest⟩ := h c
  obtain ⟨e0, e1, e2, e3, e4, e5, e6⟩ := hargs c
  refine ⟨h38.trans ?_, h21.trans ?_, h73.trans ?_, h56.trans ?_, hrest⟩
  · rw [val_main_v38_eq, e0, e1, e2, e3, e4]
    exact (before_eq _ _ _ _ _).trans (before_final m c).symm
  · rw [val_main_v21_eq, e0, e1, e2]
    refine Eq.trans ?_ (scale_final m c).symm
    funext i
    obtain ⟨a, b, rfl⟩ : ∃ (a : Fin 1) (b : Fin 1024), i = ix2 a b := ⟨i 0, i 1, eq_ix2 i⟩
    exact scale_eq _ _ _ a b
  · rw [val_main_v73_eq, e0, e1, e2, e3, e4, e5, e6]
    refine Eq.trans ?_ (post_final m c).symm
    funext i
    obtain ⟨a, b, rfl⟩ : ∃ (a : Fin 4096) (b : Fin 1024), i = ix2 a b := ⟨i 0, i 1, eq_ix2 i⟩
    exact post_eq _ _ _ _ _ _ _ a b
  · rw [val_main_v56_eq, e0, e1, e2, e3, e4, e5]
    refine Eq.trans ?_ (post_scale_final m c).symm
    funext i
    obtain ⟨a, b, rfl⟩ : ∃ (a : Fin 1) (b : Fin 1024), i = ix2 a b := ⟨i 0, i 1, eq_ix2 i⟩
    exact post_scale_eq _ _ _ _ _ _ a b

end Cert.Kernel8Ideal.QueryBack

end
-- ==== Proof.Up.lean ====
module

public import proofs.«01_k».proof.Proof.Gen.Kernel9Ideal.Value
public import proofs.«01_k».proof.Proof.Gen.Reference9Ideal.Run
public import proofs.«01_k».proof.Proof.Gen.Reference9Ideal.Read
public import proofs.«01_k».proof.Proof.Products
public import proofs.«01_k».proof.Defs
public import Idealize.ShloMosaic.Adequacy
public import Idealize.ShloMosaic.Init

/-! The feed-forward part's first product and its squared positive part. -/

@[expose] public section

set_option maxRecDepth 16384

noncomputable section

namespace Cert.Kernel9Ideal.Up

open Idealize.ShloMosaic Idealize.ShloMosaic.TcCoe Idealize.ShloMosaic.Tactic
open Idealize.SL Idealize.SL.Sem
open Cert.Loads Cert.Products
open Cert.Kernel9Ideal Cert.Kernel9Ideal.Gen

/-- An entry of the product, the weights' columns being in shards of 512. -/
def entry {n : ℕ} (a : (⟨2, ![n, 1024]⟩ : Shape).Idx → EReal) (w : S8x1024x512.Idx → EReal) (i : Fin n) (j : Fin 4096) : EReal :=
  ∑ k, a (ix2 i k) * w (ix3 ⟨j.val / 512, by omega⟩ k ⟨j.val % 512, by omega⟩)

/-- The square of the positive part. -/
def act (u : EReal) : EReal := max u 0 * max u 0

theorem entry_congr {n n' : ℕ} {a : (⟨2, ![n, 1024]⟩ : Shape).Idx → EReal} {a' : (⟨2, ![n', 1024]⟩ : Shape).Idx → EReal}
    {w w' : S8x1024x512.Idx → EReal} {i : Fin n} {i' : Fin n'} {j j' : Fin 4096} (hj : j.val = j'.val)
    (ha : ∀ k, a (ix2 i k) = a' (ix2 i' k)) (hw : w = w') : entry a w i j = entry a' w' i' j' := by
  obtain rfl : j = j' := Fin.ext hj
  exact Finset.sum_congr rfl fun k _ => congrArg₂ (· * ·) (ha k) (congrFun hw _)

/-- The tile whose columns begin at `o`, the weights being shard `s`. -/
theorem tile_at (a : Vec Ideal S512x1024 .bf16) (w : Vec Ideal S8x1024x512 .bf16) (s : ℕ)
    (i : ∀ b, (![s, 0, 0] : Fin 3 → ℕ) b + (![1, 1024, 512] : Fin 3 → ℕ) b ≤ S8x1024x512.size b) (x : S512x512.Idx) (y : S512x4096.Idx)
    (h0 : (y 0).val = (x 0).val) (h1 : (y 1).val = s * 512 + (x 1).val) :
    k0_pay2 a (View.ld (Val := Elt Ideal) w (Rect.unit (s := S8x1024x512) ![s, 0, 0] ![1, 1024, 512] i)) x = entry a w (y 0) (y 1) := by
  obtain ⟨p, q, rfl⟩ : ∃ (p : Fin 512) (q : Fin 512), x = ix2 p q := ⟨x 0, x 1, eq_ix2 x⟩
  obtain ⟨p', j, rfl⟩ : ∃ (p' : Fin 512) (j : Fin 4096), y = ix2 p' j := ⟨y 0, y 1, eq_ix2 y⟩
  obtain rfl : p' = p := Fin.ext h0
  have hj : j.val = s * 512 + q.val := h1
  have hq := q.isLt
  have e : ∀ v : Vec Ideal S1x1024x512 .bf16, k0_pay2 a v (ix2 p' q) = ∑ k, a (ix2 p' k) * v (ix3 0 k q) := fun v => by
    pointwise [k0_pay2]
  rw [e]
  refine Finset.sum_congr rfl fun k _ => congrArg (_ * ·) (ld3 w s 0 0 i _ _ ?_ (Nat.zero_add _).symm ?_)
  · show j.val / 512 = s + 0
    omega
  · show j.val % 512 = 0 + q.val
    omega

theorem tile_act (u : Vec Ideal S512x512 .f32) (x : S512x512.Idx) : k0_pay1 (F := Ideal) u x = act (u x) := by
  obtain ⟨p, q, rfl⟩ : ∃ (p : Fin 512) (q : Fin 512), x = ix2 p q := ⟨x 0, x 1, eq_ix2 x⟩
  pointwise [k0_pay1, act]

theorem up_eq (a : Vec Ideal S512x1024 .bf16) (w : Vec Ideal S8x1024x512 .bf16) (y : S512x4096.Idx) : out0_2 a w y = entry a w (y 0) (y 1) := by
  unfold out0_2
  canon_tiles x h
  all_goals rw [ld2_all]
  all_goals first
    | exact tile_at a w _ _ x y h0 h1
    | exact tile_at a w 0 _ x y h0 (h1.trans (by omega))

theorem act_eq (a : Vec Ideal S512x1024 .bf16) (w : Vec Ideal S8x1024x512 .bf16) (y : S512x4096.Idx) :
    out0_3 a w y = act (entry a w (y 0) (y 1)) := by
  unfold out0_3
  canon_tiles x h
  all_goals rw [ld2_all]
  all_goals first
    | exact (tile_act _ x).trans (congrArg act (tile_at a w _ _ x y h0 h1))
    | exact (tile_act _ x).trans (congrArg act (tile_at a w 0 _ x y h0 (h1.trans (by omega))))

theorem index0 : ∀ t : Fin cfg0.N, win0_0.index t = ![t.val, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

section arrays

variable (m : (ℓ : Loc nD τ sig) → Buf (Elt Ideal) ℓ) (c : Dev nD)

theorem weights (t : Fin cfg0.N) : iblk m c 1 t = m ((c : Thread nD τ).loc main_arg1) := by
  funext i
  blk_ext [iblk, V, index1 t]

theorem up_final : (dats m 0 c).arrAt 2 cfg0.N
      = fun y => entry (m ((c : Thread nD τ).loc main_arg0)) (m ((c : Thread nD τ).loc main_arg1)) (y 0) (y 1) := by
  refine (dats m 0 c).arrAt_eq_of_covers 2 _ (by decide +kernel) fun t hf y => ?_
  blk_simp
  rw [after0_2, up_eq]
  refine entry_congr ?_ (fun k => ?_) (weights m c t)
  · blk_simp [index2 t]
  · blk_ext [iblk, V, index0 t, index2 t]

theorem act_final : (dats m 0 c).arrAt 3 cfg0.N
      = fun y => act (entry (m ((c : Thread nD τ).loc main_arg0)) (m ((c : Thread nD τ).loc main_arg1)) (y 0) (y 1)) := by
  refine (dats m 0 c).arrAt_eq_of_covers 3 _ (by decide +kernel) fun t hf y => ?_
  blk_simp
  rw [after0_3, act_eq]
  refine congrArg act (entry_congr ?_ (fun k => ?_) (weights m c t))
  · blk_simp [index3 t]
  · blk_ext [iblk, V, index0 t, index3 t]

end arrays

section reference

open Cert.Reference9Ideal.Read

variable (a : S4096x1024.Idx → EReal) (w : S8x1024x512.Idx → EReal)

theorem reference_product (p : Fin 4096) (q : Fin 4096) : val_main_v4 (F := Ideal) a w (ix2 p q) = entry a w p q := by
  have el : ∀ k, lidx_main_v4 (ix2 p q) k = ix2 p k := fun k => at2 _ _ rfl rfl
  rw [val_main_v4_apply]
  refine Finset.sum_congr rfl fun k _ => ?_
  have hk := k.isLt
  have hq := q.isLt
  rw [el, val_main_v0_apply, val_main_v3_apply, val_main_v2_apply, val_main_v1_apply]
  refine congrArg (_ * ·) (congrArg w (at3 _ _ ?_ ?_ ?_))
  · show (k.val * 4096 + q.val) / 512 % 8 = q.val / 512
    omega
  · show (k.val * 4096 + q.val) / 4096 = k.val
    omega
  · show (k.val * 4096 + q.val) % 512 = q.val % 512
    omega

theorem reference_up : val_main_v5 (F := Ideal) a w = fun y => entry a w (y 0) (y 1) := by
  funext i
  obtain ⟨p, q, rfl⟩ : ∃ (p : Fin 4096) (q : Fin 4096), i = ix2 p q := ⟨i 0, i 1, eq_ix2 i⟩
  rw [val_main_v5_apply, reference_product]
  rfl

theorem reference_act : val_main_v8 (F := Ideal) a w = fun y => act (entry a w (y 0) (y 1)) := by
  funext i
  obtain ⟨p, q, rfl⟩ : ∃ (p : Fin 4096) (q : Fin 4096), i = ix2 p q := ⟨i 0, i 1, eq_ix2 i⟩
  rw [val_main_v8_apply, val_main_v7_apply, val_main_v6_apply, reference_product, val_main_call0_v0_apply]
  pointwise [act]
  simp only [val_main_call0_cst_apply, Ideal.ofBits_def, word_zero]

end reference

/-- The reference runs, its arguments end as they were, and it has no semaphore that could be left raised. -/
theorem reference_frame : @Cert.quiescent_Reference9Ideal Cert.Reference9Ideal.Gen.facts := fun m ρ _ =>
  (θ_run Cert.Reference9Ideal.defs _ _).mono
    (fun r h => ⟨fun c => (h c).2.2, sem_eq_zero_of_no_sems (by decide) r.2⟩)
    (Cert.Reference9Ideal.Value.run (F := Ideal) m ρ)

open Cert.Reference9Ideal.Read in
/-- The kernel and the reference end with the same two arrays. -/
theorem equal : @Cert.algebraic_Kernel9Ideal_Reference9Ideal Cert.Kernel9Ideal.Gen.facts Cert.Reference9Ideal.Gen.facts := by
  intro m g m' g' _ hargs
  refine ⟨fun c => (dats m 0 c).arrAt 2 cfg0.N, fun c => (dats m 0 c).arrAt 3 cfg0.N, Cert.Kernel9Ideal.Value.run_blocks m g, ?_⟩
  refine (θ_run _ _ _).mono (fun r h c => ?_) (Cert.Reference9Ideal.Value.run m' g')
  obtain ⟨h5, h8, hrest⟩ := h c
  obtain ⟨e0, e1⟩ := hargs c
  refine ⟨h5.trans ?_, h8.trans ?_, hrest⟩
  · rw [val_main_v5_eq, e0, e1]
    exact (reference_up _ _).trans (up_final m c).symm
  · rw [val_main_v8_eq, e0, e1]
    exact (reference_act _ _).trans (act_final m c).symm

end Cert.Kernel9Ideal.Up

end
-- ==== Proof.Residual.lean ====
module

public import proofs.«01_k».proof.Proof.Products

/-! A product of matrices, its rows normalised onto the residual stream, and these normalised in turn. -/

@[expose] public section

noncomputable section

namespace Cert.Residual

open Idealize.ShloMosaic
open Cert.Norm Cert.Products

variable {n n' l : ℕ}

/-- The product. -/
def out (a : (⟨2, ![n, l]⟩ : Shape).Idx → EReal) (w : (⟨2, ![l, 1024]⟩ : Shape).Idx → EReal) : Mat n := mat (rows a w)

/-- The residual stream after it. -/
def next (a : (⟨2, ![n, l]⟩ : Shape).Idx → EReal) (w : (⟨2, ![l, 1024]⟩ : Shape).Idx → EReal) (x : Mat n) (g : Mat 1) : Mat n :=
  mat (onto x (out a w) g)

/-- The stream normalised. -/
def head (a : (⟨2, ![n, l]⟩ : Shape).Idx → EReal) (w : (⟨2, ![l, 1024]⟩ : Shape).Idx → EReal) (x : Mat n) (g h : Mat 1) : Mat n :=
  mat (normed (next a w x g) h)

variable {a : (⟨2, ![n, l]⟩ : Shape).Idx → EReal} {a' : (⟨2, ![n', l]⟩ : Shape).Idx → EReal}
  {w w' : (⟨2, ![l, 1024]⟩ : Shape).Idx → EReal} {x : Mat n} {x' : Mat n'} {g g' h h' : Mat 1}

theorem out_congr {i : (⟨2, ![n, 1024]⟩ : Shape).Idx} {i' : (⟨2, ![n', 1024]⟩ : Shape).Idx} (hj : (i 1 : ℕ) = (i' 1 : ℕ))
    (ha : ∀ k, a (ix2 (i 0) k) = a' (ix2 (i' 0) k)) (hw : w = w') : out a w i = out a' w' i' := by
  have e : (i 1 : Fin 1024) = i' 1 := Fin.ext hj
  rw [out, out, mat, mat, e]
  exact rows_congr ha fun _ => congrFun hw _

theorem next_congr {i : (⟨2, ![n, 1024]⟩ : Shape).Idx} {i' : (⟨2, ![n', 1024]⟩ : Shape).Idx} (hj : (i 1 : ℕ) = (i' 1 : ℕ))
    (ha : ∀ k, a (ix2 (i 0) k) = a' (ix2 (i' 0) k)) (hw : w = w') (hx : ∀ k, x (ix2 (i 0) k) = x' (ix2 (i' 0) k)) (hg : g = g') :
    next a w x g i = next a' w' x' g' i' := by
  have e : (i 1 : Fin 1024) = i' 1 := Fin.ext hj
  rw [next, next, mat, mat, e]
  exact onto_congr hx (fun k => out_congr (i := ix2 (i 0) k) (i' := ix2 (i' 0) k) rfl ha hw) (fun _ => congrFun hg _) _

theorem head_congr {i : (⟨2, ![n, 1024]⟩ : Shape).Idx} {i' : (⟨2, ![n', 1024]⟩ : Shape).Idx} (hj : (i 1 : ℕ) = (i' 1 : ℕ))
    (ha : ∀ k, a (ix2 (i 0) k) = a' (ix2 (i' 0) k)) (hw : w = w') (hx : ∀ k, x (ix2 (i 0) k) = x' (ix2 (i' 0) k)) (hg : g = g')
    (hh : h = h') : head a w x g h i = head a' w' x' g' h' i' := by
  have e : (i 1 : Fin 1024) = i' 1 := Fin.ext hj
  rw [head, head, mat, mat, e]
  exact normed_congr (fun k => next_congr (i := ix2 (i 0) k) (i' := ix2 (i' 0) k) rfl ha hw hx hg) (fun _ => congrFun hh _) _

end Cert.Residual

end
-- ==== Proof.Down.lean ====
module

public import proofs.«01_k».proof.Proof.Gen.Kernel10Ideal.Value
public import proofs.«01_k».proof.Proof.Gen.Reference10Ideal.Run
public import proofs.«01_k».proof.Proof.Gen.Reference10Ideal.Read
public import proofs.«01_k».proof.Proof.Residual
public import proofs.«01_k».proof.Defs
public import Idealize.ShloMosaic.Adequacy
public import Idealize.ShloMosaic.Init

/-! The feed-forward part's second product, its post-norm onto the residual stream, and the next layer's pre-norm. -/

@[expose] public section

set_option maxRecDepth 16384

noncomputable section

namespace Cert.Kernel10Ideal.Down

open Idealize.ShloMosaic Idealize.ShloMosaic.TcCoe Idealize.ShloMosaic.Tactic
open Idealize.SL Idealize.SL.Sem
open Cert.Loads Cert.Products Cert.Norm Cert.Residual
open Cert.Kernel10Ideal Cert.Kernel10Ideal.Gen

theorem out_eq (a : Vec Ideal S512x4096 .bf16) (w : Vec Ideal S4096x1024 .bf16) (x : Vec Ideal S512x1024 .f32) (g g' : Vec Ideal S1x1024 .f32) :
    out0_5 a w x g g' = out a w := by
  funext y
  unfold out0_5
  canon_tiles z h
  obtain rfl := at2 y z h0 h1
  obtain ⟨p, q, rfl⟩ : ∃ (p : Fin 512) (q : Fin 1024), y = ix2 p q := ⟨y 0, y 1, eq_ix2 y⟩
  rw [ld2_all, ld2_all]
  pointwise [k0_pay1, out, rows]

theorem next_eq (a : Vec Ideal S512x4096 .bf16) (w : Vec Ideal S4096x1024 .bf16) (x : Vec Ideal S512x1024 .f32) (g g' : Vec Ideal S1x1024 .f32) :
    out0_6 a w x g g' = next a w x g := by
  funext y
  unfold out0_6
  canon_tiles z h
  obtain rfl := at2 y z h0 h1
  obtain ⟨p, q, rfl⟩ : ∃ (p : Fin 512) (q : Fin 1024), y = ix2 p q := ⟨y 0, y 1, eq_ix2 y⟩
  rw [ld2_all, ld2_all, ld2_all, ld2_all]
  pointwise [k0_pay2, k0_pay1, next, onto, normed, out, rows, root, meanSq, row]

theorem head_eq (a : Vec Ideal S512x4096 .bf16) (w : Vec Ideal S4096x1024 .bf16) (x : Vec Ideal S512x1024 .f32) (g g' : Vec Ideal S1x1024 .f32) :
    out0_7 a w x g g' = head a w x g g' := by
  funext y
  unfold out0_7
  canon_tiles z h
  obtain rfl := at2 y z h0 h1
  obtain ⟨p, q, rfl⟩ : ∃ (p : Fin 512) (q : Fin 1024), y = ix2 p q := ⟨y 0, y 1, eq_ix2 y⟩
  rw [ld2_all, ld2_all, ld2_all, ld2_all, ld2_all]
  pointwise [k0_pay3, k0_pay2, k0_pay1, head, next, onto, normed, out, rows, root, meanSq, row]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

section arrays

variable (m : (ℓ : Loc nD τ sig) → Buf (Elt Ideal) ℓ) (c : Dev nD)

theorem weights (t : Fin cfg0.N) : iblk m c 1 t = m ((c : Thread nD τ).loc main_arg1) := by
  funext i
  blk_ext [iblk, V, index1 t]

theorem gain (t : Fin cfg0.N) : iblk m c 3 t = m ((c : Thread nD τ).loc main_arg3) := by
  funext i
  blk_ext [iblk, V, index3 t]

theorem gain' (t : Fin cfg0.N) : iblk m c 4 t = m ((c : Thread nD τ).loc main_arg4) := by
  funext i
  blk_ext [iblk, V, index4 t]

theorem out_final : (dats m 0 c).arrAt 5 cfg0.N = out (m ((c : Thread nD τ).loc main_arg0)) (m ((c : Thread nD τ).loc main_arg1)) := by
  refine (dats m 0 c).arrAt_eq_of_covers 5 _ (by decide +kernel) fun t hf y => ?_
  blk_simp
  rw [after0_5, out_eq]
  refine out_congr ?_ (fun k => ?_) (weights m c t)
  · blk_simp [index5 t]
  · blk_ext [iblk, V, index0 t, index5 t]

theorem next_final : (dats m 0 c).arrAt 6 cfg0.N = next (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6, next_eq]
  refine next_congr ?_ (fun k => ?_) (weights m c t) (fun k => ?_) (gain m c t)
  · blk_simp [index6 t]
  · blk_ext [iblk, V, index0 t, index6 t]
  · blk_ext [iblk, V, index2 t, index6 t]

theorem head_final : (dats m 0 c).arrAt 7 cfg0.N = head (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, head_eq]
  refine head_congr ?_ (fun k => ?_) (weights m c t) (fun k => ?_) (gain m c t) (gain' m c t)
  · blk_simp [index7 t]
  · blk_ext [iblk, V, index0 t, index7 t]
  · blk_ext [iblk, V, index2 t, index7 t]

end arrays

section reference

open Cert.Reference10Ideal.Read

variable (a : S4096x4096.Idx → EReal) (w : S4096x1024.Idx → EReal) (x : S4096x1024.Idx → EReal) (g h : S1x1024.Idx → EReal)

theorem reference_out : val_main_v2 (F := Ideal) a w = out a w := by
  funext i
  obtain ⟨p, q, rfl⟩ : ∃ (p : Fin 4096) (q : Fin 1024), i = ix2 p q := ⟨i 0, i 1, eq_ix2 i⟩
  have el : ∀ k, lidx_main_v2 (ix2 p q) k = ix2 p k := fun k => at2 _ _ rfl rfl
  have er : ∀ k, ridx_main_v2 (ix2 p q) k = ix2 k q := fun k => at2 _ _ rfl rfl
  rw [val_main_v2_apply]
  simp only [el, er, val_main_v0_apply, val_main_v1_apply]
  rfl

theorem reference_root (p : Fin 4096) (z : Fin 1) : val_main_v10 (F := Ideal) a w (ix2 p z) = root (row (out a w) p) := by
  have e : ∀ k, idx_main_v4 (idx_main_v5 (ix2 p z)) k = ix2 p k := fun k => at2 _ _ rfl rfl
  rw [val_main_v10_apply, val_main_v9_apply, val_main_v7_apply, val_main_v5_apply, val_main_v4_apply, val_main_v6_apply, val_main_v8_apply]
  simp only [e, val_main_v3_apply, reference_out, val_main_cst_apply, val_main_cst_0_apply, val_main_cst_1_apply]
  pointwise [root, meanSq, row]

theorem reference_next : val_main_v15 (F := Ideal) a w x g = next a w x g := by
  funext i
  obtain ⟨p, q, rfl⟩ : ∃ (p : Fin 4096) (q : Fin 1024), i = ix2 p q := ⟨i 0, i 1, eq_ix2 i⟩
  have er : idx_main_v11 (ix2 p q) = ix2 p 0 := at2 _ _ rfl rfl
  have eg : idx_main_v13 (ix2 p q) = ix2 0 q := at2 _ _ rfl rfl
  rw [val_main_v15_apply, val_main_v14_apply, val_main_v12_apply, val_main_v13_apply, val_main_v11_apply, er, eg, reference_root, reference_out]
  rfl

theorem reference_root' (p : Fin 4096) (z : Fin 1) : val_main_v23 (F := Ideal) a w x g (ix2 p z) = root (row (next a w x g) p) := by
  have e : ∀ k, idx_main_v17 (idx_main_v18 (ix2 p z)) k = ix2 p k := fun k => at2 _ _ rfl rfl
  rw [val_main_v23_apply, val_main_v22_apply, val_main_v20_apply, val_main_v18_apply, val_main_v17_apply, val_main_v19_apply, val_main_v21_apply]
  simp only [e, val_main_v16_apply, reference_next, val_main_cst_2_apply, val_main_cst_3_apply, val_main_cst_4_apply]
  pointwise [root, meanSq, row]

theorem reference_head : val_main_v28 (F := Ideal) a w x g h = head a w x g h := by
  funext i
  obtain ⟨p, q, rfl⟩ : ∃ (p : Fin 4096) (q : Fin 1024), i = ix2 p q := ⟨i 0, i 1, eq_ix2 i⟩
  have er : idx_main_v24 (ix2 p q) = ix2 p 0 := at2 _ _ rfl rfl
  have eg : idx_main_v26 (ix2 p q) = ix2 0 q := at2 _ _ rfl rfl
  rw [val_main_v28_apply, val_main_v27_apply, val_main_v25_apply, val_main_v26_apply, val_main_v24_apply, er, eg, reference_root', reference_next]
  rfl

end reference

/-- The reference runs, its arguments end as they were, and it has no semaphore that could be left raised. -/
theorem reference_frame : @Cert.quiescent_Reference10Ideal Cert.Reference10Ideal.Gen.facts := fun m ρ _ =>
  (θ_run Cert.Reference10Ideal.defs _ _).mono
    (fun r h => ⟨fun c => (h c).2.2.2, sem_eq_zero_of_no_sems (by decide) r.2⟩)
    (Cert.Reference10Ideal.Value.run (F := Ideal) m ρ)

open Cert.Reference10Ideal.Read in
/-- The kernel and the reference end with the same three arrays. -/
theorem equal : @Cert.algebraic_Kernel10Ideal_Reference10Ideal Cert.Kernel10Ideal.Gen.facts Cert.Reference10Ideal.Gen.facts := by
  intro m g m' g' _ hargs
  refine ⟨fun c => (dats m 0 c).arrAt 5 cfg0.N, fun c => (dats m 0 c).arrAt 6 cfg0.N, fun c => (dats m 0 c).arrAt 7 cfg0.N,
    Cert.Kernel10Ideal.Value.run_blocks m g, ?_⟩
  refine (θ_run _ _ _).mono (fun r h c => ?_) (Cert.Reference10Ideal.Value.run m' g')
  obtain ⟨h2, h15, h28, hrest⟩ := h c
  obtain ⟨e0, e1, e2, e3, e4⟩ := hargs c
  refine ⟨h2.trans ?_, h15.trans ?_, h28.trans ?_, hrest⟩
  · rw [val_main_v2_eq, e0, e1]
    exact (reference_out _ _).trans (out_final m c).symm
  · rw [val_main_v15_eq, e0, e1, e2, e3]
    exact (reference_next _ _ _ _).trans (next_final m c).symm
  · rw [val_main_v28_eq, e0, e1, e2, e3, e4]
    exact (reference_head _ _ _ _ _).trans (head_final m c).symm

end Cert.Kernel10Ideal.Down

end
-- ==== Proof.Mix.lean ====
module

public import proofs.«01_k».proof.Proof.Gen.Kernel11Ideal.Value
public import proofs.«01_k».proof.Proof.Gen.Reference11Ideal.Run
public import proofs.«01_k».proof.Proof.Gen.Reference11Ideal.Read
public import proofs.«01_k».proof.Proof.Residual
public import proofs.«01_k».proof.Defs
public import Idealize.ShloMosaic.Adequacy
public import Idealize.ShloMosaic.Init

/-! A mixer's output projection, its post-norm onto the residual stream, and the next part's pre-norm. -/

@[expose] public section

set_option maxRecDepth 16384

noncomputable section

namespace Cert.Kernel11Ideal.Mix

open Idealize.ShloMosaic Idealize.ShloMosaic.TcCoe Idealize.ShloMosaic.Tactic
open Idealize.SL Idealize.SL.Sem
open Cert.Loads Cert.Products Cert.Norm Cert.Residual
open Cert.Kernel11Ideal Cert.Kernel11Ideal.Gen

theorem out_eq (a : Vec Ideal S512x1024 .bf16) (w : Vec Ideal S1024x1024 .bf16) (x : Vec Ideal S512x1024 .f32) (g g' : Vec Ideal S1x1024 .f32) :
    out0_5 a w x g g' = out a w := by
  funext y
  unfold out0_5
  canon_tiles z h
  obtain rfl := at2 y z h0 h1
  obtain ⟨p, q, rfl⟩ : ∃ (p : Fin 512) (q : Fin 1024), y = ix2 p q := ⟨y 0, y 1, eq_ix2 y⟩
  rw [ld2_all, ld2_all]
  pointwise [k0_pay1, out, rows]

theorem next_eq (a : Vec Ideal S512x1024 .bf16) (w : Vec Ideal S1024x1024 .bf16) (x : Vec Ideal S512x1024 .f32) (g g' : Vec Ideal S1x1024 .f32) :
    out0_6 a w x g g' = next a w x g := by
  funext y
  unfold out0_6
  canon_tiles z h
  obtain rfl := at2 y z h0 h1
  obtain ⟨p, q, rfl⟩ : ∃ (p : Fin 512) (q : Fin 1024), y = ix2 p q := ⟨y 0, y 1, eq_ix2 y⟩
  rw [ld2_all, ld2_all, ld2_all, ld2_all]
  pointwise [k0_pay2, k0_pay1, next, onto, normed, out, rows, root, meanSq, row]

theorem head_eq (a : Vec Ideal S512x1024 .bf16) (w : Vec Ideal S1024x1024 .bf16) (x : Vec Ideal S512x1024 .f32) (g g' : Vec Ideal S1x1024 .f32) :
    out0_7 a w x g g' = head a w x g g' := by
  funext y
  unfold out0_7
  canon_tiles z h
  obtain rfl := at2 y z h0 h1
  obtain ⟨p, q, rfl⟩ : ∃ (p : Fin 512) (q : Fin 1024), y = ix2 p q := ⟨y 0, y 1, eq_ix2 y⟩
  rw [ld2_all, ld2_all, ld2_all, ld2_all, ld2_all]
  pointwise [k0_pay3, k0_pay2, k0_pay1, head, next, onto, normed, out, rows, root, meanSq, row]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

section arrays

variable (m : (ℓ : Loc nD τ sig) → Buf (Elt Ideal) ℓ) (c : Dev nD)

theorem weights (t : Fin cfg0.N) : iblk m c 1 t = m ((c : Thread nD τ).loc main_arg1) := by
  funext i
  blk_ext [iblk, V, index1 t]

theorem gain (t : Fin cfg0.N) : iblk m c 3 t = m ((c : Thread nD τ).loc main_arg3) := by
  funext i
  blk_ext [iblk, V, index3 t]

theorem gain' (t : Fin cfg0.N) : iblk m c 4 t = m ((c : Thread nD τ).loc main_arg4) := by
  funext i
  blk_ext [iblk, V, index4 t]

theorem out_final : (dats m 0 c).arrAt 5 cfg0.N = out (m ((c : Thread nD τ).loc main_arg0)) (m ((c : Thread nD τ).loc main_arg1)) := by
  refine (dats m 0 c).arrAt_eq_of_covers 5 _ (by decide +kernel) fun t hf y => ?_
  blk_simp
  rw [after0_5, out_eq]
  refine out_congr ?_ (fun k => ?_) (weights m c t)
  · blk_simp [index5 t]
  · blk_ext [iblk, V, index0 t, index5 t]

theorem next_final : (dats m 0 c).arrAt 6 cfg0.N = next (m ((c : Thread nD τ).loc main_arg0)) (m ((c : Thread nD τ).loc main_arg1))
    (m ((c : Thread nD τ).loc main_arg2)) (m ((c : Thread nD τ).loc main_arg3)) := by
  refine (dats m 0 c).arrAt_eq_of_covers 6 _ (by decide +kernel) fun t hf y => ?_
  blk_simp
  rw [after0_6, next_eq]
  refine next_congr ?_ (fun k => ?_) (weights m c t) (fun k => ?_) (gain m c t)
  · blk_simp [index6 t]
  · blk_ext [iblk, V, index0 t, index6 t]
  · blk_ext [iblk, V, index2 t, index6 t]

theorem head_final : (dats m 0 c).arrAt 7 cfg0.N = head (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, head_eq]
  refine head_congr ?_ (fun k => ?_) (weights m c t) (fun k => ?_) (gain m c t) (gain' m c t)
  · blk_simp [index7 t]
  · blk_ext [iblk, V, index0 t, index7 t]
  · blk_ext [iblk, V, index2 t, index7 t]

end arrays

section reference

open Cert.Reference11Ideal.Read

variable (a : S4096x1024.Idx → EReal) (w : S1024x1024.Idx → EReal) (x : S4096x1024.Idx → EReal) (g h : S1x1024.Idx → EReal)

theorem reference_out : val_main_v2 (F := Ideal) a w = out a w := by
  funext i
  obtain ⟨p, q, rfl⟩ : ∃ (p : Fin 4096) (q : Fin 1024), i = ix2 p q := ⟨i 0, i 1, eq_ix2 i⟩
  have el : ∀ k, lidx_main_v2 (ix2 p q) k = ix2 p k := fun k => at2 _ _ rfl rfl
  have er : ∀ k, ridx_main_v2 (ix2 p q) k = ix2 k q := fun k => at2 _ _ rfl rfl
  rw [val_main_v2_apply]
  simp only [el, er, val_main_v0_apply, val_main_v1_apply]
  rfl

theorem reference_root (p : Fin 4096) (z : Fin 1) : val_main_v10 (F := Ideal) a w (ix2 p z) = root (row (out a w) p) := by
  have e : ∀ k, idx_main_v4 (idx_main_v5 (ix2 p z)) k = ix2 p k := fun k => at2 _ _ rfl rfl
  rw [val_main_v10_apply, val_main_v9_apply, val_main_v7_apply, val_main_v5_apply, val_main_v4_apply, val_main_v6_apply, val_main_v8_apply]
  simp only [e, val_main_v3_apply, reference_out, val_main_cst_apply, val_main_cst_0_apply, val_main_cst_1_apply]
  pointwise [root, meanSq, row]

theorem reference_next : val_main_v15 (F := Ideal) a w x g = next a w x g := by
  funext i
  obtain ⟨p, q, rfl⟩ : ∃ (p : Fin 4096) (q : Fin 1024), i = ix2 p q := ⟨i 0, i 1, eq_ix2 i⟩
  have er : idx_main_v11 (ix2 p q) = ix2 p 0 := at2 _ _ rfl rfl
  have eg : idx_main_v13 (ix2 p q) = ix2 0 q := at2 _ _ rfl rfl
  rw [val_main_v15_apply, val_main_v14_apply, val_main_v12_apply, val_main_v13_apply, val_main_v11_apply, er, eg, reference_root, reference_out]
  rfl

theorem reference_root' (p : Fin 4096) (z : Fin 1) : val_main_v23 (F := Ideal) a w x g (ix2 p z) = root (row (next a w x g) p) := by
  have e : ∀ k, idx_main_v17 (idx_main_v18 (ix2 p z)) k = ix2 p k := fun k => at2 _ _ rfl rfl
  rw [val_main_v23_apply, val_main_v22_apply, val_main_v20_apply, val_main_v18_apply, val_main_v17_apply, val_main_v19_apply, val_main_v21_apply]
  simp only [e, val_main_v16_apply, reference_next, val_main_cst_2_apply, val_main_cst_3_apply, val_main_cst_4_apply]
  pointwise [root, meanSq, row]

theorem reference_head : val_main_v28 (F := Ideal) a w x g h = head a w x g h := by
  funext i
  obtain ⟨p, q, rfl⟩ : ∃ (p : Fin 4096) (q : Fin 1024), i = ix2 p q := ⟨i 0, i 1, eq_ix2 i⟩
  have er : idx_main_v24 (ix2 p q) = ix2 p 0 := at2 _ _ rfl rfl
  have eg : idx_main_v26 (ix2 p q) = ix2 0 q := at2 _ _ rfl rfl
  rw [val_main_v28_apply, val_main_v27_apply, val_main_v25_apply, val_main_v26_apply, val_main_v24_apply, er, eg, reference_root', reference_next]
  rfl

end reference

/-- The reference runs, its arguments end as they were, and it has no semaphore that could be left raised. -/
theorem reference_frame : @Cert.quiescent_Reference11Ideal Cert.Reference11Ideal.Gen.facts := fun m ρ _ =>
  (θ_run Cert.Reference11Ideal.defs _ _).mono
    (fun r h => ⟨fun c => (h c).2.2.2, sem_eq_zero_of_no_sems (by decide) r.2⟩)
    (Cert.Reference11Ideal.Value.run (F := Ideal) m ρ)

open Cert.Reference11Ideal.Read in
/-- The kernel and the reference end with the same three arrays. -/
theorem equal : @Cert.algebraic_Kernel11Ideal_Reference11Ideal Cert.Kernel11Ideal.Gen.facts Cert.Reference11Ideal.Gen.facts := by
  intro m g m' g' _ hargs
  refine ⟨fun c => (dats m 0 c).arrAt 5 cfg0.N, fun c => (dats m 0 c).arrAt 6 cfg0.N, fun c => (dats m 0 c).arrAt 7 cfg0.N,
    Cert.Kernel11Ideal.Value.run_blocks m g, ?_⟩
  refine (θ_run _ _ _).mono (fun r h c => ?_) (Cert.Reference11Ideal.Value.run m' g')
  obtain ⟨h2, h15, h28, hrest⟩ := h c
  obtain ⟨e0, e1, e2, e3, e4⟩ := hargs c
  refine ⟨h2.trans ?_, h15.trans ?_, h28.trans ?_, hrest⟩
  · rw [val_main_v2_eq, e0, e1]
    exact (reference_out _ _).trans (out_final m c).symm
  · rw [val_main_v15_eq, e0, e1, e2, e3]
    exact (reference_next _ _ _ _).trans (next_final m c).symm
  · rw [val_main_v28_eq, e0, e1, e2, e3, e4]
    exact (reference_head _ _ _ _ _).trans (head_final m c).symm

end Cert.Kernel11Ideal.Mix

end
-- ==== Proof.Halves.lean ====
module

public import proofs.«01_k».proof.Proof.Gen.Kernel12Ideal.Value
public import proofs.«01_k».proof.Proof.Gen.Reference12Ideal.Run
public import proofs.«01_k».proof.Proof.Gen.Reference12Ideal.Read
public import proofs.«01_k».proof.Proof.Products
public import proofs.«01_k».proof.Defs
public import Idealize.ShloMosaic.Adequacy
public import Idealize.ShloMosaic.Init

/-! The gradient of the mixers' concatenation in its two halves. -/

@[expose] public section

set_option maxRecDepth 16384

noncomputable section

namespace Cert.Kernel12Ideal.Halves

open Idealize.ShloMosaic Idealize.ShloMosaic.TcCoe Idealize.ShloMosaic.Tactic
open Idealize.SL Idealize.SL.Sem
open Cert.Loads Cert.Products
open Cert.Kernel12Ideal Cert.Kernel12Ideal.Gen

theorem tile_apply (a : Vec Ideal S1024x1024 .bf16) (w : Vec Ideal S512x1024 .bf16) (x : S1024x512.Idx) :
    k0_pay2 a w x = rowsT a w (x 0) (x 1) := by
  obtain ⟨p, q, rfl⟩ : ∃ (p : Fin 1024) (q : Fin 512), x = ix2 p q := ⟨x 0, x 1, eq_ix2 x⟩
  pointwise [k0_pay2, rowsT]

/-- The weights' row that gives a half's column. -/
abbrev lower (j : Fin 512) : Fin 1024 := ⟨j.val, by omega⟩
abbrev upper (j : Fin 512) : Fin 1024 := ⟨512 + j.val, by omega⟩

theorem first_eq (a w : Vec Ideal S1024x1024 .bf16) (y : S1024x512.Idx) : out0_2 a w y = rowsT a w (y 0) (lower (y 1)) := by
  unfold out0_2
  canon_tiles z h
  obtain rfl := at2 y z h0 h1
  rw [ld2_all]
  exact (tile_apply a _ y).trans (rowsT_congr (fun k => rfl) fun k => ld2 w 0 0 _ _ _ (Nat.zero_add _).symm (Nat.zero_add _).symm)

theorem second_eq (a w : Vec Ideal S1024x1024 .bf16) (y : S1024x512.Idx) : out0_3 a w y = rowsT a w (y 0) (upper (y 1)) := by
  unfold out0_3
  canon_tiles z h
  obtain rfl := at2 y z h0 h1
  rw [ld2_all]
  exact (tile_apply a _ y).trans (rowsT_congr (fun k => rfl) fun k => ld2 w 512 0 _ _ _ rfl (Nat.zero_add _).symm)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

section arrays

variable (m : (ℓ : Loc nD τ sig) → Buf (Elt Ideal) ℓ) (c : Dev nD)

theorem weights (t : Fin cfg0.N) : iblk m c 1 t = m ((c : Thread nD τ).loc main_arg1) := by
  funext i
  blk_ext [iblk, V, index1 t]

theorem first_final : (dats m 0 c).arrAt 2 cfg0.N
      = fun y => rowsT (m ((c : Thread nD τ).loc main_arg0)) (m ((c : Thread nD τ).loc main_arg1)) (y 0) (lower (y 1)) := by
  refine (dats m 0 c).arrAt_eq_of_covers 2 _ (by decide +kernel) fun t hf y => ?_
  blk_simp
  obtain ⟨a, b, rfl⟩ : ∃ (a : Fin 1024) (b : Fin 512), y = ix2 a b := ⟨y 0, y 1, eq_ix2 y⟩
  rw [after0_2, first_eq]
  refine rowsT_congr (fun k => ?_) (fun k => ?_)
  · blk_ext [iblk, V, index0 t, index2 t]
  · rw [weights]
    exact congrArg (fun j => m ((c : Thread nD τ).loc main_arg1) (ix2 (lower j) k)) (Fin.ext (by blk_simp [index2 t]))

theorem second_final : (dats m 0 c).arrAt 3 cfg0.N
      = fun y => rowsT (m ((c : Thread nD τ).loc main_arg0)) (m ((c : Thread nD τ).loc main_arg1)) (y 0) (upper (y 1)) := by
  refine (dats m 0 c).arrAt_eq_of_covers 3 _ (by decide +kernel) fun t hf y => ?_
  blk_simp
  obtain ⟨a, b, rfl⟩ : ∃ (a : Fin 1024) (b : Fin 512), y = ix2 a b := ⟨y 0, y 1, eq_ix2 y⟩
  rw [after0_3, second_eq]
  refine rowsT_congr (fun k => ?_) (fun k => ?_)
  · blk_ext [iblk, V, index0 t, index3 t]
  · rw [weights]
    exact congrArg (fun j => m ((c : Thread nD τ).loc main_arg1) (ix2 (upper j) k)) (Fin.ext (by blk_simp [index3 t]))

end arrays

section reference

open Cert.Reference12Ideal.Read

variable (d : S4096x1024.Idx → EReal) (w : S1024x1024.Idx → EReal)

theorem reference_product (p : Fin 4096) (q : Fin 1024) : val_main_v6 (F := Ideal) d w (ix2 p q) = rowsT d w p q := by
  have el : ∀ k, lidx_main_v6 (ix2 p q) k = ix2 p k := fun k => at2 _ _ rfl rfl
  have er : ∀ k, ridx_main_v6 (ix2 p q) k = ix2 q k := fun k => at2 _ _ rfl rfl
  rw [val_main_v6_apply]
  simp only [el, er, val_main_v5_apply, val_main_v3_apply]
  rfl

theorem reference_first : val_main_v9 (F := Ideal) d w = fun y => rowsT d w (y 0) (lower (y 1)) := by
  funext i
  obtain ⟨p, q, rfl⟩ : ∃ (p : Fin 4096) (q : Fin 512), i = ix2 p q := ⟨i 0, i 1, eq_ix2 i⟩
  have e : idx_main_v7 (ix2 p q) = ix2 p (lower q) := at2 _ _ rfl rfl
  rw [val_main_v9_apply, val_main_v7_apply, e, reference_product]
  rfl

theorem reference_second : val_main_v8 (F := Ideal) d w = fun y => rowsT d w (y 0) (upper (y 1)) := by
  funext i
  obtain ⟨p, q, rfl⟩ : ∃ (p : Fin 4096) (q : Fin 512), i = ix2 p q := ⟨i 0, i 1, eq_ix2 i⟩
  have e : idx_main_v8 (ix2 p q) = ix2 p (upper q) := at2 _ _ rfl (show _ = 512 + q.val from rfl)
  rw [val_main_v8_apply, e, reference_product]
  rfl

end reference

/-- The reference runs, its arguments end as they were, and it has no semaphore that could be left raised. -/
theorem reference_frame : @Cert.quiescent_Reference12Ideal Cert.Reference12Ideal.Gen.facts := fun m ρ _ =>
  (θ_run Cert.Reference12Ideal.defs _ _).mono
    (fun r h => ⟨fun c => (h c).2.2, sem_eq_zero_of_no_sems (by decide) r.2⟩)
    (Cert.Reference12Ideal.Value.run (F := Ideal) m ρ)

open Cert.Reference12Ideal.Read in
/-- The kernel and the derivative end with the same two arrays. -/
theorem equal : @Cert.algebraic_Kernel12Ideal_Reference12Ideal Cert.Kernel12Ideal.Gen.facts Cert.Reference12Ideal.Gen.facts := by
  intro m g m' g' _ hargs
  refine ⟨fun c => (dats m 0 c).arrAt 2 cfg0.N, fun c => (dats m 0 c).arrAt 3 cfg0.N, Cert.Kernel12Ideal.Value.run_blocks m g, ?_⟩
  refine (θ_run _ _ _).mono (fun r h c => ?_) (Cert.Reference12Ideal.Value.run m' g')
  obtain ⟨h9, h8, hrest⟩ := h c
  obtain ⟨e0, e1⟩ := hargs c
  refine ⟨h9.trans ?_, h8.trans ?_, hrest⟩
  · rw [val_main_v9_eq, e0, e1]
    exact (reference_first _ _).trans (first_final m c).symm
  · rw [val_main_v8_eq, e0, e1]
    exact (reference_second _ _).trans (second_final m c).symm

end Cert.Kernel12Ideal.Halves

end
-- ==== Proof.Queries.lean ====
module

public import proofs.«01_k».proof.Proof.Gen.Kernel13Ideal.Value
public import proofs.«01_k».proof.Proof.Gen.Reference13Ideal.Run
public import proofs.«01_k».proof.Proof.Gen.Reference13Ideal.Read
public import proofs.«01_k».proof.Proof.Products
public import proofs.«01_k».proof.Defs
public import Idealize.ShloMosaic.Adequacy
public import Idealize.ShloMosaic.Init

/-! The cross-attention's queries. -/

@[expose] public section

set_option maxRecDepth 16384

noncomputable section

namespace Cert.Kernel13Ideal.Queries

open Idealize.ShloMosaic Idealize.ShloMosaic.TcCoe Idealize.ShloMosaic.Tactic
open Idealize.SL Idealize.SL.Sem
open Cert.Loads Cert.Products
open Cert.Kernel13Ideal Cert.Kernel13Ideal.Gen

theorem block_eq (a : Vec Ideal S1024x1024 .bf16) (w : Vec Ideal S1024x1024 .bf16) (y : S1024x1024.Idx) :
    out0_2 a w y = rows a w (y 0) (y 1) := by
  unfold out0_2
  canon_tiles z h
  obtain rfl := at2 y z h0 h1
  obtain ⟨p, q, rfl⟩ : ∃ (p : Fin 1024) (q : Fin 1024), y = ix2 p q := ⟨y 0, y 1, eq_ix2 y⟩
  rw [ld2_all, ld2_all]
  pointwise [k0_pay1, rows]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The array after the run. -/
theorem final (m : (ℓ : Loc nD τ sig) → Buf (Elt Ideal) ℓ) (c : Dev nD) :
    (dats m 0 c).arrAt 2 cfg0.N
      = fun y => rows (m ((c : Thread nD τ).loc main_arg0)) (m ((c : Thread nD τ).loc main_arg1)) (y 0) (y 1) := by
  refine (dats m 0 c).arrAt_eq_of_covers 2 _ (by decide +kernel) fun t hf y => ?_
  blk_simp
  obtain ⟨a, b, rfl⟩ : ∃ (a : Fin 1024) (b : Fin 1024), y = ix2 a b := ⟨y 0, y 1, eq_ix2 y⟩
  rw [after0_2, block_eq]
  refine rows_congr (fun k => ?_) (fun k => ?_)
  · blk_ext [iblk, V, index0 t, index2 t]
  · blk_ext [iblk, V, index1 t, index2 t]

open Cert.Reference13Ideal.Read in
theorem reference_eq (d : S4096x1024.Idx → EReal) (w : S1024x1024.Idx → EReal) :
    val_main_v3 (F := Ideal) d w = fun y => rows d w (y 0) (y 1) := by
  funext i
  obtain ⟨p, q, rfl⟩ : ∃ (p : Fin 4096) (q : Fin 1024), i = ix2 p q := ⟨i 0, i 1, eq_ix2 i⟩
  have el : ∀ k, lidx_main_v2 (ix2 p q) k = ix2 p k := fun k => at2 _ _ rfl rfl
  have er : ∀ k, ridx_main_v2 (ix2 p q) k = ix2 k q := fun k => at2 _ _ rfl rfl
  rw [val_main_v3_apply, val_main_v2_apply]
  simp only [el, er, val_main_v0_apply, val_main_v1_apply]
  rfl

/-- The reference runs, its arguments end as they were, and it has no semaphore that could be left raised. -/
theorem reference_frame : @Cert.quiescent_Reference13Ideal Cert.Reference13Ideal.Gen.facts := fun m ρ _ =>
  (θ_run Cert.Reference13Ideal.defs _ _).mono
    (fun r h => ⟨fun c => (h c).2, sem_eq_zero_of_no_sems (by decide) r.2⟩)
    (Cert.Reference13Ideal.Value.run (F := Ideal) m ρ)

open Cert.Reference13Ideal.Read in
/-- The kernel and the reference end with the same array. -/
theorem equal : @Cert.algebraic_Kernel13Ideal_Reference13Ideal Cert.Kernel13Ideal.Gen.facts Cert.Reference13Ideal.Gen.facts := by
  intro m g m' g' _ hargs
  refine ⟨fun c => (dats m 0 c).arrAt 2 cfg0.N, Cert.Kernel13Ideal.Value.run_blocks m g, ?_⟩
  refine (θ_run _ _ _).mono (fun r h c => ?_) (Cert.Reference13Ideal.Value.run m' g')
  obtain ⟨hd, hrest⟩ := h c
  obtain ⟨e0, e1⟩ := hargs c
  refine ⟨hd.trans ?_, hrest⟩
  rw [val_main_v3_eq, e0, e1]
  exact (reference_eq _ _).trans (final m c).symm

end Cert.Kernel13Ideal.Queries

end
-- ==== Proof.Project.lean ====
module

public import proofs.«01_k».proof.Proof.Gen.Kernel14Ideal.Value
public import proofs.«01_k».proof.Proof.Gen.Reference14Ideal.Run
public import proofs.«01_k».proof.Proof.Gen.Reference14Ideal.Read
public import proofs.«01_k».proof.Proof.Products
public import proofs.«01_k».proof.Defs
public import Idealize.ShloMosaic.Lib.Pipeline.ReadBack
public import Idealize.ShloMosaic.Lib.KernelVsHost
public import Idealize.ShloMosaic.Adequacy
public import Idealize.ShloMosaic.Init

/-! The combined projection of the queries, keys, values, the pooling mixer's input and the forget logits: the weights travel as rows
of shards, and the kernel takes the rows in another order than they have, with zeros after the last. -/

@[expose] public section

set_option maxRecDepth 16384

noncomputable section

namespace Cert.Kernel14Ideal.Project

open Idealize.ShloMosaic Idealize.ShloMosaic.TcCoe Idealize.ShloMosaic.Tactic
open Idealize.SL Idealize.SL.Sem
open Cert.Loads Cert.Products
open Cert.Kernel14Ideal Cert.Kernel14Ideal.Gen

/-- Row `j` of the weights as the kernel takes them: the first 1536 rows, then the rows that follow the eight forget gates' rows,
then those eight, then zeros. -/
def taken (u : S2056x1024.Idx → EReal) (j : Fin 2176) (k : Fin 1024) : EReal :=
  if h : j.val < 1536 then u (ix2 ⟨j.val, by omega⟩ k)
  else if h : j.val < 2048 then u (ix2 ⟨j.val + 8, by omega⟩ k)
  else if h : j.val < 2056 then u (ix2 ⟨j.val - 512, by omega⟩ k)
  else 0

/-- All of them. -/
def packed (u : S2056x1024.Idx → EReal) : S2176x1024.Idx → EReal := fun i => taken u (i 0) (i 1)

/-- The weights' row that gives a column of the second result. -/
abbrev after (j : Fin 640) : Fin 2176 := ⟨1536 + j.val, by omega⟩
/-- The weights' row that gives a column of the first result. -/
abbrev before (j : Fin 1536) : Fin 2176 := ⟨j.val, by omega⟩

theorem tile_apply (a : Vec Ideal S512x1024 .bf16) (w : Vec Ideal S640x1024 .bf16) (x : S512x640.Idx) :
    k0_pay4 a w x = rowsT a w (x 0) (x 1) := by
  obtain ⟨p, q, rfl⟩ : ∃ (p : Fin 512) (q : Fin 640), x = ix2 p q := ⟨x 0, x 1, eq_ix2 x⟩
  pointwise [k0_pay4, rowsT]

theorem narrow_apply (a : Vec Ideal S512x1024 .bf16) (w : Vec Ideal S640x1024 .bf16) (x : S512x640.Idx) :
    k0_pay1 a w x = rowsT a w (x 0) (x 1) := by
  obtain ⟨p, q, rfl⟩ : ∃ (p : Fin 512) (q : Fin 640), x = ix2 p q := ⟨x 0, x 1, eq_ix2 x⟩
  pointwise [k0_pay1, rowsT]

theorem last_apply (a : Vec Ideal S512x1024 .bf16) (w : Vec Ideal S256x1024 .bf16) (x : S512x256.Idx) :
    k0_pay3 a w x = rowsT a w (x 0) (x 1) := by
  obtain ⟨p, q, rfl⟩ : ∃ (p : Fin 512) (q : Fin 256), x = ix2 p q := ⟨x 0, x 1, eq_ix2 x⟩
  pointwise [k0_pay3, rowsT]

/-- A tile's row of weights is the array's row that far down. -/
theorem tile_row {n : ℕ} (w : Vec Ideal S2176x1024 .bf16) (o : ℕ)
    (i : ∀ a, (![o, 0] : Fin 2 → ℕ) a + (![n, 1024] : Fin 2 → ℕ) a ≤ S2176x1024.size a) (q : Fin n) (j : Fin 2176) (h : j.val = o + q.val) (k : Fin 1024) :
    View.ld (Val := Elt Ideal) w (Rect.unit (s := S2176x1024) ![o, 0] ![n, 1024] i) (ix2 q k) = w (ix2 j k) :=
  ld2 w o 0 i (ix2 q k) (ix2 j k) h (Nat.zero_add _).symm

variable (m : (ℓ : Loc nD τ sig) → Buf (Elt Ideal) ℓ) (c : Dev nD)

theorem first_eq (t : Fin cfg0.N) (y : S512x1536.Idx) :
    (outsAt0 m c t).1 y = rowsT (iblk m c 0 t) (iblk m c 1 t) (y 0) (before (y 1)) := by
  unfold outsAt0
  frame_open
  simp (disch := decide) only [↓ View.readCov_skip, ↓ View.readCov_cons_toLoadRect, ↓ View.readCov_fill]
  frame_out
  canon_tiles x h using View.cover_of_tiledBy _ ![512, 128] (by sl_kernel_rfl) _
  · exact (last_apply _ _ x).trans (rowsT_congr (fun k => congrArg (iblk m c 0 t) (at2 _ _ h0.symm rfl))
      fun k => tile_row _ _ _ _ (before (y 1)) h1 k)
  · exact (narrow_apply _ _ x).trans (rowsT_congr (fun k => congrArg (iblk m c 0 t) (at2 _ _ h0.symm rfl))
      fun k => tile_row _ _ _ _ (before (y 1)) h1 k)
  · exact (narrow_apply _ _ x).trans (rowsT_congr (fun k => congrArg (iblk m c 0 t) (at2 _ _ h0.symm rfl))
      fun k => tile_row _ _ _ _ (before (y 1)) (h1.trans (Nat.zero_add _).symm) k)

theorem second_eq (t : Fin cfg0.N) (y : S512x640.Idx) :
    (outsAt0 m c t).2 y = rowsT (iblk m c 0 t) (iblk m c 1 t) (y 0) (after (y 1)) := by
  unfold outsAt0
  frame_open
  simp (disch := decide) only [↓ View.readCov_skip, ↓ View.readCov_cons_toLoadRect, ↓ View.readCov_fill]
  frame_out
  exact (tile_apply _ _ y).trans (rowsT_congr (fun k => rfl) fun k => tile_row _ _ _ _ (after (y 1)) rfl k)

/-- The rows the kernel's host code takes the shards apart into. -/
abbrev natural (x : S8x272x1024.Idx → EReal) : S2056x1024.Idx → EReal :=
  shapeCast (α := EReal) S2056x1024 (extractStridedSlice S8x257x1024 ![0, 0, 0] x slices_S8x272x1024_S8x257x1024_0_0_0) shapeCasts_S8x257x1024_S2056x1024

theorem joined {a a' : S1536x1024.Idx → EReal} {b b' : S512x1024.Idx → EReal} {d d' : S128x1024.Idx → EReal} (ha : a = a') (hb : b = b')
    (hd : d = d') (h : Shape.Concatenates [S1536x1024, S512x1024, S128x1024] S2176x1024 0) :
    concatenate S2176x1024 0 [⟨S1536x1024, a⟩, ⟨S512x1024, b⟩, ⟨S128x1024, d⟩] h = concatenate S2176x1024 0 [⟨S1536x1024, a'⟩, ⟨S512x1024, b'⟩, ⟨S128x1024, d'⟩] h := by
  rw [ha, hb, hd]

theorem host_weights : @Eq (S2176x1024.Idx → EReal) (V m c main_v6) (packed (natural (m ((c : Thread nD τ).loc main_arg1)))) := by
  simp only [V, List.flatten_cons, List.flatten_nil, List.append_nil, hostOps0, hostOps0_1, hostOps0_2, List.cons_append, List.nil_append]
  after_results
  refine (joined (a' := extractStridedSlice S1536x1024 ![0, 0] (natural (m ((c : Thread nD τ).loc main_arg1))) slices_S2056x1024_S1536x1024_0_0)
    (b' := extractStridedSlice S512x1024 ![1544, 0] (natural (m ((c : Thread nD τ).loc main_arg1))) slices_S2056x1024_S512x1024_1544_0)
    (d' := pad S128x1024 ![0, 0] ![120, 0] ![0, 0] (extractStridedSlice S8x1024 ![1536, 0] (natural (m ((c : Thread nD τ).loc main_arg1))) slices_S2056x1024_S8x1024_1536_0)
      (fun _ : S_.Idx => FloatOps.sitofp (F := Ideal) .bf16 (0#32)) pads_S8x1024_S128x1024_01200_000 h_S_)
    ?_ ?_ ?_ _).trans ?_
  · change HloOp.result _ _ (Proc.tc.devRef main_v4) = _
    after_results_simp
    rfl
  · change HloOp.result _ _ (Proc.tc.devRef main_v5) = _
    after_results_simp
    rfl
  · change HloOp.result _ _ (Proc.tc.devRef main_v3) = _
    after_results_simp
    rfl
  · funext i
    obtain ⟨p, q, rfl⟩ : ∃ (p : Fin 2176) (q : Fin 1024), i = ix2 p q := ⟨i 0, i 1, eq_ix2 i⟩
    generalize natural _ = u
    have z : FloatOps.sitofp (F := Ideal) .bf16 (0#32) = (0 : EReal) := sitofp_zero (φ := .bf16)
    pointwise [packed]
    by_cases h0 : p.val < 1536
    · rw [dif_pos h0]
      exact Eq.symm (by rw [taken, dif_pos h0])
    rw [dif_neg h0]
    by_cases h1 : p.val < 2048
    · rw [dif_pos (by omega)]
      refine Eq.trans ?_ (show taken u p q = u (ix2 ⟨p.val + 8, by omega⟩ q) by rw [taken, dif_neg h0, dif_pos h1]).symm
      exact congrArg u (at2 _ _ (show 1544 + (p.val - 1536) = p.val + 8 by omega) rfl)
    rw [dif_neg (by omega)]
    by_cases h2 : p.val < 2056
    · rw [dif_pos (by omega)]
      refine Eq.trans ?_ (show taken u p q = u (ix2 ⟨p.val - 512, by omega⟩ q) by rw [taken, dif_neg h0, dif_neg h1, dif_pos h2]).symm
      exact congrArg u (at2 _ _ (show 1536 + (p.val - 1536 - 512) = p.val - 512 by omega) rfl)
    · rw [dif_neg (by omega)]
      exact z.trans (show taken u p q = 0 by rw [taken, dif_neg h0, dif_neg h1, dif_neg h2]).symm

section reference

open Cert.Reference14Ideal.Read

variable (h : S4096x1024.Idx → EReal) (g : S8x272x1024.Idx → EReal)

theorem reference_product (p : Fin 4096) (q : Fin 2056) :
    val_main_v5 (F := Ideal) h g (ix2 p q) = rowsT h (natural g) p q := by
  have el : ∀ k, lidx_main_v5 (ix2 p q) k = ix2 p k := fun k => at2 _ _ rfl rfl
  have er : ∀ k, idx_main_v4 (ridx_main_v5 (ix2 p q) k) = ix2 q k := fun k => at2 _ _ rfl rfl
  rw [val_main_v5_apply]
  simp only [el, er, val_main_v4_apply, val_main_v3_apply, val_main_v0_apply]
  rfl

theorem reference_first : val_main_v9 (F := Ideal) h g = fun y => rowsT h (packed (natural g)) (y 0) (before (y 1)) := by
  funext i
  obtain ⟨p, q, rfl⟩ : ∃ (p : Fin 4096) (q : Fin 1536), i = ix2 p q := ⟨i 0, i 1, eq_ix2 i⟩
  have e : idx_main_v8 (ix2 p q) = ix2 p ⟨q.val, by omega⟩ := at2 _ _ rfl rfl
  rw [val_main_v9_apply, val_main_v8_apply, e, reference_product]
  exact rowsT_congr (fun k => rfl) fun k => (show taken _ (before q) k = _ from dif_pos q.isLt).symm

theorem reference_second : val_main_v11 (F := Ideal) h g = fun y => rowsT h (packed (natural g)) (y 0) (after (y 1)) := by
  funext i
  obtain ⟨p, q, rfl⟩ : ∃ (p : Fin 4096) (q : Fin 640), i = ix2 p q := ⟨i 0, i 1, eq_ix2 i⟩
  pointwise [val_main_v11, val_main_v7]
  by_cases h0 : q.val < 512
  · have e : idx_main_v10 (ix2 p ⟨q.val, h0⟩) = ix2 p ⟨1544 + q.val, by omega⟩ := at2 _ _ rfl rfl
    rw [dif_pos h0, val_main_v10_apply, e, reference_product]
    refine rowsT_congr (fun k => rfl) fun k => Eq.symm ?_
    show taken _ (after q) k = _
    rw [taken, dif_neg (by show ¬1536 + q.val < 1536; omega), dif_pos (by show 1536 + q.val < 2048; omega)]
    exact congrArg (natural g) (at2 _ _ (by show 1536 + q.val + 8 = 1544 + q.val; omega) rfl)
  rw [dif_neg h0]
  by_cases h1 : q.val - 512 < 8
  · have e : idx_main_v6 (ix2 p ⟨q.val - 512, h1⟩) = ix2 p ⟨1536 + (q.val - 512), by omega⟩ := at2 _ _ rfl rfl
    rw [dif_pos h1, val_main_v6_apply, e, reference_product]
    refine rowsT_congr (fun k => rfl) fun k => Eq.symm ?_
    show taken _ (after q) k = _
    rw [taken, dif_neg (by show ¬1536 + q.val < 1536; omega), dif_neg (by show ¬1536 + q.val < 2048; omega),
      dif_pos (by show 1536 + q.val < 2056; omega)]
    exact congrArg (natural g) (at2 _ _ (by show 1536 + q.val - 512 = 1536 + (q.val - 512); omega) rfl)
  · rw [dif_neg h1]
    refine Eq.trans ?_ (Finset.sum_eq_zero fun k _ => ?_).symm
    · rw [val_main_call0_v0_apply, val_main_c_apply]
      exact sitofp_zero (φ := .f32)
    · have e : packed (natural g) (ix2 (after q) k) = 0 := by
        show taken _ (after q) k = _
        rw [taken, dif_neg (by show ¬1536 + q.val < 1536; omega), dif_neg (by show ¬1536 + q.val < 2048; omega),
          dif_neg (by show ¬1536 + q.val < 2056; omega)]
      rw [e, mul_zero]

end reference

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

theorem weights (t : Fin cfg0.N) : iblk m c 1 t = packed (natural (m ((c : Thread nD τ).loc main_arg1))) := by
  rw [← host_weights]
  funext i
  blk_ext [iblk, index1 t]

theorem rows_at (t : Fin cfg0.N) (i : S512x1024.Idx) (j : S4096x1024.Idx) (h0 : (j 0).val = t.val * 512 + (i 0).val) (h1 : (j 1).val = (i 1).val) :
    iblk m c 0 t i = m ((c : Thread nD τ).loc main_arg0) j := by
  rw [← V_main_arg0 m c]
  blk_ext [iblk, index0 t]

theorem first_final : (dats m 0 c).arrAt 2 cfg0.N
      = fun y => rowsT (m ((c : Thread nD τ).loc main_arg0)) (packed (natural (m ((c : Thread nD τ).loc main_arg1)))) (y 0) (before (y 1)) := by
  refine (dats m 0 c).arrAt_eq_of_covers 2 _ (by decide +kernel) fun t hf y => ?_
  blk_simp
  obtain ⟨a, b, rfl⟩ : ∃ (a : Fin 512) (b : Fin 1536), y = ix2 a b := ⟨y 0, y 1, eq_ix2 y⟩
  rw [after0_2, first_eq, weights]
  refine rowsT_congr (fun k => rows_at m c t _ _ ?_ ?_) (fun k => ?_)
  · blk_simp [index2 t]
  · rfl
  · exact congrArg (fun j => packed (natural (m ((c : Thread nD τ).loc main_arg1))) (ix2 (before j) k)) (Fin.ext (by blk_simp [index2 t]))

theorem second_final : (dats m 0 c).arrAt 3 cfg0.N
      = fun y => rowsT (m ((c : Thread nD τ).loc main_arg0)) (packed (natural (m ((c : Thread nD τ).loc main_arg1)))) (y 0) (after (y 1)) := by
  refine (dats m 0 c).arrAt_eq_of_covers 3 _ (by decide +kernel) fun t hf y => ?_
  blk_simp
  obtain ⟨a, b, rfl⟩ : ∃ (a : Fin 512) (b : Fin 640), y = ix2 a b := ⟨y 0, y 1, eq_ix2 y⟩
  rw [after0_3, second_eq, weights]
  refine rowsT_congr (fun k => rows_at m c t _ _ ?_ ?_) (fun k => ?_)
  · blk_simp [index3 t]
  · rfl
  · exact congrArg (fun j => packed (natural (m ((c : Thread nD τ).loc main_arg1))) (ix2 (after j) k)) (Fin.ext (by blk_simp [index3 t]))

/-- The reference runs, its arguments end as they were, and it has no semaphore that could be left raised. -/
theorem reference_frame : @Cert.quiescent_Reference14Ideal Cert.Reference14Ideal.Gen.facts := fun m ρ _ =>
  (θ_run Cert.Reference14Ideal.defs _ _).mono
    (fun r h => ⟨fun c => (h c).2.2, sem_eq_zero_of_no_sems (by decide) r.2⟩)
    (Cert.Reference14Ideal.Value.run (F := Ideal) m ρ)

open Cert.Reference14Ideal.Read in
/-- The kernel and the mathematics end with the same two arrays. -/
theorem equal : @Cert.algebraic_Kernel14Ideal_Reference14Ideal Cert.Kernel14Ideal.Gen.facts Cert.Reference14Ideal.Gen.facts := by
  intro m g m' g' _ hargs
  refine ⟨fun c => (dats m 0 c).arrAt 2 cfg0.N, fun c => (dats m 0 c).arrAt 3 cfg0.N, Cert.Kernel14Ideal.Value.run_blocks m g, ?_⟩
  refine (θ_run _ _ _).mono (fun r h c => ?_) (Cert.Reference14Ideal.Value.run m' g')
  obtain ⟨h9, h11, hrest⟩ := h c
  obtain ⟨e0, e1⟩ := hargs c
  refine ⟨h9.trans ?_, h11.trans ?_, hrest⟩
  · rw [val_main_v9_eq, e0, e1]
    exact (reference_first _ _).trans (first_final m c).symm
  · rw [val_main_v11_eq, e0, e1]
    exact (reference_second _ _).trans (second_final m c).symm

end Cert.Kernel14Ideal.Project

end
-- ==== Proof.Side.lean ====
module

public import proofs.«01_k».proof.Proof.Gen.Reference15Ideal.Read
public import proofs.«01_k».proof.Proof.Loads

/-! The five parts of the input projections' gradient, side by side. -/

@[expose] public section

set_option maxRecDepth 16384

noncomputable section

namespace Cert.Side

open Idealize.ShloMosaic Idealize.ShloMosaic.TcCoe Idealize.ShloMosaic.Tactic
open Cert.Loads
open Cert.Reference15Ideal

/-- An entry of the five matrices side by side. -/
def side {n : ℕ} (a b e d : (⟨2, ![n, 512]⟩ : Shape).Idx → EReal) (f : (⟨2, ![n, 128]⟩ : Shape).Idx → EReal) (r : Fin n) (j : Fin 2176) : EReal :=
  if h : j.val < 512 then a (ix2 r ⟨j.val, h⟩)
  else if h : j.val < 1024 then b (ix2 r ⟨j.val - 512, by omega⟩)
  else if h : j.val < 1536 then e (ix2 r ⟨j.val - 1024, by omega⟩)
  else if h : j.val < 2048 then d (ix2 r ⟨j.val - 1536, by omega⟩)
  else f (ix2 r ⟨j.val - 2048, by omega⟩)

section side

variable {n : ℕ} (a b e d : (⟨2, ![n, 512]⟩ : Shape).Idx → EReal) (f : (⟨2, ![n, 128]⟩ : Shape).Idx → EReal) (r : Fin n) (j : Fin 2176)

theorem side0 (i : Fin 512) (h : j.val = 0 + i.val) : side a b e d f r j = a (ix2 r i) := by
  have := i.isLt
  rw [side, dif_pos (by omega)]
  exact congrArg a (at2 _ _ rfl (h.trans (Nat.zero_add _)))

theorem side1 (i : Fin 512) (h : j.val = 512 + i.val) : side a b e d f r j = b (ix2 r i) := by
  have := i.isLt
  rw [side, dif_neg (by omega), dif_pos (by omega)]
  exact congrArg b (at2 _ _ rfl (show j.val - 512 = i.val by omega))

theorem side2 (i : Fin 512) (h : j.val = 1024 + i.val) : side a b e d f r j = e (ix2 r i) := by
  have := i.isLt
  rw [side, dif_neg (by omega), dif_neg (by omega), dif_pos (by omega)]
  exact congrArg e (at2 _ _ rfl (show j.val - 1024 = i.val by omega))

theorem side3 (i : Fin 512) (h : j.val = 1536 + i.val) : side a b e d f r j = d (ix2 r i) := by
  have := i.isLt
  rw [side, dif_neg (by omega), dif_neg (by omega), dif_neg (by omega), dif_pos (by omega)]
  exact congrArg d (at2 _ _ rfl (show j.val - 1536 = i.val by omega))

theorem side4 (i : Fin 128) (h : j.val = 2048 + i.val) : side a b e d f r j = f (ix2 r i) := by
  rw [side, dif_neg (by omega), dif_neg (by omega), dif_neg (by omega), dif_neg (by omega)]
  exact congrArg f (at2 _ _ rfl (show j.val - 2048 = i.val by omega))

theorem side_congr {n' : ℕ} {a' b' e' d' : (⟨2, ![n', 512]⟩ : Shape).Idx → EReal} {f' : (⟨2, ![n', 128]⟩ : Shape).Idx → EReal} {r' : Fin n'}
    (ha : ∀ k, a (ix2 r k) = a' (ix2 r' k)) (hb : ∀ k, b (ix2 r k) = b' (ix2 r' k)) (he : ∀ k, e (ix2 r k) = e' (ix2 r' k))
    (hd : ∀ k, d (ix2 r k) = d' (ix2 r' k)) (hf : ∀ k, f (ix2 r k) = f' (ix2 r' k)) : side a b e d f r j = side a' b' e' d' f' r' j := by
  simp only [side, ha, hb, he, hd, hf]

/-- A sum over the columns, part by part. -/
theorem sum_side (w : Fin 2176 → EReal) : ∑ j, side a b e d f r j * w j
    = (∑ k : Fin 512, a (ix2 r k) * w ⟨0 + k.val, by omega⟩) + (∑ k : Fin 512, b (ix2 r k) * w ⟨512 + k.val, by omega⟩)
      + (∑ k : Fin 512, e (ix2 r k) * w ⟨1024 + k.val, by omega⟩) + (∑ k : Fin 512, d (ix2 r k) * w ⟨1536 + k.val, by omega⟩)
      + ∑ k : Fin 128, f (ix2 r k) * w ⟨2048 + k.val, by omega⟩ := by
  refine (Fin.sum_univ_add (a := 2048) (b := 128) _).trans (congrArg₂ (· + ·) ?_
    (Finset.sum_congr rfl fun k _ => congrArg₂ (· * ·) (side4 _ _ _ _ _ _ _ k rfl) rfl))
  refine (Fin.sum_univ_add (a := 1536) (b := 512) _).trans (congrArg₂ (· + ·) ?_
    (Finset.sum_congr rfl fun k _ => congrArg₂ (· * ·) (side3 _ _ _ _ _ _ _ k rfl) rfl))
  refine (Fin.sum_univ_add (a := 1024) (b := 512) _).trans (congrArg₂ (· + ·) ?_
    (Finset.sum_congr rfl fun k _ => congrArg₂ (· * ·) (side2 _ _ _ _ _ _ _ k rfl) rfl))
  exact (Fin.sum_univ_add (a := 512) (b := 512) _).trans (congrArg₂ (· + ·)
    (Finset.sum_congr rfl fun k _ => congrArg₂ (· * ·) (side0 _ _ _ _ _ _ _ k (Nat.zero_add _).symm) (congrArg w (Fin.ext (Nat.zero_add _).symm)))
    (Finset.sum_congr rfl fun k _ => congrArg₂ (· * ·) (side1 _ _ _ _ _ _ _ k rfl) rfl))

end side

open Cert.Reference15Ideal.Read in
/-- The five arrays joined along their columns hold the parts side by side. -/
theorem reference_side (x0 x1 x2 x3 : S4096x512.Idx → EReal) (x4 : S4096x128.Idx → EReal) (r : Fin 4096) (j : Fin 2176) :
    val_main_v1 (F := Ideal) x0 x1 x2 x3 x4 (ix2 r j) = side x0 x1 x2 x3 x4 r j := by
  rw [val_main_v1_apply]
  pointwise [val_main_v0, side]
  simp only [Nat.sub_sub, Nat.reduceAdd]
  by_cases h0 : j.val < 512
  · rw [dif_pos h0, dif_pos h0]
  by_cases h1 : j.val < 1024
  · rw [dif_neg h0, dif_pos (by omega), dif_neg h0, dif_pos h1]
  by_cases h2 : j.val < 1536
  · rw [dif_neg h0, dif_neg (by omega), dif_pos (by omega), dif_neg h0, dif_neg h1, dif_pos h2]
  by_cases h3 : j.val < 2048
  · rw [dif_neg h0, dif_neg (by omega), dif_neg (by omega), dif_pos (by omega), dif_neg h0, dif_neg h1, dif_neg h2, dif_pos h3]
  · rw [dif_neg h0, dif_neg (by omega), dif_neg (by omega), dif_neg (by omega), dif_neg h0, dif_neg h1, dif_neg h2, dif_neg h3]

end Cert.Side

end
-- ==== Proof.InGrad.lean ====
module

public import proofs.«01_k».proof.Proof.Gen.Kernel15Ideal.Value
public import proofs.«01_k».proof.Proof.Gen.Reference15Ideal.Run
public import proofs.«01_k».proof.Proof.Gen.Reference15Ideal.Read
public import proofs.«01_k».proof.Proof.Products
public import proofs.«01_k».proof.Proof.Side
public import proofs.«01_k».proof.Defs
public import Idealize.ShloMosaic.Lib.Pipeline.ReadBack
public import Idealize.ShloMosaic.Adequacy
public import Idealize.ShloMosaic.Init

/-! The gradient of the input projections' weights, all five of them side by side: the sums over the rows grow block of rows by
block of rows, and at the last block they are every row's. -/

@[expose] public section

set_option maxRecDepth 16384

noncomputable section

namespace Cert.Kernel15Ideal.InGrad

open Idealize.ShloMosaic Idealize.ShloMosaic.TcCoe Idealize.ShloMosaic.Tactic
open Idealize.SL Idealize.SL.Sem
open Cert.Loads Cert.Products Cert.Side
open Cert.Kernel15Ideal Cert.Kernel15Ideal.Gen

/-- What a block of 512 rows adds to an entry. -/
def added {n : ℕ} (a b e d : (⟨2, ![n, 512]⟩ : Shape).Idx → EReal) (f : (⟨2, ![n, 128]⟩ : Shape).Idx → EReal)
    (x : (⟨2, ![n, 1024]⟩ : Shape).Idx → EReal) (y : S2176x1024.Idx) : EReal := ∑ k, side a b e d f k (y 0) * x (ix2 k (y 1))

section tiles

variable (a b e d : Vec Ideal S512x512 .bf16) (f : Vec Ideal S512x128 .bf16) (x5 : Vec Ideal S512x1024 .bf16)

/-- A tile of 512 rows, from a part of the gradients. -/
theorem tile_at (s : Vec Ideal S512x512 .bf16) (old : Vec Ideal S512x1024 .f32) (x : S512x1024.Idx) (y : S2176x1024.Idx) (v : EReal)
    (hold : old x = v) (hs : ∀ k, side a b e d f k (y 0) = s (ix2 k (x 0))) (h1 : (y 1).val = (x 1).val) :
    k0_pay1 x5 old s x = v + added a b e d f x5 y := by
  have e' : k0_pay1 x5 old s x = old x + ∑ k, s (ix2 k (x 0)) * x5 (ix2 k (x 1)) := by
    obtain ⟨p, q, rfl⟩ : ∃ (p : Fin 512) (q : Fin 1024), x = ix2 p q := ⟨x 0, x 1, eq_ix2 x⟩
    pointwise [k0_pay1]
  rw [e', hold]
  exact congrArg (v + ·) (Finset.sum_congr rfl fun k _ => congrArg₂ (· * ·) (hs k).symm (congrArg x5 (at2 _ _ rfl h1.symm)))

/-- The last tile, of 128 rows. -/
theorem tile_last (s : Vec Ideal S512x128 .bf16) (old : Vec Ideal S128x1024 .f32) (x : S128x1024.Idx) (y : S2176x1024.Idx) (v : EReal)
    (hold : old x = v) (hs : ∀ k, side a b e d f k (y 0) = s (ix2 k (x 0))) (h1 : (y 1).val = (x 1).val) :
    k0_pay2 x5 old s x = v + added a b e d f x5 y := by
  have e' : k0_pay2 x5 old s x = old x + ∑ k, s (ix2 k (x 0)) * x5 (ix2 k (x 1)) := by
    obtain ⟨p, q, rfl⟩ : ∃ (p : Fin 128) (q : Fin 1024), x = ix2 p q := ⟨x 0, x 1, eq_ix2 x⟩
    pointwise [k0_pay2]
  rw [e', hold]
  exact congrArg (v + ·) (Finset.sum_congr rfl fun k _ => congrArg₂ (· * ·) (hs k).symm (congrArg x5 (at2 _ _ rfl h1.symm)))

end tiles

variable (m : (ℓ : Loc nD τ sig) → Buf (Elt Ideal) ℓ) (c : Dev nD) (t : Fin cfg0.N)

/-- The sums that the point before left. -/
abbrev carried : Vec Ideal S2176x1024 .f32 := (outsAt0 m c (t.val - 1) (Nat.lt_of_le_of_lt (Nat.sub_le _ _) t.isLt)).2

/-- What point `t` adds. -/
abbrev gained (t : Fin cfg0.N) (y : S2176x1024.Idx) : EReal :=
  added (iblk m c 0 t) (iblk m c 1 t) (iblk m c 2 t) (iblk m c 3 t) (iblk m c 4 t) (iblk m c 5 t) y

theorem sums_first (h0 : t.val % 8 = 0) (y : S2176x1024.Idx) : (outsAt0 m c t.val t.isLt).2 y = 0 + gained m c t y := by
  rw [outsAt0_A m c t h0 (by omega)]
  frame_open
  simp (disch := decide) only [↓ View.readCov_skip, ↓ View.readCov_cons_toLoadRect, ↓ View.readCov_fill]
  frame_out
  refine (canon_over y [_] [_, _, _, _, _] (View.cover_of_tiledBy _ ![128, 1024] (by sl_kernel_rfl) y)).trans ?_
  canon_tiles x h using View.cover_of_tiledBy _ ![128, 1024] (by sl_kernel_rfl) _
  · exact tile_last _ _ _ _ _ _ _ _ x y _ word_zero (fun k => side4 _ _ _ _ _ k _ _ h0) h1
  · exact tile_at _ _ _ _ _ _ _ _ x y _ word_zero (fun k => side3 _ _ _ _ _ k _ _ h0) h1
  · exact tile_at _ _ _ _ _ _ _ _ x y _ word_zero (fun k => side2 _ _ _ _ _ k _ _ h0) h1
  · exact tile_at _ _ _ _ _ _ _ _ x y _ word_zero (fun k => side1 _ _ _ _ _ k _ _ h0) h1
  · exact tile_at _ _ _ _ _ _ _ _ x y _ word_zero (fun k => side0 _ _ _ _ _ k _ _ (h0.trans (Nat.zero_add _).symm)) h1

theorem sums_later (h0 : ¬t.val % 8 = 0) (y : S2176x1024.Idx) : (outsAt0 m c t.val t.isLt).2 y = carried m c t y + gained m c t y := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    canon_tiles x h using View.cover_of_tiledBy _ ![128, 1024] (by sl_kernel_rfl) _
    all_goals rw [read_unread_whole]
    · exact tile_last _ _ _ _ _ _ _ _ x y _ (ld2 (carried m c t) 2048 0 _ _ _ h0 (h1.trans (Nat.zero_add _).symm))
        (fun k => side4 _ _ _ _ _ k _ _ h0) h1
    · exact tile_at _ _ _ _ _ _ _ _ x y _ (ld2 (carried m c t) 1536 0 _ _ _ h0 (h1.trans (Nat.zero_add _).symm))
        (fun k => side3 _ _ _ _ _ k _ _ h0) h1
    · exact tile_at _ _ _ _ _ _ _ _ x y _ (ld2 (carried m c t) 1024 0 _ _ _ h0 (h1.trans (Nat.zero_add _).symm))
        (fun k => side2 _ _ _ _ _ k _ _ h0) h1
    · exact tile_at _ _ _ _ _ _ _ _ x y _ (ld2 (carried m c t) 512 0 _ _ _ h0 (h1.trans (Nat.zero_add _).symm))
        (fun k => side1 _ _ _ _ _ k _ _ h0) h1
    · have h0 := h0.trans (Nat.zero_add _).symm
      exact tile_at _ _ _ _ _ _ _ _ x y _ (ld2 (carried m c t) 0 0 _ _ _ h0 (h1.trans (Nat.zero_add _).symm))
        (fun k => side0 _ _ _ _ _ k _ _ h0) h1

theorem stored (x : Vec Ideal S2176x1024 .f32) (y : S2176x1024.Idx) : k0_pay3 x y = x y := by
  pointwise [k0_pay3]

/-- The last block's point writes the sums out. -/
theorem written_last (h0 : ¬t.val % 8 = 0) (h7 : t.val % 8 = 7) (y : S2176x1024.Idx) :
    (outsAt0 m c t.val t.isLt).1 y = (outsAt0 m c t.val t.isLt).2 y := by
  rw [outsAt0_C m c t h0 h7]
  frame_open
  simp (disch := decide) only [↓ View.readCov_skip, ↓ View.readCov_cons_toLoadRect, ↓ View.readCov_fill]
  frame_out
  rw [stored, View.readCov_eq_canon']
  exact congrFun (ld2_all _ _) y

/-- After the last point the sums hold every point's terms. -/
theorem sums_end (ht : t.val + 1 = cfg0.N) (y : S2176x1024.Idx) :
    (outsAt0 m c t.val t.isLt).2 y = 0 + ∑ p : Fin cfg0.N, gained m c p y :=
  Pipeline.eq_sum_fin_of_reset_step_apply_last (fun n h => (outsAt0 m c n h).2) 8 (fun _ => (0 : EReal)) (gained m c)
    (fun p h0 y => sums_first m c p h0 y) (fun p h0 y => sums_later m c p h0 y) (le_of_eq N_0) t ht y

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

/-- The array of every row's terms. -/
abbrev whole : S2176x1024.Idx → EReal :=
  added (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- Every point's terms together are every row's. -/
theorem gained_all (y : S2176x1024.Idx) : ∑ p : Fin cfg0.N, gained m c p y = whole m c y := by
  have hN : cfg0.N * 512 = 4096 := congrArg (· * 512) N_0
  refine Eq.trans ?_ (Fin.sum_univ_tiles cfg0.N 512 hN _).symm
  refine Finset.sum_congr rfl fun p _ => Finset.sum_congr rfl fun r _ => congrArg₂ (· * ·)
    (side_congr _ _ _ _ _ r _ (r' := rowAt p r) (fun k => ?_) (fun k => ?_) (fun k => ?_) (fun k => ?_) (fun k => ?_)) ?_
  · blk_ext [iblk, V, index0 p]
  · blk_ext [iblk, V, index1 p]
  · blk_ext [iblk, V, index2 p]
  · blk_ext [iblk, V, index3 p]
  · blk_ext [iblk, V, index4 p]
  · blk_ext [iblk, V, index5 p]

/-- The array after the run. -/
theorem final : (dats m 0 c).arrAt 6 cfg0.N = whole m c := by
  refine (dats m 0 c).arrAt_eq_of_covers 6 _ (by decide +kernel) fun t hf y => ?_
  have h1 : t.val % 8 = 7 := (flush0_6 t).mp hf
  have hN := lt_of_lt_of_eq t.isLt N_0
  have h0 : ¬t.val % 8 = 0 := by omega
  blk_simp
  rw [after0_6, written_last m c t h0 h1, sums_end m c t (Eq.trans (by omega) N_0.symm), gained_all, zero_add]
  have e : (win0_6.blk t).view.emb y = (y : S2176x1024.Idx) := by
    blk_ext [index6 t]
  rw [e]

section reference

open Cert.Reference15Ideal.Read

variable (x0 x1 x2 x3 : S4096x512.Idx → EReal) (x4 : S4096x128.Idx → EReal) (x5 : S4096x1024.Idx → EReal)

/-- The derivative, entry by entry. -/
theorem reference_eq : val_main_v8 (F := Ideal) x0 x1 x2 x3 x4 x5 = added x0 x1 x2 x3 x4 x5 := by
  funext i
  obtain ⟨p, q, rfl⟩ : ∃ (p : Fin 2176) (q : Fin 1024), i = ix2 p q := ⟨i 0, i 1, eq_ix2 i⟩
  have et : idx_main_v6 (idx_main_v7 (ix2 p q)) = ix2 p q := at2 _ _ rfl rfl
  have el : ∀ k, lidx_main_v5 (ix2 p q) k = ix2 k p := fun k => at2 _ _ rfl rfl
  have er : ∀ k, ridx_main_v5 (ix2 p q) k = ix2 k q := fun k => at2 _ _ rfl rfl
  rw [val_main_v8_apply, val_main_v7_apply, val_main_v6_apply, et, val_main_v5_apply]
  simp only [el, er, val_main_v3_apply, reference_side]
  rfl

end reference

/-- The reference runs, its arguments end as they were, and it has no semaphore that could be left raised. -/
theorem reference_frame : @Cert.quiescent_Reference15Ideal Cert.Reference15Ideal.Gen.facts := fun m ρ _ =>
  (θ_run Cert.Reference15Ideal.defs _ _).mono
    (fun r h => ⟨fun c => (h c).2, sem_eq_zero_of_no_sems (by decide) r.2⟩)
    (Cert.Reference15Ideal.Value.run (F := Ideal) m ρ)

open Cert.Reference15Ideal.Read in
/-- The kernel and the derivative end with the same array. -/
theorem equal : @Cert.algebraic_Kernel15Ideal_Reference15Ideal Cert.Kernel15Ideal.Gen.facts Cert.Reference15Ideal.Gen.facts := by
  intro m g m' g' _ hargs
  refine ⟨fun c => (dats m 0 c).arrAt 6 cfg0.N, Cert.Kernel15Ideal.Value.run_blocks m g, ?_⟩
  refine (θ_run _ _ _).mono (fun r h c => ?_) (Cert.Reference15Ideal.Value.run m' g')
  obtain ⟨hd, hrest⟩ := h c
  obtain ⟨e0, e1, e2, e3, e4, e5⟩ := hargs c
  refine ⟨hd.trans ?_, hrest⟩
  rw [val_main_v8_eq, e0, e1, e2, e3, e4, e5]
  exact (reference_eq _ _ _ _ _ _).trans (final m c).symm

end Cert.Kernel15Ideal.InGrad

end
-- ==== Proof.DownLast.lean ====
module

public import proofs.«01_k».proof.Proof.Gen.Kernel16Ideal.Value
public import proofs.«01_k».proof.Proof.Gen.Reference16Ideal.Run
public import proofs.«01_k».proof.Proof.Gen.Reference16Ideal.Read
public import proofs.«01_k».proof.Proof.Down

/-! The last layer's second feed-forward product and its post-norm: the other layers' without the pre-norm that follows. -/

@[expose] public section

set_option maxRecDepth 16384

noncomputable section

namespace Cert.Kernel16Ideal.DownLast

open Idealize.ShloMosaic Idealize.ShloMosaic.TcCoe Idealize.ShloMosaic.Tactic
open Idealize.SL Idealize.SL.Sem
open Cert.Residual
open Cert.Kernel16Ideal Cert.Kernel16Ideal.Gen

theorem out_eq (a : Vec Ideal S512x4096 .bf16) (w : Vec Ideal S4096x1024 .bf16) (x : Vec Ideal S512x1024 .f32) (g : Vec Ideal S1x1024 .f32) :
    out0_4 a w x g = out a w :=
  Cert.Kernel10Ideal.Down.out_eq a w x g g

theorem next_eq (a : Vec Ideal S512x4096 .bf16) (w : Vec Ideal S4096x1024 .bf16) (x : Vec Ideal S512x1024 .f32) (g : Vec Ideal S1x1024 .f32) :
    out0_5 a w x g = next a w x g :=
  Cert.Kernel10Ideal.Down.next_eq a w x g g

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0] := (by decide +kernel : ∀ t : Fin grid0.N, _)

section arrays

variable (m : (ℓ : Loc nD τ sig) → Buf (Elt Ideal) ℓ) (c : Dev nD)

theorem weights (t : Fin cfg0.N) : iblk m c 1 t = m ((c : Thread nD τ).loc main_arg1) := by
  funext i
  blk_ext [iblk, V, index1 t]

theorem gain (t : Fin cfg0.N) : iblk m c 3 t = m ((c : Thread nD τ).loc main_arg3) := by
  funext i
  blk_ext [iblk, V, index3 t]

theorem out_final : (dats m 0 c).arrAt 4 cfg0.N = out (m ((c : Thread nD τ).loc main_arg0)) (m ((c : Thread nD τ).loc main_arg1)) := by
  refine (dats m 0 c).arrAt_eq_of_covers 4 _ (by decide +kernel) fun t hf y => ?_
  blk_simp
  rw [after0_4, out_eq]
  refine out_congr ?_ (fun k => ?_) (weights m c t)
  · blk_simp [index4 t]
  · blk_ext [iblk, V, index0 t, index4 t]

theorem next_final : (dats m 0 c).arrAt 5 cfg0.N = next (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, next_eq]
  refine next_congr ?_ (fun k => ?_) (weights m c t) (fun k => ?_) (gain m c t)
  · blk_simp [index5 t]
  · blk_ext [iblk, V, index0 t, index5 t]
  · blk_ext [iblk, V, index2 t, index5 t]

end arrays

/-- The reference runs, its arguments end as they were, and it has no semaphore that could be left raised. -/
theorem reference_frame : @Cert.quiescent_Reference16Ideal Cert.Reference16Ideal.Gen.facts := fun m ρ _ =>
  (θ_run Cert.Reference16Ideal.defs _ _).mono
    (fun r h => ⟨fun c => (h c).2.2, sem_eq_zero_of_no_sems (by decide) r.2⟩)
    (Cert.Reference16Ideal.Value.run (F := Ideal) m ρ)

open Cert.Reference16Ideal.Read in
/-- The kernel and the reference end with the same two arrays. -/
theorem equal : @Cert.algebraic_Kernel16Ideal_Reference16Ideal Cert.Kernel16Ideal.Gen.facts Cert.Reference16Ideal.Gen.facts := by
  intro m g m' g' _ hargs
  refine ⟨fun c => (dats m 0 c).arrAt 4 cfg0.N, fun c => (dats m 0 c).arrAt 5 cfg0.N, Cert.Kernel16Ideal.Value.run_blocks m g, ?_⟩
  refine (θ_run _ _ _).mono (fun r h c => ?_) (Cert.Reference16Ideal.Value.run m' g')
  obtain ⟨h2, h15, hrest⟩ := h c
  obtain ⟨e0, e1, e2, e3⟩ := hargs c
  refine ⟨h2.trans ?_, h15.trans ?_, hrest⟩
  · rw [val_main_v2_eq, e0, e1]
    exact (Cert.Kernel10Ideal.Down.reference_out _ _).trans (out_final m c).symm
  · rw [val_main_v15_eq, e0, e1, e2, e3]
    exact (Cert.Kernel10Ideal.Down.reference_next _ _ _ _).trans (next_final m c).symm

end Cert.Kernel16Ideal.DownLast

end
-- ==== Proof.InputBackRef.lean ====
module

public import proofs.«01_k».proof.Proof.Gen.Reference17Ideal.Read
public import proofs.«01_k».proof.Proof.Loads
public import proofs.«01_k».proof.Proof.Norm
public import proofs.«01_k».proof.Proof.Side
public import proofs.«01_k».proof.Proof.UpBackRef

/-! The derivative of a layer's input projections and first norm, and of the last norm of the layer before it, entry by entry. The
two norms' mean squares and roots are written as in the feed-forward part. -/

@[expose] public section

set_option maxRecDepth 16384

noncomputable section

namespace Cert.Reference17Ideal.InputBack

open Idealize.ShloMosaic Idealize.ShloMosaic.TcCoe Idealize.ShloMosaic.Tactic
open Cert.Loads Cert.Norm Cert.Side
open Cert.Reference5Ideal.UpBack (before)
open Cert.Reference17Ideal Cert.Reference17Ideal.Read

/-- The five parts side by side, times the weights. -/
def product {n : ℕ} (a b e d : (⟨2, ![n, 512]⟩ : Shape).Idx → EReal) (f : (⟨2, ![n, 128]⟩ : Shape).Idx → EReal)
    (w : (⟨2, ![2176, 1024]⟩ : Shape).Idx → EReal) : Mat n := fun i => ∑ j, side a b e d f (i 0) j * w (ix2 j (i 1))

variable (x0 x1 x2 x3 : S4096x512.Idx → EReal) (x4 : S4096x128.Idx → EReal) (x5 : S2176x1024.Idx → EReal)
  (x6 : Mat 4096) (x7 : Mat 1) (x8 x9 : Mat 4096) (x10 : Mat 1)

theorem product_eq : val_main_v20 (F := Ideal) x0 x1 x2 x3 x4 x5 = product x0 x1 x2 x3 x4 x5 := by
  funext i
  obtain ⟨p, q, rfl⟩ : ∃ (p : Fin 4096) (q : Fin 1024), i = ix2 p q := ⟨i 0, i 1, eq_ix2 i⟩
  have el : ∀ k, lidx_main_v20 (ix2 p q) k = ix2 p k := fun k => at2 _ _ rfl rfl
  have er : ∀ k, idx_main_v3 (ridx_main_v20 (ix2 p q) k) = ix2 k q := fun k => at2 _ _ rfl rfl
  rw [val_main_v20_apply]
  simp only [el, val_main_v3_apply, er]
  exact Finset.sum_congr rfl fun k _ => congrArg₂ (· * ·) (reference_side x0 x1 x2 x3 x4 p k) rfl

theorem meanSq_eq (p : Fin 4096) (z : Fin 1) : val_main_v10 (F := Ideal) x6 (ix2 p z) = meanSq (row x6 p) :=
  Cert.Reference5Ideal.UpBack.meanSq_eq x6 p z

theorem root_eq (p : Fin 4096) (z : Fin 1) : val_main_v11 (F := Ideal) x6 (ix2 p z) = root (row x6 p) :=
  Cert.Reference5Ideal.UpBack.root_eq x6 p z

theorem pull_eq (p : Fin 4096) (q : Fin 1024) : val_main_v35 (F := Ideal) x0 x1 x2 x3 x4 x5 x6 x7 (ix2 p q)
    = pull (row x6 p) (fun k => product x0 x1 x2 x3 x4 x5 (ix2 p k) * x7 (ix2 0 k)) := by
  have e1 : idx_main_v34 (idx_main_v35 (ix2 p q)) 0 = ix2 p 0 := at2 _ _ rfl rfl
  have e : ∀ k, idx_main_v27 (idx_main_v28 (ix2 p 0)) k = ix2 p k := fun k => at2 _ _ (show p.val * 1 + 0 = p.val by omega) rfl
  have eg : ∀ k, idx_main_v24 (ix2 p k) = ix2 0 k := fun k => at2 _ _ rfl rfl
  have ev : ∀ k, val_main_v26 (F := Ideal) x0 x1 x2 x3 x4 x5 x6 x7 (ix2 p k) = row x6 p k * (product x0 x1 x2 x3 x4 x5 (ix2 p k) * x7 (ix2 0 k)) := fun k => by
    rw [val_main_v26_apply, val_main_v25_apply, val_main_v24_apply, eg, product_eq]
    rfl
  rw [val_main_v35_apply, val_main_v34_apply, Fin.sum_univ_one, e1, val_main_v33_apply, val_main_v31_apply, val_main_v28_apply,
    val_main_v27_apply, val_main_v32_apply, val_main_v14_apply, val_main_v13_apply, val_main_v12_apply, root_eq, meanSq_eq]
  simp only [e, ev, val_main_cst_2_apply, val_main_cst_4_apply, val_main_cst_5_apply, val_main_cst_6_apply]
  pointwise [pull]

/-- The first result: the residual's gradient and the pre-norm's. -/
theorem before_eq : val_main_v40 (F := Ideal) x0 x1 x2 x3 x4 x5 x6 x7 x8 = before (product x0 x1 x2 x3 x4 x5) x6 x7 x8 := by
  funext i
  obtain ⟨p, q, rfl⟩ : ∃ (p : Fin 4096) (q : Fin 1024), i = ix2 p q := ⟨i 0, i 1, eq_ix2 i⟩
  have eg : idx_main_v24 (ix2 p q) = ix2 0 q := at2 _ _ rfl rfl
  have er : idx_main_v29 (ix2 p q) = ix2 p 0 := at2 _ _ rfl rfl
  rw [val_main_v40_apply, val_main_v39_apply, val_main_v38_apply, val_main_v37_apply, val_main_v36_apply, val_main_v30_apply,
    val_main_v25_apply, val_main_v24_apply, val_main_v29_apply, eg, er, root_eq, pull_eq, product_eq]
  exact (congrArg (x8 (ix2 p q) + ·) (back_eq (row x6 p) (fun k => product x0 x1 x2 x3 x4 x5 (ix2 p k) * x7 (ix2 0 k)) q).symm).trans (add_comm _ _)

/-- The second: the pre-norm's scale's gradient. -/
theorem scale_eq (z : Fin 1) (q : Fin 1024) : val_main_v23 (F := Ideal) x0 x1 x2 x3 x4 x5 x6 (ix2 z q) = ∑ r, gain (product x0 x1 x2 x3 x4 x5) x6 r q := by
  have e : ∀ k, idx_main_v22 (idx_main_v23 (ix2 z q)) k = ix2 k q := fun k =>
    at2 _ _ rfl (show z.val * 1024 + q.val = q.val by omega)
  have er : ∀ k, idx_main_v15 (ix2 k q) = ix2 k 0 := fun k => at2 _ _ rfl rfl
  rw [val_main_v23_apply, val_main_v22_apply]
  refine (congrArg₂ (· + ·) word_zero (Finset.sum_congr rfl fun k _ => ?_)).trans (zero_add _)
  rw [e, val_main_v21_apply, val_main_v16_apply, val_main_v15_apply, er, root_eq, product_eq, gain]
  exact mul_comm _ _

/-- The rows of the earlier layer's result: their mean squares and roots. -/
theorem post_meanSq_eq (p : Fin 4096) (z : Fin 1) : val_main_v47 (F := Ideal) x9 (ix2 p z) = meanSq (row x9 p) :=
  Cert.Reference5Ideal.UpBack.post_meanSq_eq x9 p z

theorem post_root_eq (p : Fin 4096) (z : Fin 1) : val_main_v48 (F := Ideal) x9 (ix2 p z) = root (row x9 p) :=
  Cert.Reference5Ideal.UpBack.post_root_eq x9 p z

theorem post_pull_eq (p : Fin 4096) (q : Fin 1024) : val_main_v70 (F := Ideal) x0 x1 x2 x3 x4 x5 x6 x7 x8 x9 x10 (ix2 p q)
    = pull (row x9 p) (fun k => before (product x0 x1 x2 x3 x4 x5) x6 x7 x8 (ix2 p k) * x10 (ix2 0 k)) := by
  have e1 : idx_main_v69 (idx_main_v70 (ix2 p q)) 0 = ix2 p 0 := at2 _ _ rfl rfl
  have e : ∀ k, idx_main_v62 (idx_main_v63 (ix2 p 0)) k = ix2 p k := fun k => at2 _ _ (show p.val * 1 + 0 = p.val by omega) rfl
  have eg : ∀ k, idx_main_v59 (ix2 p k) = ix2 0 k := fun k => at2 _ _ rfl rfl
  have ev : ∀ k, val_main_v61 (F := Ideal) x0 x1 x2 x3 x4 x5 x6 x7 x8 x9 x10 (ix2 p k)
      = row x9 p k * (before (product x0 x1 x2 x3 x4 x5) x6 x7 x8 (ix2 p k) * x10 (ix2 0 k)) := fun k => by
    rw [val_main_v61_apply, val_main_v60_apply, val_main_v59_apply, eg, before_eq]
    rfl
  rw [val_main_v70_apply, val_main_v69_apply, Fin.sum_univ_one, e1, val_main_v68_apply, val_main_v66_apply, val_main_v63_apply,
    val_main_v62_apply, val_main_v67_apply, val_main_v51_apply, val_main_v50_apply, val_main_v49_apply, post_root_eq, post_meanSq_eq]
  simp only [e, ev, val_main_cst_10_apply, val_main_cst_12_apply, val_main_cst_13_apply, val_main_cst_14_apply]
  pointwise [pull]

/-- The third result: the gradient carried back through the post-norm. -/
theorem post_eq (p : Fin 4096) (q : Fin 1024) : val_main_v75 (F := Ideal) x0 x1 x2 x3 x4 x5 x6 x7 x8 x9 x10 (ix2 p q)
    = into (before (product x0 x1 x2 x3 x4 x5) x6 x7 x8) x9 x10 p q := by
  have eg : idx_main_v59 (ix2 p q) = ix2 0 q := at2 _ _ rfl rfl
  have er : idx_main_v64 (ix2 p q) = ix2 p 0 := at2 _ _ rfl rfl
  rw [val_main_v75_apply, val_main_v74_apply, val_main_v73_apply, val_main_v72_apply, val_main_v71_apply, val_main_v65_apply,
    val_main_v60_apply, val_main_v59_apply, val_main_v64_apply, eg, er, post_root_eq, post_pull_eq, before_eq]
  exact (back_eq (row x9 p) (fun k => before (product x0 x1 x2 x3 x4 x5) x6 x7 x8 (ix2 p k) * x10 (ix2 0 k)) q).symm

/-- The fourth: the post-norm's scale's gradient. -/
theorem post_scale_eq (z : Fin 1) (q : Fin 1024) : val_main_v58 (F := Ideal) x0 x1 x2 x3 x4 x5 x6 x7 x8 x9 (ix2 z q)
    = ∑ r, gain (before (product x0 x1 x2 x3 x4 x5) x6 x7 x8) x9 r q := by
  have e : ∀ k, idx_main_v57 (idx_main_v58 (ix2 z q)) k = ix2 k q := fun k =>
    at2 _ _ rfl (show z.val * 1024 + q.val = q.val by omega)
  have er : ∀ k, idx_main_v52 (ix2 k q) = ix2 k 0 := fun k => at2 _ _ rfl rfl
  rw [val_main_v58_apply, val_main_v57_apply]
  refine (congrArg₂ (· + ·) word_zero (Finset.sum_congr rfl fun k _ => ?_)).trans (zero_add _)
  rw [e, val_main_v56_apply, val_main_v53_apply, val_main_v52_apply, er, post_root_eq, before_eq, gain]
  exact mul_comm _ _

end Cert.Reference17Ideal.InputBack

end
-- ==== Proof.InputBack.lean ====
module

public import proofs.«01_k».proof.Proof.Gen.Kernel17Ideal.Value
public import proofs.«01_k».proof.Proof.Gen.Reference17Ideal.Run
public import proofs.«01_k».proof.Proof.Gen.Reference17Ideal.Read
public import proofs.«01_k».proof.Proof.Loads
public import proofs.«01_k».proof.Proof.Norm
public import proofs.«01_k».proof.Proof.Side
public import proofs.«01_k».proof.Proof.InputBackRef
public import proofs.«01_k».proof.Defs
public import Idealize.ShloMosaic.Lib.Pipeline.ReadBack
public import Idealize.ShloMosaic.Adequacy
public import Idealize.ShloMosaic.Init

/-! The gradient through a layer's input projections and first norm, and on through the last norm of the layer before it. -/

@[expose] public section

set_option maxRecDepth 16384

noncomputable section

namespace Cert.Kernel17Ideal.InputBack

open Idealize.ShloMosaic Idealize.ShloMosaic.TcCoe Idealize.ShloMosaic.Tactic
open Idealize.SL Idealize.SL.Sem
open Cert.Loads
open Cert.Kernel17Ideal Cert.Kernel17Ideal.Gen

open Cert.Norm
open Cert.Reference17Ideal.InputBack (product)
open Cert.Side
open Cert.Reference5Ideal.UpBack (before)

/-- The five products are the product with the parts side by side. -/
theorem product_eq (a b e d : Vec Ideal S512x512 .bf16) (f : Vec Ideal S512x128 .bf16) (w : Vec Ideal S2176x1024 .bf16) (i0 i1 i2 i3 i4) :
    k0_pay5 (F := Ideal)
      a (View.ld (Val := Elt Ideal) w (Rect.unit (s := S2176x1024) ![0, 0] ![512, 1024] i0))
      b (View.ld (Val := Elt Ideal) w (Rect.unit (s := S2176x1024) ![512, 0] ![512, 1024] i1))
      e (View.ld (Val := Elt Ideal) w (Rect.unit (s := S2176x1024) ![1024, 0] ![512, 1024] i2))
      d (View.ld (Val := Elt Ideal) w (Rect.unit (s := S2176x1024) ![1536, 0] ![512, 1024] i3))
      f (View.ld (Val := Elt Ideal) w (Rect.unit (s := S2176x1024) ![2048, 0] ![128, 1024] i4)) = product a b e d f w := by
  funext i
  obtain ⟨p, q, rfl⟩ : ∃ (p : Fin 512) (q : Fin 1024), i = ix2 p q := ⟨i 0, i 1, eq_ix2 i⟩
  have five : ∀ (w0 w1 w2 w3 : Vec Ideal S512x1024 .bf16) (w4 : Vec Ideal S128x1024 .bf16), k0_pay5 (F := Ideal) a w0 b w1 e w2 d w3 f w4 (ix2 p q)
      = (∑ k, a (ix2 p k) * w0 (ix2 k q)) + (∑ k, b (ix2 p k) * w1 (ix2 k q)) + (∑ k, e (ix2 p k) * w2 (ix2 k q))
        + (∑ k, d (ix2 p k) * w3 (ix2 k q)) + ∑ k, f (ix2 p k) * w4 (ix2 k q) := fun w0 w1 w2 w3 w4 => by
    pointwise [k0_pay5]
  have part : ∀ {n : ℕ} (s : Vec Ideal ⟨2, ![512, n]⟩ .bf16) (o : ℕ) (i) (h : ∀ k : Fin n, o + k.val < 2176),
      ∑ k, s (ix2 p k) * View.ld (Val := Elt Ideal) w (Rect.unit (s := S2176x1024) ![o, 0] ![n, 1024] i) (ix2 k q)
        = ∑ k, s (ix2 p k) * w (ix2 ⟨o + k.val, h k⟩ q) := fun s o i h =>
    Finset.sum_congr rfl fun k _ => congrArg (_ * ·) (ld2 w o 0 i _ _ rfl (Nat.zero_add _).symm)
  rw [five]
  refine Eq.trans ?_ (sum_side a b e d f p fun j => w (ix2 j q)).symm
  exact congrArg₂ (· + ·) (congrArg₂ (· + ·) (congrArg₂ (· + ·) (congrArg₂ (· + ·) (part a 0 i0 _) (part b 512 i1 _)) (part e 1024 i2 _))
    (part d 1536 i3 _)) (part f 2048 i4 _)

/-- The first norm's rows: the gradient carried back, and the residual's added. -/
theorem dx_apply (z : FVec Ideal S512x1024 .f32) (y : Vec Ideal S512x1024 .f32) (g : Vec Ideal S1x1024 .f32) (r : Vec Ideal S512x1024 .f32) :
    k0_pay10 z y g (k0_pay6 y) k0_pay7 r = before z y g r := by
  funext i
  obtain ⟨p, q, rfl⟩ : ∃ (p : Fin 512) (q : Fin 1024), i = ix2 p q := ⟨i 0, i 1, eq_ix2 i⟩
  pointwise [k0_pay10, k0_pay9, k0_pay8, k0_pay7, k0_pay6, before, into, back, row, root, meanSq]

/-- The scale's gradient, one block further. -/
theorem dg_apply (z : FVec Ideal S512x1024 .f32) (y : Vec Ideal S512x1024 .f32) (old : Vec Ideal S1x1024 .f32)
    (q : Fin 1024) : k0_pay13 z y (k0_pay6 y) k0_pay7 old (ix2 0 q) = old (ix2 0 q) + ∑ p, gain z y p q := by
  pointwise [k0_pay13, k0_pay9, k0_pay8, k0_pay7, k0_pay6, gain, row, root, meanSq]

/-- The earlier norm's rows. -/
theorem dxo_apply (d : FVec Ideal S512x1024 .f32) (y : Vec Ideal S512x1024 .f32) (g : Vec Ideal S1x1024 .f32) (p : Fin 512) (q : Fin 1024) :
    k0_pay3 d y g (k0_pay14 y) k0_pay15 (ix2 p q) = into d y g p q := by
  pointwise [k0_pay3, k0_pay2, k0_pay1, k0_pay14, k0_pay15, into, back, row, root, meanSq]

/-- The earlier norm's scale's gradient, one block further. -/
theorem dgo_apply (d : FVec Ideal S512x1024 .f32) (y : Vec Ideal S512x1024 .f32) (old : Vec Ideal S1x1024 .f32) (q : Fin 1024) :
    k0_pay4 d y (k0_pay14 y) k0_pay15 old (ix2 0 q) = old (ix2 0 q) + ∑ p, gain d y p q := by
  pointwise [k0_pay4, k0_pay2, k0_pay1, k0_pay14, k0_pay15, gain, row, root, meanSq]

variable (m : (ℓ : Loc nD τ sig) → Buf (Elt Ideal) ℓ) (c : Dev nD) (t : Fin cfg0.N)

/-- The block's product with the weights, and what stands before the pre-norm. -/
abbrev blockD : Mat 512 := product (iblk m c 0 t) (iblk m c 1 t) (iblk m c 2 t) (iblk m c 3 t) (iblk m c 4 t) (iblk m c 5 t)
abbrev blockX : Mat 512 := before (blockD m c t) (iblk m c 6 t) (iblk m c 7 t) (iblk m c 8 t)

theorem before_point (p : Fin 512) (q : Fin 1024) : (outsAt0 m c t.val t.isLt).1 (ix2 p q) = blockX m c t (ix2 p q) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    rw [product_eq, dx_apply]

theorem post_point (p : Fin 512) (q : Fin 1024) :
    (outsAt0 m c t.val t.isLt).2.2.1 (ix2 p q) = into (blockX m c t) (iblk m c 9 t) (iblk m c 10 t) p q := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    rw [product_eq, dx_apply]
    exact dxo_apply ..

theorem scale_first (h0 : t.val % 8 = 0) (q : Fin 1024) :
    (outsAt0 m c t.val t.isLt).2.1 (ix2 0 q) = 0 + ∑ r, gain (blockD m c t) (iblk m c 6 t) r q := by
  rw [outsAt0_A m c t h0]
  frame_open
  simp (disch := decide) only [↓ View.readCov_skip, ↓ View.readCov_cons_toLoadRect, ↓ View.readCov_fill]
  frame_out
  rw [product_eq]
  exact (dg_apply ..).trans (congrArg (· + _) word_zero)

theorem scale_next (h0 : ¬t.val % 8 = 0) (q : Fin 1024) :
    (outsAt0 m c t.val t.isLt).2.1 (ix2 0 q)
      = (outsAt0 m c (t.val - 1) (Nat.lt_of_le_of_lt (Nat.sub_le _ _) t.isLt)).2.1 (ix2 0 q) + ∑ r, gain (blockD m c t) (iblk m c 6 t) r q := by
  rw [outsAt0_B m c t h0]
  frame_open
  simp (disch := decide) only [↓ View.readCov_skip, ↓ View.readCov_cons_toLoadRect, ↓ View.readCov_fill]
  frame_out
  rw [product_eq]
  exact dg_apply ..

theorem post_scale_first (h0 : t.val % 8 = 0) (q : Fin 1024) :
    (outsAt0 m c t.val t.isLt).2.2.2 (ix2 0 q) = 0 + ∑ r, gain (blockX m c t) (iblk m c 9 t) r q := by
  rw [outsAt0_A m c t h0]
  frame_open
  simp (disch := decide) only [↓ View.readCov_skip, ↓ View.readCov_cons_toLoadRect, ↓ View.readCov_fill]
  frame_out
  rw [product_eq, dx_apply]
  exact (dgo_apply ..).trans (congrArg (· + _) word_zero)

theorem post_scale_next (h0 : ¬t.val % 8 = 0) (q : Fin 1024) :
    (outsAt0 m c t.val t.isLt).2.2.2 (ix2 0 q)
      = (outsAt0 m c (t.val - 1) (Nat.lt_of_le_of_lt (Nat.sub_le _ _) t.isLt)).2.2.2 (ix2 0 q) + ∑ r, gain (blockX m c t) (iblk m c 9 t) r q := by
  rw [outsAt0_B m c t h0]
  frame_open
  simp (disch := decide) only [↓ View.readCov_skip, ↓ View.readCov_cons_toLoadRect, ↓ View.readCov_fill]
  frame_out
  rw [product_eq, dx_apply]
  exact dgo_apply ..

/-- After the last point the two scales' gradients hold every point's terms. -/
theorem scale_end (ht : t.val + 1 = cfg0.N) (q : Fin 1024) :
    (outsAt0 m c t.val t.isLt).2.1 (ix2 0 q) = 0 + ∑ p : Fin cfg0.N, ∑ r, gain (blockD m c p) (iblk m c 6 p) r q :=
  Pipeline.eq_sum_fin_of_reset_step_apply_last (fun n h (q : Fin 1024) => (outsAt0 m c n h).2.1 (ix2 0 q)) 8 (fun _ => (0 : EReal))
    (fun p q => ∑ r, gain (blockD m c p) (iblk m c 6 p) r q) (fun p h0 q => scale_first m c p h0 q) (fun p h0 q => scale_next m c p h0 q)
    (le_of_eq N_0) t ht q

theorem post_scale_end (ht : t.val + 1 = cfg0.N) (q : Fin 1024) :
    (outsAt0 m c t.val t.isLt).2.2.2 (ix2 0 q) = 0 + ∑ p : Fin cfg0.N, ∑ r, gain (blockX m c p) (iblk m c 9 p) r q :=
  Pipeline.eq_sum_fin_of_reset_step_apply_last (fun n h (q : Fin 1024) => (outsAt0 m c n h).2.2.2 (ix2 0 q)) 8 (fun _ => (0 : EReal))
    (fun p q => ∑ r, gain (blockX m c p) (iblk m c 9 p) r q) (fun p h0 q => post_scale_first m c p h0 q)
    (fun p h0 q => post_scale_next m c p h0 q) (le_of_eq N_0) t ht q

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![t.val, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![t.val, 0] := (by decide +kernel : ∀ t : Fin grid0.N, _)
theorem index14 : ∀ t : Fin cfg0.N, win0_14.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

theorem part0_block (r : Fin 512) (k : Fin 512) : iblk m c 0 t (ix2 r k) = m ((c : Thread nD τ).loc main_arg0) (ix2 (rowAt t r) k) := by
  blk_ext [iblk, V, index0 t]

theorem part1_block (r : Fin 512) (k : Fin 512) : iblk m c 1 t (ix2 r k) = m ((c : Thread nD τ).loc main_arg1) (ix2 (rowAt t r) k) := by
  blk_ext [iblk, V, index1 t]

theorem part2_block (r : Fin 512) (k : Fin 512) : iblk m c 2 t (ix2 r k) = m ((c : Thread nD τ).loc main_arg2) (ix2 (rowAt t r) k) := by
  blk_ext [iblk, V, index2 t]

theorem part3_block (r : Fin 512) (k : Fin 512) : iblk m c 3 t (ix2 r k) = m ((c : Thread nD τ).loc main_arg3) (ix2 (rowAt t r) k) := by
  blk_ext [iblk, V, index3 t]

theorem part4_block (r : Fin 512) (k : Fin 128) : iblk m c 4 t (ix2 r k) = m ((c : Thread nD τ).loc main_arg4) (ix2 (rowAt t r) k) := by
  blk_ext [iblk, V, index4 t]

theorem weight_block : iblk m c 5 t = m ((c : Thread nD τ).loc main_arg5) := by
  funext y
  obtain ⟨a, b, rfl⟩ : ∃ (a : Fin 2176) (b : Fin 1024), y = ix2 a b := ⟨y 0, y 1, eq_ix2 y⟩
  blk_ext [iblk, V, index5 t]

theorem pre_block (r : Fin 512) (k : Fin 1024) : iblk m c 6 t (ix2 r k) = m ((c : Thread nD τ).loc main_arg6) (ix2 (rowAt t r) k) := by
  blk_ext [iblk, V, index6 t]

theorem pre_scale_block : iblk m c 7 t = m ((c : Thread nD τ).loc main_arg7) := by
  funext y
  obtain ⟨a, b, rfl⟩ : ∃ (a : Fin 1) (b : Fin 1024), y = ix2 a b := ⟨y 0, y 1, eq_ix2 y⟩
  blk_ext [iblk, V, index7 t]

theorem residual_block (r : Fin 512) (k : Fin 1024) : iblk m c 8 t (ix2 r k) = m ((c : Thread nD τ).loc main_arg8) (ix2 (rowAt t r) k) := by
  blk_ext [iblk, V, index8 t]

theorem post_block (r : Fin 512) (k : Fin 1024) : iblk m c 9 t (ix2 r k) = m ((c : Thread nD τ).loc main_arg9) (ix2 (rowAt t r) k) := by
  blk_ext [iblk, V, index9 t]

theorem post_scale_block : iblk m c 10 t = m ((c : Thread nD τ).loc main_arg10) := by
  funext y
  obtain ⟨a, b, rfl⟩ : ∃ (a : Fin 1) (b : Fin 1024), y = ix2 a b := ⟨y 0, y 1, eq_ix2 y⟩
  blk_ext [iblk, V, index10 t]

/-- The whole product, and what stands before the pre-norm. -/
abbrev allD : Mat 4096 := product (m ((c : Thread nD τ).loc main_arg0)) (m ((c : Thread nD τ).loc main_arg1))
  (m ((c : Thread nD τ).loc main_arg2)) (m ((c : Thread nD τ).loc main_arg3)) (m ((c : Thread nD τ).loc main_arg4)) (m ((c : Thread nD τ).loc main_arg5))
abbrev allX : Mat 4096 :=
  before (allD m c) (m ((c : Thread nD τ).loc main_arg6)) (m ((c : Thread nD τ).loc main_arg7)) (m ((c : Thread nD τ).loc main_arg8))

theorem product_block (r : Fin 512) (k : Fin 1024) : blockD m c t (ix2 r k) = allD m c (ix2 (rowAt t r) k) := by
  rw [blockD, weight_block]
  exact Finset.sum_congr rfl fun j _ => congrArg (· * _) (side_congr _ _ _ _ _ _ _ (part0_block m c t r) (part1_block m c t r) (part2_block m c t r)
    (part3_block m c t r) (part4_block m c t r))

theorem before_block (r : Fin 512) (k : Fin 1024) : blockX m c t (ix2 r k) = allX m c (ix2 (rowAt t r) k) := by
  rw [blockX, pre_scale_block]
  exact congrArg₂ (· + ·) (into_congr (product_block m c t r) (pre_block m c t r) _ _) (residual_block m c t r k)

/-- A scale's gradient summed block by block. -/
theorem gain_parts {d y : Fin cfg0.N → Mat 512} {D Y : Mat 4096} (hd : ∀ p r k, d p (ix2 r k) = D (ix2 (rowAt p r) k))
    (hy : ∀ p r k, y p (ix2 r k) = Y (ix2 (rowAt p r) k)) (q : Fin 1024) :
    ∑ p, ∑ r, gain (d p) (y p) r q = ∑ r, gain D Y r q := by
  have hT : cfg0.N * 512 = 4096 := congrArg (· * 512) N_0
  rw [Fin.sum_univ_tiles cfg0.N 512 hT]
  exact Finset.sum_congr rfl fun p _ => Finset.sum_congr rfl fun r _ => gain_congr (hd p r) (hy p r) _

/-- The first array after the run. -/
theorem before_final : (dats m 0 c).arrAt 11 cfg0.N = allX m c := by
  refine (dats m 0 c).arrAt_eq_of_covers 11 _ (by decide +kernel) fun t hf y => ?_
  blk_simp
  obtain ⟨a, b, rfl⟩ : ∃ (a : Fin 512) (b : Fin 1024), y = ix2 a b := ⟨y 0, y 1, eq_ix2 y⟩
  rw [after0_11, before_point, before_block]
  have e : (win0_11.blk t).view.emb (ix2 a b) = ix2 (rowAt t a) b := by
    blk_ext [index11 t]
  rw [e]

/-- The third. -/
theorem post_final :
    (dats m 0 c).arrAt 13 cfg0.N
      = fun y => into (allX m c) (m ((c : Thread nD τ).loc main_arg9)) (m ((c : Thread nD τ).loc main_arg10)) (y 0) (y 1) := by
  refine (dats m 0 c).arrAt_eq_of_covers 13 _ (by decide +kernel) fun t hf y => ?_
  blk_simp
  obtain ⟨a, b, rfl⟩ : ∃ (a : Fin 512) (b : Fin 1024), y = ix2 a b := ⟨y 0, y 1, eq_ix2 y⟩
  rw [after0_13, post_point, post_scale_block]
  have e : (win0_13.blk t).view.emb (ix2 a b) = ix2 (rowAt t a) b := by
    blk_ext [index13 t]
  rw [e]
  exact into_congr (before_block m c t a) (post_block m c t a) _ _

/-- The second. -/
theorem scale_final :
    (dats m 0 c).arrAt 12 cfg0.N = fun y => ∑ r, gain (allD m c) (m ((c : Thread nD τ).loc main_arg6)) r (y 1) := by
  refine (dats m 0 c).arrAt_eq_of_covers 12 _ (by decide +kernel) fun t hf y => ?_
  have h1 : t.val % 8 = 7 := (flush0_12 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_12, scale_end m c t (Eq.trans (by omega) N_0.symm), zero_add]
  have e : (win0_12.blk t).view.emb (ix2 0 b) = ix2 0 b := by
    blk_ext [index12 t]
  rw [e]
  exact gain_parts (product_block m c) (pre_block m c) b

/-- The fourth. -/
theorem post_scale_final :
    (dats m 0 c).arrAt 14 cfg0.N = fun y => ∑ r, gain (allX m c) (m ((c : Thread nD τ).loc main_arg9)) r (y 1) := by
  refine (dats m 0 c).arrAt_eq_of_covers 14 _ (by decide +kernel) fun t hf y => ?_
  have h1 : t.val % 8 = 7 := (flush0_14 t).mp hf
  have hN := lt_of_lt_of_eq t.isLt N_0
  blk_simp
  obtain ⟨a, b, rfl⟩ : ∃ (a : Fin 1) (b : Fin 1024), y = ix2 a b := ⟨y 0, y 1, eq_ix2 y⟩
  obtain rfl : a = 0 := Subsingleton.elim _ _
  rw [after0_14, post_scale_end m c t (Eq.trans (by omega) N_0.symm), zero_add]
  have e : (win0_14.blk t).view.emb (ix2 0 b) = ix2 0 b := by
    blk_ext [index14 t]
  rw [e]
  exact gain_parts (before_block m c) (post_block m c) b

/-- The reference runs, its arguments end as they were, and it has no semaphore that could be left raised. -/
theorem reference_frame : @Cert.quiescent_Reference17Ideal Cert.Reference17Ideal.Gen.facts := fun m ρ _ =>
  (θ_run Cert.Reference17Ideal.defs _ _).mono
    (fun r h => ⟨fun c => (h c).2.2.2.2, sem_eq_zero_of_no_sems (by decide) r.2⟩)
    (Cert.Reference17Ideal.Value.run (F := Ideal) m ρ)

set_option maxHeartbeats 800000 in
open Cert.Reference17Ideal.Read Cert.Reference17Ideal.InputBack in
/-- The kernel and the reference end with the same four arrays. -/
theorem equal : @Cert.algebraic_Kernel17Ideal_Reference17Ideal Cert.Kernel17Ideal.Gen.facts Cert.Reference17Ideal.Gen.facts := by
  intro m g m' g' _ hargs
  refine ⟨fun c => (dats m 0 c).arrAt 11 cfg0.N, fun c => (dats m 0 c).arrAt 12 cfg0.N, fun c => (dats m 0 c).arrAt 13 cfg0.N,
    fun c => (dats m 0 c).arrAt 14 cfg0.N, Cert.Kernel17Ideal.Value.run_blocks m g, ?_⟩
  refine (θ_run _ _ _).mono (fun r h c => ?_) (Cert.Reference17Ideal.Value.run m' g')
  obtain ⟨h40, h23, h75, h58, hrest⟩ := h c
  obtain ⟨e0, e1, e2, e3, e4, e5, e6, e7, e8, e9, e10⟩ := hargs c
  refine ⟨h40.trans ?_, h23.trans ?_, h75.trans ?_, h58.trans ?_, hrest⟩
  · rw [val_main_v40_eq, e0, e1, e2, e3, e4, e5, e6, e7, e8]
    exact (before_eq _ _ _ _ _ _ _ _ _).trans (before_final m c).symm
  · rw [val_main_v23_eq, e0, e1, e2, e3, e4, e5, e6]
    refine Eq.trans ?_ (scale_final m c).symm
    funext i
    obtain ⟨a, b, rfl⟩ : ∃ (a : Fin 1) (b : Fin 1024), i = ix2 a b := ⟨i 0, i 1, eq_ix2 i⟩
    exact scale_eq _ _ _ _ _ _ _ a b
  · rw [val_main_v75_eq, e0, e1, e2, e3, e4, e5, e6, e7, e8, e9, e10]
    refine Eq.trans ?_ (post_final m c).symm
    funext i
    obtain ⟨a, b, rfl⟩ : ∃ (a : Fin 4096) (b : Fin 1024), i = ix2 a b := ⟨i 0, i 1, eq_ix2 i⟩
    exact post_eq _ _ _ _ _ _ _ _ _ _ _ a b
  · rw [val_main_v58_eq, e0, e1, e2, e3, e4, e5, e6, e7, e8, e9]
    refine Eq.trans ?_ (post_scale_final m c).symm
    funext i
    obtain ⟨a, b, rfl⟩ : ∃ (a : Fin 1) (b : Fin 1024), i = ix2 a b := ⟨i 0, i 1, eq_ix2 i⟩
    exact post_scale_eq _ _ _ _ _ _ _ _ _ _ a b

end Cert.Kernel17Ideal.InputBack

end
-- ==== Proof.FirstBack.lean ====
module

public import proofs.«01_k».proof.Proof.Gen.Kernel18Ideal.Value
public import proofs.«01_k».proof.Proof.Gen.Reference18Ideal.Run
public import proofs.«01_k».proof.Proof.Gen.Reference18Ideal.Read
public import proofs.«01_k».proof.Proof.InputBack

/-! The gradient through the first layer's input projections and its first norm. A block of rows is computed as in the other layers;
no earlier norm follows. -/

@[expose] public section

set_option maxRecDepth 16384

noncomputable section

namespace Cert.Kernel18Ideal.FirstBack

open Idealize.ShloMosaic Idealize.ShloMosaic.TcCoe Idealize.ShloMosaic.Tactic
open Idealize.SL Idealize.SL.Sem
open Cert.Loads Cert.Norm Cert.Side
open Cert.Kernel18Ideal Cert.Kernel18Ideal.Gen
open Cert.Reference17Ideal.InputBack (product)
open Cert.Reference5Ideal.UpBack (before)

/-- The block's product with the weights. -/
theorem product_eq (a b e d : Vec Ideal S512x512 .bf16) (f : Vec Ideal S512x128 .bf16) (w : Vec Ideal S2176x1024 .bf16) (i0 i1 i2 i3 i4) :
    k0_pay6 (F := Ideal)
      a (View.ld (Val := Elt Ideal) w (Rect.unit (s := S2176x1024) ![0, 0] ![512, 1024] i0))
      b (View.ld (Val := Elt Ideal) w (Rect.unit (s := S2176x1024) ![512, 0] ![512, 1024] i1))
      e (View.ld (Val := Elt Ideal) w (Rect.unit (s := S2176x1024) ![1024, 0] ![512, 1024] i2))
      d (View.ld (Val := Elt Ideal) w (Rect.unit (s := S2176x1024) ![1536, 0] ![512, 1024] i3))
      f (View.ld (Val := Elt Ideal) w (Rect.unit (s := S2176x1024) ![2048, 0] ![128, 1024] i4)) = product a b e d f w :=
  Cert.Kernel17Ideal.InputBack.product_eq a b e d f w i0 i1 i2 i3 i4

/-- The norm's rows: the gradient carried back, and the residual's added. -/
theorem dx_apply (z : FVec Ideal S512x1024 .f32) (y : Vec Ideal S512x1024 .f32) (g : Vec Ideal S1x1024 .f32) (r : Vec Ideal S512x1024 .f32) :
    k0_pay3 z y g (k0_pay7 y) k0_pay8 r = before z y g r := Cert.Kernel17Ideal.InputBack.dx_apply z y g r

/-- The scale's gradient, one block further. -/
theorem dg_apply (z : FVec Ideal S512x1024 .f32) (y : Vec Ideal S512x1024 .f32) (old : Vec Ideal S1x1024 .f32) (q : Fin 1024) :
    k0_pay5 z y (k0_pay7 y) k0_pay8 old (ix2 0 q) = old (ix2 0 q) + ∑ p, gain z y p q :=
  Cert.Kernel17Ideal.InputBack.dg_apply z y old q

variable (m : (ℓ : Loc nD τ sig) → Buf (Elt Ideal) ℓ) (c : Dev nD) (t : Fin cfg0.N)

/-- The product of point `t`'s block, and what it gives the normed rows. -/
abbrev blockD : Mat 512 := product (iblk m c 0 t) (iblk m c 1 t) (iblk m c 2 t) (iblk m c 3 t) (iblk m c 4 t) (iblk m c 5 t)
abbrev blockX : Mat 512 := before (blockD m c t) (iblk m c 6 t) (iblk m c 7 t) (iblk m c 8 t)

theorem before_point (p : Fin 512) (q : Fin 1024) : (outsAt0 m c t.val t.isLt).1 (ix2 p q) = blockX m c t (ix2 p q) := by
  by_cases h0 : t.val % 8 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    rw [product_eq, dx_apply]

theorem scale_first (h0 : t.val % 8 = 0) (q : Fin 1024) :
    (outsAt0 m c t.val t.isLt).2 (ix2 0 q) = 0 + ∑ r, gain (blockD m c t) (iblk m c 6 t) r q := by
  rw [outsAt0_A m c t h0]
  frame_open
  simp (disch := decide) only [↓ View.readCov_skip, ↓ View.readCov_cons_toLoadRect, ↓ View.readCov_fill]
  frame_out
  rw [product_eq]
  exact (dg_apply ..).trans (congrArg (· + _) word_zero)

theorem scale_next (h0 : ¬t.val % 8 = 0) (q : Fin 1024) :
    (outsAt0 m c t.val t.isLt).2 (ix2 0 q)
      = (outsAt0 m c (t.val - 1) (Nat.lt_of_le_of_lt (Nat.sub_le _ _) t.isLt)).2 (ix2 0 q) + ∑ r, gain (blockD m c t) (iblk m c 6 t) r q := by
  rw [outsAt0_B m c t h0]
  frame_open
  simp (disch := decide) only [↓ View.readCov_skip, ↓ View.readCov_cons_toLoadRect, ↓ View.readCov_fill]
  frame_out
  rw [product_eq]
  exact dg_apply ..

/-- After the last point the scale's gradient holds every point's terms. -/
theorem scale_end (ht : t.val + 1 = cfg0.N) (q : Fin 1024) :
    (outsAt0 m c t.val t.isLt).2 (ix2 0 q) = 0 + ∑ p : Fin cfg0.N, ∑ r, gain (blockD m c p) (iblk m c 6 p) r q :=
  Pipeline.eq_sum_fin_of_reset_step_apply_last (fun n h (q : Fin 1024) => (outsAt0 m c n h).2 (ix2 0 q)) 8 (fun _ => (0 : EReal))
    (fun p q => ∑ r, gain (blockD m c p) (iblk m c 6 p) r q) (fun p h0 q => scale_first m c p h0 q) (fun p h0 q => scale_next m c p h0 q)
    (le_of_eq N_0) t ht q

theorem index0 : ∀ t : Fin cfg0.N, win0_0.index t = ![t.val, 0] := (by decide +kernel : ∀ t : Fin grid0.N, _)
theorem index1 : ∀ t : Fin cfg0.N, win0_1.index t = ![t.val, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![t.val, 0] := (by decide +kernel : ∀ t : Fin grid0.N, _)
theorem index10 : ∀ t : Fin cfg0.N, win0_10.index t = ![0, 0] := (by decide +kernel : ∀ t : Fin grid0.N, _)

/-- The array's row that is row `r` of point `p`'s block. -/
abbrev rowAt (p : Fin cfg0.N) (r : Fin 512) : Fin 4096 := ⟨p.val * 512 + r.val, by have := lt_of_lt_of_eq p.isLt N_0; omega⟩

theorem part0_block (r : Fin 512) (k : Fin 512) : iblk m c 0 t (ix2 r k) = m ((c : Thread nD τ).loc main_arg0) (ix2 (rowAt t r) k) := by
  blk_ext [iblk, V, index0 t]

theorem part1_block (r : Fin 512) (k : Fin 512) : iblk m c 1 t (ix2 r k) = m ((c : Thread nD τ).loc main_arg1) (ix2 (rowAt t r) k) := by
  blk_ext [iblk, V, index1 t]

theorem part2_block (r : Fin 512) (k : Fin 512) : iblk m c 2 t (ix2 r k) = m ((c : Thread nD τ).loc main_arg2) (ix2 (rowAt t r) k) := by
  blk_ext [iblk, V, index2 t]

theorem part3_block (r : Fin 512) (k : Fin 512) : iblk m c 3 t (ix2 r k) = m ((c : Thread nD τ).loc main_arg3) (ix2 (rowAt t r) k) := by
  blk_ext [iblk, V, index3 t]

theorem part4_block (r : Fin 512) (k : Fin 128) : iblk m c 4 t (ix2 r k) = m ((c : Thread nD τ).loc main_arg4) (ix2 (rowAt t r) k) := by
  blk_ext [iblk, V, index4 t]

theorem weight_block : iblk m c 5 t = m ((c : Thread nD τ).loc main_arg5) := by
  funext y
  obtain ⟨a, b, rfl⟩ : ∃ (a : Fin 2176) (b : Fin 1024), y = ix2 a b := ⟨y 0, y 1, eq_ix2 y⟩
  blk_ext [iblk, V, index5 t]

theorem normed_block (r : Fin 512) (k : Fin 1024) : iblk m c 6 t (ix2 r k) = m ((c : Thread nD τ).loc main_arg6) (ix2 (rowAt t r) k) := by
  blk_ext [iblk, V, index6 t]

theorem scale_block : iblk m c 7 t = m ((c : Thread nD τ).loc main_arg7) := by
  funext y
  obtain ⟨a, b, rfl⟩ : ∃ (a : Fin 1) (b : Fin 1024), y = ix2 a b := ⟨y 0, y 1, eq_ix2 y⟩
  blk_ext [iblk, V, index7 t]

theorem residual_block (r : Fin 512) (k : Fin 1024) : iblk m c 8 t (ix2 r k) = m ((c : Thread nD τ).loc main_arg8) (ix2 (rowAt t r) k) := by
  blk_ext [iblk, V, index8 t]

/-- The whole product, and what it gives the normed rows. -/
abbrev allD : Mat 4096 := product (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
abbrev allX : Mat 4096 := before (allD m c) (m ((c : Thread nD τ).loc main_arg6)) (m ((c : Thread nD τ).loc main_arg7)) (m ((c : Thread nD τ).loc main_arg8))

theorem product_block (r : Fin 512) (k : Fin 1024) : blockD m c t (ix2 r k) = allD m c (ix2 (rowAt t r) k) := by
  rw [blockD, weight_block]
  exact Finset.sum_congr rfl fun j _ => congrArg (· * _) (side_congr _ _ _ _ _ _ _ (part0_block m c t r) (part1_block m c t r) (part2_block m c t r)
    (part3_block m c t r) (part4_block m c t r))

theorem before_block (r : Fin 512) (k : Fin 1024) : blockX m c t (ix2 r k) = allX m c (ix2 (rowAt t r) k) := by
  rw [blockX, scale_block]
  exact congrArg₂ (· + ·) (into_congr (product_block m c t r) (normed_block m c t r) _ _) (residual_block m c t r k)

/-- The first array after the run. -/
theorem before_final : (dats m 0 c).arrAt 9 cfg0.N = allX m c := by
  refine (dats m 0 c).arrAt_eq_of_covers 9 _ (by decide +kernel) fun t hf y => ?_
  blk_simp
  obtain ⟨a, b, rfl⟩ : ∃ (a : Fin 512) (b : Fin 1024), y = ix2 a b := ⟨y 0, y 1, eq_ix2 y⟩
  rw [after0_9, before_point, before_block]
  have e : (win0_9.blk t).view.emb (ix2 a b) = ix2 (rowAt t a) b := by
    blk_ext [index9 t]
  rw [e]

/-- The second. -/
theorem scale_final : (dats m 0 c).arrAt 10 cfg0.N = fun y => ∑ r, gain (allD m c) (m ((c : Thread nD τ).loc main_arg6)) r (y 1) := by
  refine (dats m 0 c).arrAt_eq_of_covers 10 _ (by decide +kernel) fun t hf y => ?_
  have h1 : t.val % 8 = 7 := (flush0_10 t).mp hf
  have hN := lt_of_lt_of_eq t.isLt N_0
  have hT : cfg0.N * 512 = 4096 := congrArg (· * 512) N_0
  have parts : ∀ q : Fin 1024, ∑ p, ∑ r, gain (blockD m c p) (iblk m c 6 p) r q
      = ∑ r, gain (allD m c) (m ((c : Thread nD τ).loc main_arg6)) r q := fun q => by
    rw [Fin.sum_univ_tiles cfg0.N 512 hT]
    exact Finset.sum_congr rfl fun p _ => Finset.sum_congr rfl fun r _ => gain_congr (product_block m c p r) (normed_block m c p r) _
  blk_simp
  obtain ⟨a, b, rfl⟩ : ∃ (a : Fin 1) (b : Fin 1024), y = ix2 a b := ⟨y 0, y 1, eq_ix2 y⟩
  obtain rfl : a = 0 := Subsingleton.elim _ _
  rw [after0_10, scale_end m c t (Eq.trans (by omega) N_0.symm), zero_add]
  have e : (win0_10.blk t).view.emb (ix2 0 b) = ix2 0 b := by
    blk_ext [index10 t]
  rw [e]
  exact parts b

/-- The reference runs, its arguments end as they were, and it has no semaphore that could be left raised. -/
theorem reference_frame : @Cert.quiescent_Reference18Ideal Cert.Reference18Ideal.Gen.facts := fun m ρ _ =>
  (θ_run Cert.Reference18Ideal.defs _ _).mono
    (fun r h => ⟨fun c => (h c).2.2, sem_eq_zero_of_no_sems (by decide) r.2⟩)
    (Cert.Reference18Ideal.Value.run (F := Ideal) m ρ)

open Cert.Reference18Ideal.Read in
/-- The kernel and the reference end with the same two arrays. -/
theorem equal : @Cert.algebraic_Kernel18Ideal_Reference18Ideal Cert.Kernel18Ideal.Gen.facts Cert.Reference18Ideal.Gen.facts := by
  intro m g m' g' _ hargs
  refine ⟨fun c => (dats m 0 c).arrAt 9 cfg0.N, fun c => (dats m 0 c).arrAt 10 cfg0.N, Cert.Kernel18Ideal.Value.run_blocks m g, ?_⟩
  refine (θ_run _ _ _).mono (fun r h c => ?_) (Cert.Reference18Ideal.Value.run m' g')
  obtain ⟨hx, hg, hrest⟩ := h c
  obtain ⟨e0, e1, e2, e3, e4, e5, e6, e7, e8⟩ := hargs c
  refine ⟨hx.trans ?_, hg.trans ?_, hrest⟩
  · rw [val_main_v40_eq, e0, e1, e2, e3, e4, e5, e6, e7, e8]
    exact (Cert.Reference17Ideal.InputBack.before_eq _ _ _ _ _ _ _ _ _).trans (before_final m c).symm
  · rw [val_main_v23_eq, e0, e1, e2, e3, e4, e5, e6]
    refine Eq.trans ?_ (scale_final m c).symm
    funext i
    obtain ⟨a, b, rfl⟩ : ∃ (a : Fin 1) (b : Fin 1024), i = ix2 a b := ⟨i 0, i 1, eq_ix2 i⟩
    exact Cert.Reference17Ideal.InputBack.scale_eq _ _ _ _ _ _ _ a b

end Cert.Kernel18Ideal.FirstBack

end
-- ==== Proof.AttendRef.lean ====
module

public import proofs.«01_k».proof.Proof.Reference
public import proofs.«01_k».proof.Proof.Gen.Reference19Ideal.Run
public import proofs.«01_k».proof.Proof.Gen.Reference19Ideal.Read
public import proofs.«01_k».proof.Defs
public import Idealize.ShloMosaic.Adequacy
public import Idealize.ShloMosaic.Init

/-! The forward cross-attention as the reference writes it, stage by stage, in terms of one row of queries and one head. -/

@[expose] public section

set_option maxRecDepth 16384

noncomputable section

namespace Cert.Reference19Ideal.Attend

open Idealize.ShloMosaic Idealize.ShloMosaic.Tactic
open Cert.Reference19Ideal Cert.Reference19Ideal.Read
open Cert.KernelIdeal.Heads (col keyCol valCol score top expo soft sixteenth)
open Cert.KernelIdeal.Whole (bigRow)
open Cert.ReferenceIdeal.Rows (word_sixteen div_sixteen same2 same3 cut_row)

variable (x0 : (⟨S4096x1024, .bf16⟩ : BufTy).Contents (Elt Ideal)) (x1 : (⟨S256x2048, .bf16⟩ : BufTy).Contents (Elt Ideal))

theorem query_at (r : Fin 4096) (h : Fin 4) (d : Fin 256) : val_main_v2 (F := Ideal) x0 (ix3 r h d) = x0 (ix2 r (col h d)) := by
  rw [val_main_v2_apply, val_main_v0_apply]
  exact congrArg x0 (same2 _ _ (by simp; omega) (by simp [col]; omega))

theorem key_at (l : Fin 256) (h : Fin 4) (d : Fin 256) : val_main_v4 (F := Ideal) x1 (ix3 l h d) = x1 (ix2 l (keyCol h d)) := by
  rw [val_main_v4_apply, val_main_v3_apply, val_main_v1_apply]
  exact congrArg x1 (same2 _ _ (by simp; omega) (by simp [keyCol]; omega))

theorem value_at (l : Fin 256) (h : Fin 4) (d : Fin 256) : val_main_v6 (F := Ideal) x1 (ix3 l h d) = x1 (ix2 l (valCol h d)) := by
  rw [val_main_v6_apply, val_main_v5_apply, val_main_v1_apply]
  exact congrArg x1 (same2 _ _ (by simp; omega) (by simp [valCol]; omega))

theorem score_at (h : Fin 4) (r : Fin 4096) (l : Fin 256) :
    val_main_v9 (F := Ideal) x0 x1 (ix3 h r l) = score (bigRow x0 r) x1 h l := by
  rw [val_main_v9_apply, val_main_v8_apply, val_main_cst_apply, val_main_v7_apply]
  refine (congrArg (Ideal.div _) word_sixteen).trans ((div_sixteen _).trans (congrArg (· * sixteenth) (Finset.sum_congr rfl fun d _ => ?_)))
  exact congrArg₂ (· * ·) (query_at x0 r h d) (key_at x1 l h d)

theorem top_at (h : Fin 4) (r : Fin 4096) : val_main_v10 (F := Ideal) x0 x1 (ix2 h r) = top (score (bigRow x0 r) x1 h) := by
  have e : ∀ l, val_main_v9 (F := Ideal) x0 x1 (ix3 h r l) = score (bigRow x0 r) x1 h l := score_at x0 x1 h r
  unfold val_main_v10
  generalize val_main_v9 (F := Ideal) x0 x1 = s at e
  pointwise [val_main_cst_0]
  simp only [e, Cert.KernelIdeal.Heads.word_bot]
  rfl

theorem expo_at (h : Fin 4) (r : Fin 4096) (l : Fin 256) :
    val_main_v16 (F := Ideal) x0 x1 (ix3 h r l) = expo (score (bigRow x0 r) x1 h) l := by
  rw [val_main_v16_apply, val_main_v15_apply, val_main_v14_apply, val_main_v13_apply, val_main_v12_apply, val_main_v11_apply,
    val_main_cst_1_apply]
  have e : max (Ideal.ofBits .f32 0xFF800000#32) (val_main_v10 (F := Ideal) x0 x1 (ix2 h r)) = top (score (bigRow x0 r) x1 h) := by
    rw [Cert.KernelIdeal.Heads.word_bot, top_at, bot_sup_eq]
  have e' : idx_main_v13 (idx_main_v14 (ix3 h r l)) = ix2 h r := same2 _ _ rfl rfl
  rw [e']
  exact congrArg Ideal.exp (congrArg₂ (· - ·) (score_at x0 x1 h r l) e)

theorem total_at (h : Fin 4) (r : Fin 4096) :
    val_main_v17 (F := Ideal) x0 x1 (ix2 h r) = ∑ l, expo (score (bigRow x0 r) x1 h) l := by
  rw [val_main_v17_apply, val_main_cst_2_apply]
  refine (congrArg₂ (· + ·) Cert.Loads.word_zero (Finset.sum_congr rfl fun l _ => ?_)).trans (zero_add _)
  have e : idx_main_v17 (ix2 h r) l = ix3 h r l := same3 _ _ rfl rfl rfl
  rw [e]
  exact expo_at x0 x1 h r l

theorem soft_at (h : Fin 4) (r : Fin 4096) (l : Fin 256) :
    val_main_v20 (F := Ideal) x0 x1 (ix3 h r l) = soft (score (bigRow x0 r) x1 h) l := by
  have e : idx_main_v18 (idx_main_v19 (ix3 h r l)) = ix2 h r := same2 _ _ rfl rfl
  rw [val_main_v20_apply, val_main_v19_apply, val_main_v18_apply, e]
  exact congrArg₂ Ideal.div (expo_at x0 x1 h r l) (total_at x0 x1 h r)

/-- One row of queries under one head: the values averaged by the softmax of the scores. -/
def mean (q : Fin 1024 → EReal) (kv : S256x2048.Idx → EReal) (h : Fin 4) (d : Fin 256) : EReal :=
  ∑ l, soft (score q kv h) l * kv (ix2 l (valCol h d))

/-- What the reference holds in column `d` of head `h`. -/
theorem mean_at (r : Fin 4096) (h : Fin 4) (d : Fin 256) :
    val_main_v24 (F := Ideal) x0 x1 (ix2 r (col h d)) = mean (bigRow x0 r) x1 h d := by
  have e : idx_main_v23 (ix2 r (col h d)) = ix3 r h d :=
    have c := cut_row r.val h.val d.val h.isLt d.isLt (n := (col h d).val) rfl
    same3 _ _ c.1 c.2.1 c.2.2
  rw [val_main_v24_apply, val_main_v23_apply, e, val_main_v22_apply]
  refine (val_main_v21_apply x0 x1 _).trans (Finset.sum_congr rfl fun l _ => ?_)
  have e1 : lidx_main_v21 (idx_main_v22 (ix3 r h d)) l = ix3 l h d := same3 _ _ rfl rfl rfl
  have e2 : ridx_main_v21 (idx_main_v22 (ix3 r h d)) l = ix3 h r l := same3 _ _ rfl rfl rfl
  rw [e1, e2, value_at, soft_at]
  exact mul_comm _ _

/-- The reference runs, its arguments end as they were, and it has no semaphore that could be left raised. -/
theorem reference_frame : @Cert.quiescent_Reference19Ideal Cert.Reference19Ideal.Gen.facts := fun m ρ _ =>
  (θ_run Cert.Reference19Ideal.defs _ _).mono
    (fun r h => ⟨fun c => (h c).2, sem_eq_zero_of_no_sems (by decide) r.2⟩)
    (Cert.Reference19Ideal.Value.run (F := Ideal) m ρ)

end Cert.Reference19Ideal.Attend

end
-- ==== Proof.Attend.lean ====
module

public import proofs.«01_k».proof.Proof.AttendRef
public import proofs.«01_k».proof.Proof.Gen.Kernel19Ideal.Value

/-! The forward cross-attention: each head's softmax of the scaled scores of the queries with the keys, applied to the
values. -/

@[expose] public section

set_option maxRecDepth 16384

noncomputable section

namespace Cert.Kernel19Ideal.Attend

open Idealize.ShloMosaic Idealize.ShloMosaic.TcCoe Idealize.ShloMosaic.Tactic
open Idealize.SL Idealize.SL.Sem
open Cert.KernelIdeal.Heads (ldQ ldK headProb headProb_apply row_ld ldV_apply rowOf col valCol)
open Cert.KernelIdeal.Whole (bigRow)
open Cert.Reference19Ideal.Attend (mean mean_at)
open Cert.Kernel19Ideal Cert.Kernel19Ideal.Gen

/-- One head of a block of rows: the softmax of the scores times the values. -/
def headO (q : FVec Ideal S512x256 .bf16) (k v : FVec Ideal S256x256 .bf16) : FVec Ideal S512x256 .bf16 :=
  truncf .bf16 (matmul dot_S512x256_S256x256_S512x256_1_0_0_1_n_n none (headProb q k) v (constant S512x256 .f32 0x00000000#32))
    bitsLt_bf16_f32

theorem headO_apply (q : FVec Ideal S512x256 .bf16) (k v : FVec Ideal S256x256 .bf16) (i : Fin 512) (j : Fin 256) :
    headO q k v (ix2 i j) = ∑ l, headProb q k (ix2 i l) * v (ix2 l j) := by
  pointwise [headO]

/-- One head of a block, at the place of the block it is stored to. -/
theorem headO_ld (x0 : Vec Ideal S512x1024 .bf16) (x1 : Vec Ideal S256x2048 .bf16) (h : Fin 4) (o ov : ℕ) (ho : o = 256 * h.val)
    (hov : ov = 1024 + 256 * h.val) (i0 : ∀ a, (![0, o] : Fin 2 → ℕ) a + (![512, 256] : Fin 2 → ℕ) a ≤ S512x1024.size a)
    (i1 : ∀ a, (![0, o] : Fin 2 → ℕ) a + (![256, 256] : Fin 2 → ℕ) a ≤ S256x2048.size a)
    (i2 : ∀ a, (![0, ov] : Fin 2 → ℕ) a + (![256, 256] : Fin 2 → ℕ) a ≤ S256x2048.size a)
    (x : S512x256.Idx) (y : S512x1024.Idx) (h0 : (y 0).val = (x 0).val) (h1 : (y 1).val = o + (x 1).val) :
    headO (ldQ x0 o i0) (ldK x1 o i1) (ldK x1 ov i2) x
      = mean (rowOf x0 (y 0)) x1 ⟨(y 1).val / 256, Nat.div_lt_of_lt_mul (y 1).isLt⟩ ⟨(y 1).val % 256, Nat.mod_lt _ (by decide)⟩ := by
  obtain ⟨a, b, rfl⟩ : ∃ (a : Fin 512) (b : Fin 256), x = ix2 a b := ⟨x 0, x 1, eq_ix2 x⟩
  have h0' : (y 0).val = a.val := h0
  have h1' : (y 1).val = o + b.val := h1
  obtain rfl : h = ⟨(y 1).val / 256, Nat.div_lt_of_lt_mul (y 1).isLt⟩ := Fin.ext (by dsimp only; omega)
  have e0 : y 0 = a := Fin.ext h0'
  have e1 : (⟨(y 1).val % 256, Nat.mod_lt _ (by decide)⟩ : Fin 256) = b := Fin.ext (by dsimp only; omega)
  rw [e0, e1, headO_apply]
  refine Finset.sum_congr rfl fun l _ => ?_
  rw [headProb_apply, row_ld x0 x1 _ o ho, ldV_apply x1 _ ov hov i2]

set_option maxHeartbeats 1000000 in
/-- A block of the output. -/
theorem block_eq (x0 : Vec Ideal S512x1024 .bf16) (x1 : Vec Ideal S256x2048 .bf16) (y : S512x1024.Idx) :
    out0_2 x0 x1 y = mean (rowOf x0 (y 0)) x1 ⟨(y 1).val / 256, Nat.div_lt_of_lt_mul (y 1).isLt⟩
      ⟨(y 1).val % 256, Nat.mod_lt _ (by decide)⟩ := by
  unfold_out out0_2
  canon_tiles x h
  · open_payloads
    exact headO_ld x0 x1 3 768 1792 (by decide) (by decide) _ _ _ x y h0 h1
  · open_payloads
    exact headO_ld x0 x1 2 512 1536 (by decide) (by decide) _ _ _ x y h0 h1
  · open_payloads
    exact headO_ld x0 x1 1 256 1280 (by decide) (by decide) _ _ _ x y h0 h1
  · open_payloads
    exact headO_ld x0 x1 0 0 1024 (by decide) (by decide) _ _ _ x y h0 (h1.trans (Nat.zero_add _).symm)

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)

/-- The whole output, entry by entry. -/
def all (q : S4096x1024.Idx → EReal) (kv : S256x2048.Idx → EReal) (i : S4096x1024.Idx) : EReal :=
  mean (bigRow q (i 0)) kv ⟨(i 1).val / 256, Nat.div_lt_of_lt_mul (i 1).isLt⟩ ⟨(i 1).val % 256, Nat.mod_lt _ (by decide)⟩

section Run

variable (m : (ℓ : Loc nD τ sig) → Buf (Elt Ideal) ℓ) (c : Dev nD) (t : Fin cfg0.N)

/-- The array's row that is row `i` of point `t`'s block. -/
abbrev rowAt (i : Fin 512) : Fin 4096 := ⟨t.val * 512 + i.val, by have := lt_of_lt_of_eq t.isLt N_0; omega⟩

theorem queries_block (i : Fin 512) :
    rowOf (iblk m c 0 t) i = bigRow (m ((c : Thread nD τ).loc main_arg0)) (rowAt t i) := by
  funext d
  show iblk m c 0 t (ix2 i d) = m ((c : Thread nD τ).loc main_arg0) (ix2 (rowAt t i) d)
  blk_ext [iblk, V, index0 t]

theorem memory_block : iblk m c 1 t = m ((c : Thread nD τ).loc main_arg1) := by
  funext y
  obtain ⟨a, b, rfl⟩ : ∃ (a : Fin 256) (b : Fin 2048), y = ix2 a b := ⟨y 0, y 1, eq_ix2 y⟩
  blk_ext [iblk, V, index1 t]

/-- What a point leaves: its rows of the output. -/
theorem block_rows (y : S512x1024.Idx) : out0_2 (iblk m c 0 t) (iblk m c 1 t) y
    = all (m ((c : Thread nD τ).loc main_arg0)) (m ((c : Thread nD τ).loc main_arg1)) (ix2 (rowAt t (y 0)) (y 1)) := by
  obtain ⟨a, b, rfl⟩ : ∃ (a : Fin 512) (b : Fin 1024), y = ix2 a b := ⟨y 0, y 1, eq_ix2 y⟩
  exact (block_eq _ _ _).trans (congrArg₂ (fun q kv => mean q kv ⟨b.val / 256, Nat.div_lt_of_lt_mul b.isLt⟩
    ⟨b.val % 256, Nat.mod_lt _ (by decide)⟩) (queries_block m c t a) (memory_block m c t))

/-- The array after the run. -/
theorem final : (dats m 0 c).arrAt 2 cfg0.N
    = all (m ((c : Thread nD τ).loc main_arg0)) (m ((c : Thread nD τ).loc main_arg1)) := by
  refine (dats m 0 c).arrAt_eq_of_covers 2 _ (by decide +kernel) fun t hf y => ?_
  blk_simp
  rw [after0_2]
  have e : (win0_2.blk t).view.emb y = (ix2 (rowAt t (y 0)) (y 1) : S4096x1024.Idx) := by
    blk_ext [index2 t]
  exact (block_rows m c t y).trans (congrArg (all _ _) e.symm)

end Run

open Cert.Reference19Ideal.Read in
theorem reference_eq (q : S4096x1024.Idx → EReal) (kv : S256x2048.Idx → EReal) :
    val_main_v24 (F := Ideal) q kv = all q kv := by
  funext i
  have e : i = ix2 (i 0) (col ⟨(i 1).val / 256, Nat.div_lt_of_lt_mul (i 1).isLt⟩ ⟨(i 1).val % 256, Nat.mod_lt _ (by decide)⟩) :=
    Cert.ReferenceIdeal.Rows.same2 _ _ rfl (Nat.div_add_mod _ _).symm
  exact (congrArg (val_main_v24 (F := Ideal) q kv) e).trans (mean_at q kv (i 0) _ _)

open Cert.Reference19Ideal.Read in
/-- The kernel and the reference end with the same array. -/
theorem equal : @Cert.algebraic_Kernel19Ideal_Reference19Ideal Cert.Kernel19Ideal.Gen.facts Cert.Reference19Ideal.Gen.facts := by
  intro m g m' g' _ hargs
  refine ⟨fun c => (dats m 0 c).arrAt 2 cfg0.N, Cert.Kernel19Ideal.Value.run_blocks m g, ?_⟩
  refine (θ_run _ _ _).mono (fun r h c => ?_) (Cert.Reference19Ideal.Value.run m' g')
  obtain ⟨hd, hrest⟩ := h c
  obtain ⟨e0, e1⟩ := hargs c
  refine ⟨hd.trans ?_, hrest⟩
  rw [val_main_v24_eq, e0, e1]
  exact (reference_eq _ _).trans (final m c).symm

end Cert.Kernel19Ideal.Attend

end
-- ==== Proof.Steps.lean ====
module

public import proofs.«01_k».proof.Proof.Loads

/-! One AdamW step of one weight, over the extended reals, with the constants as the programs write them. -/

@[expose] public section

noncomputable section

namespace Cert.Steps

open Idealize.ShloMosaic

/-- The running mean of the gradients. -/
def mean (g m : EReal) : EReal := Ideal.ofBits .f32 0x3F666666#32 * m + Ideal.ofBits .f32 0x3DCCCCCD#32 * g

/-- The running mean of the gradients' squares. -/
def meanSq (g v : EReal) : EReal := Ideal.ofBits .f32 0x3F7FBE77#32 * v + Ideal.ofBits .f32 0x3A83126F#32 * (g * g)

/-- What is added to the weight. -/
def delta (w g m v : EReal) : EReal :=
  Ideal.ofBits .f32 0xBA83126F#32
    * (Ideal.div (Ideal.div (mean g m) (Ideal.ofBits .f32 0x3F26BD02#32))
        (Ideal.sqrt (Ideal.div (meanSq g v) (Ideal.ofBits .f32 0x3C231ACC#32)) + Ideal.ofBits .f32 0x322BCC77#32)
      + Ideal.ofBits .f32 0x3C23D70A#32 * w)

/-- An entry of the sum of eight devices' parts. -/
def total {n0 n1 : ℕ} (p : (⟨3, ![8, n0, n1]⟩ : Shape).Idx → EReal) (i : Fin n0) (j : Fin n1) : EReal := ∑ s, p (ix3 s i j)

theorem total_congr {n0 n1 n0' n1' : ℕ} {p : (⟨3, ![8, n0, n1]⟩ : Shape).Idx → EReal} {p' : (⟨3, ![8, n0', n1']⟩ : Shape).Idx → EReal}
    {i : Fin n0} {j : Fin n1} {i' : Fin n0'} {j' : Fin n1'} (h : ∀ s, p (ix3 s i j) = p' (ix3 s i' j')) : total p i j = total p' i' j' :=
  Finset.sum_congr rfl fun s _ => h s

/-- Four layers, stacked. -/
theorem stack_four {n0 n1 : ℕ} (u : Fin 4 → (⟨3, ![1, n0, n1]⟩ : Shape).Idx → EReal)
    (h : Shape.Concatenates ((List.ofFn fun n : Fin 4 => (⟨⟨3, ![1, n0, n1]⟩, u n⟩ : (s : Shape) × (s.Idx → EReal))).map (·.1)) ⟨3, ![4, n0, n1]⟩ 0)
    (l : Fin 4) (i : Fin n0) (j : Fin n1) :
    concatenate ⟨3, ![4, n0, n1]⟩ 0 (List.ofFn fun n : Fin 4 => (⟨⟨3, ![1, n0, n1]⟩, u n⟩ : (s : Shape) × (s.Idx → EReal))) h (ix3 l i j)
      = u l (ix3 0 i j) :=
  concatenate_ofFn_unit_apply (t := ⟨3, ![4, n0, n1]⟩) (s₁ := ⟨3, ![1, n0, n1]⟩) 0 u h rfl rfl (ix3 l i j) l rfl (ix3 0 i j) fun b hb => by
    match b with
    | ⟨0, _⟩ => exact absurd rfl hb
    | ⟨1, _⟩ => rfl
    | ⟨2, _⟩ => rfl

end Cert.Steps

end
-- ==== Proof.Adam.lean ====
module

public import proofs.«01_k».proof.Proof.Gen.Kernel20Ideal.Value
public import proofs.«01_k».proof.Proof.Gen.Reference20Ideal.Run
public import proofs.«01_k».proof.Proof.Gen.Reference20Ideal.Read
public import proofs.«01_k».proof.Proof.Products
public import proofs.«01_k».proof.Proof.Steps
public import proofs.«01_k».proof.Defs
public import Idealize.ShloMosaic.Adequacy
public import Idealize.ShloMosaic.Init

/-! The AdamW step of a projection's weights, layer by layer. -/

@[expose] public section

set_option maxRecDepth 16384

noncomputable section

namespace Cert.Kernel20Ideal.Adam

open Idealize.ShloMosaic Idealize.ShloMosaic.TcCoe Idealize.ShloMosaic.Tactic
open Idealize.SL Idealize.SL.Sem
open Cert.Loads Cert.Steps
open Cert.Kernel20Ideal Cert.Kernel20Ideal.Gen

section block

variable (w m v : Vec Ideal S1x128x1024 .f32) (p : Vec Ideal S8x128x1024 .bf16)

/-- Part `s` of a layer's gradient, as the kernel loads it. -/
abbrev slice (s : ℕ) (b : ∀ a, (![s, 0, 0] : Fin 3 → ℕ) a + (![1, 128, 1024] : Fin 3 → ℕ) a ≤ S8x128x1024.size a) : Vec Ideal S1x128x1024 .bf16 :=
  View.ld (Val := Elt Ideal) p (Rect.unit (s := S8x128x1024) ![s, 0, 0] ![1, 128, 1024] b)

/-- The eight parts, loaded one by one and added in turn. -/
abbrev summed : Vec Ideal S128x1024 .f32 :=
  k0_pay9 (slice p 0 (by decide)) (slice p 1 (by decide)) (slice p 2 (by decide)) (slice p 3 (by decide))
    (slice p 4 (by decide)) (slice p 5 (by decide)) (slice p 6 (by decide)) (slice p 7 (by decide))

theorem sum_at (i : Fin 128) (j : Fin 1024) : summed p (ix2 i j) = total p i j := by
  have e : ∀ u0 u1 u2 u3 u4 u5 u6 u7 : Vec Ideal S1x128x1024 .bf16, k0_pay9 u0 u1 u2 u3 u4 u5 u6 u7 (ix2 i j)
      = u0 (ix3 0 i j) + u1 (ix3 0 i j) + u2 (ix3 0 i j) + u3 (ix3 0 i j) + u4 (ix3 0 i j) + u5 (ix3 0 i j) + u6 (ix3 0 i j)
        + u7 (ix3 0 i j) := fun _ _ _ _ _ _ _ _ => by
    pointwise [k0_pay9]
  have l : ∀ (s : ℕ) (hs : s < 8) b, slice p s b (ix3 0 i j) = p (ix3 ⟨s, hs⟩ i j) :=
    fun s hs b => ld3 p s 0 0 b _ _ rfl (Nat.zero_add _).symm (Nat.zero_add _).symm
  unfold summed
  rw [e, total, Fin.sum_univ_eight, l 0 (by omega), l 1 (by omega), l 2 (by omega), l 3 (by omega), l 4 (by omega), l 5 (by omega),
    l 6 (by omega), l 7 (by omega)]
  rfl

theorem grad_at (i : Fin 128) (j : Fin 1024) : k0_pay13 (F := Ideal) (summed p) (ix3 0 i j) = total p i j := by
  rw [← sum_at]
  generalize summed p = g
  pointwise [k0_pay13]

theorem mean_at (i : Fin 128) (j : Fin 1024) :
    k0_pay1 (F := Ideal) (k0_pay11 (summed p) m) (ix3 0 i j) = mean (total p i j) (m (ix3 0 i j)) := by
  rw [← sum_at]
  generalize summed p = g
  pointwise [k0_pay1, k0_pay11, mean]

theorem meanSq_at (i : Fin 128) (j : Fin 1024) :
    k0_pay2 (F := Ideal) (k0_pay12 (summed p) v) (ix3 0 i j) = meanSq (total p i j) (v (ix3 0 i j)) := by
  rw [← sum_at]
  generalize summed p = g
  pointwise [k0_pay2, k0_pay12, meanSq]

theorem delta_at (i : Fin 128) (j : Fin 1024) :
    k0_pay14 (F := Ideal) (summed p) (k0_pay10 w) m v (ix3 0 i j)
      = delta (w (ix3 0 i j)) (total p i j) (m (ix3 0 i j)) (v (ix3 0 i j)) := by
  rw [← sum_at]
  generalize summed p = g
  pointwise [k0_pay14, k0_pay10, k0_pay11, k0_pay12, delta, mean, meanSq]

end block

section arrays

variable (m : (ℓ : Loc nD τ sig) → Buf (Elt Ideal) ℓ) (c : Dev nD)

/-- The parts of the layer that is worked on at point `t`. -/
def running (t : Fin cfg0.N) : Vec Ideal S8x128x1024 .bf16 :=
  if t.val % 4 = 0 then iblk m c 3 t else if t.val % 4 = 1 then iblk m c 4 t else if t.val % 4 = 2 then iblk m c 5 t else iblk m c 6 t

set_option maxHeartbeats 1000000 in
/-- The four results of a point, at an entry. -/
theorem results_at (t : Fin cfg0.N) (i : Fin 128) (j : Fin 1024) :
    (outsAt0 m c t.val t.isLt).1 (ix3 0 i j) = total (running m c t) i j
    ∧ (outsAt0 m c t.val t.isLt).2.1 (ix3 0 i j) = delta (iblk m c 0 t (ix3 0 i j)) (total (running m c t) i j) (iblk m c 1 t (ix3 0 i j))
        (iblk m c 2 t (ix3 0 i j))
    ∧ (outsAt0 m c t.val t.isLt).2.2.1 (ix3 0 i j) = mean (total (running m c t) i j) (iblk m c 1 t (ix3 0 i j))
    ∧ (outsAt0 m c t.val t.isLt).2.2.2 (ix3 0 i j) = meanSq (total (running m c t) i j) (iblk m c 2 t (ix3 0 i j)) := by
  unfold running
  split_ifs with h0 h1 h2
  on_goal 1 => rw [outsAt0_A m c t h0 (by omega) (by omega) (by omega)]
  on_goal 2 => rw [outsAt0_B m c t h0 h1 (by omega) (by omega)]
  on_goal 3 => rw [outsAt0_C m c t h0 h1 h2 (by omega)]
  on_goal 4 => rw [outsAt0_D m c t h0 h1 h2 (by omega)]
  all_goals refine ⟨?_, ?_, ?_, ?_⟩
  all_goals
    frame_open
    frame_out
    generalize e0 : View.read (Elt Ideal) (ms0_0 t).view ((hs0_0 t).unread (iblk m c 0 t)) = b0
    generalize e1 : View.read (Elt Ideal) (ms0_1 t).view ((hs0_1 t).unread (iblk m c 1 t)) = b1
    generalize e2 : View.read (Elt Ideal) (ms0_2 t).view ((hs0_2 t).unread (iblk m c 2 t)) = b2
    generalize e3 : View.read (Elt Ideal) (ms0_3 t).view ((hs0_3 t).unread (iblk m c 3 t)) = b3
    generalize e4 : View.read (Elt Ideal) (ms0_4 t).view ((hs0_4 t).unread (iblk m c 4 t)) = b4
    generalize e5 : View.read (Elt Ideal) (ms0_5 t).view ((hs0_5 t).unread (iblk m c 5 t)) = b5
    generalize e6 : View.read (Elt Ideal) (ms0_6 t).view ((hs0_6 t).unread (iblk m c 6 t)) = b6
    obtain rfl : b0 = iblk m c 0 t := e0.symm.trans (Memref.IsWhole.read_unread _ _)
    obtain rfl : b1 = iblk m c 1 t := e1.symm.trans (Memref.IsWhole.read_unread _ _)
    obtain rfl : b2 = iblk m c 2 t := e2.symm.trans (Memref.IsWhole.read_unread _ _)
    obtain rfl : b3 = iblk m c 3 t := e3.symm.trans (Memref.IsWhole.read_unread _ _)
    obtain rfl : b4 = iblk m c 4 t := e4.symm.trans (Memref.IsWhole.read_unread _ _)
    obtain rfl : b5 = iblk m c 5 t := e5.symm.trans (Memref.IsWhole.read_unread _ _)
    obtain rfl : b6 = iblk m c 6 t := e6.symm.trans (Memref.IsWhole.read_unread _ _)
    clear e0 e1 e2 e3 e4 e5 e6
  iterate 4
    · exact grad_at _ i j
    · exact delta_at _ _ _ _ i j
    · exact mean_at _ _ i j
    · exact meanSq_at _ _ i j

theorem index0 : ∀ t : Fin cfg0.N, win0_0.index t = ![t.val, 0, 0] := (by decide +kernel : ∀ t : Fin grid0.N, _)
theorem index1 : ∀ t : Fin cfg0.N, win0_1.index t = ![t.val, 0, 0] := (by decide +kernel : ∀ t : Fin grid0.N, _)
theorem index2 : ∀ t : Fin cfg0.N, win0_2.index t = ![t.val, 0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0, 0] := (by decide +kernel : ∀ t : Fin grid0.N, _)
theorem index5 : ∀ t : Fin cfg0.N, win0_5.index t = ![0, 0, 0] := (by decide +kernel : ∀ t : Fin grid0.N, _)
theorem index6 : ∀ t : Fin cfg0.N, win0_6.index t = ![0, 0, 0] := (by decide +kernel : ∀ t : Fin grid0.N, _)
theorem index7 : ∀ t : Fin cfg0.N, win0_7.index t = ![t.val, 0, 0] := (by decide +kernel : ∀ t : Fin grid0.N, _)
theorem index8 : ∀ t : Fin cfg0.N, win0_8.index t = ![t.val, 0, 0] := (by decide +kernel : ∀ t : Fin grid0.N, _)
theorem index9 : ∀ t : Fin cfg0.N, win0_9.index t = ![t.val, 0, 0] := (by decide +kernel : ∀ t : Fin grid0.N, _)
theorem index10 : ∀ t : Fin cfg0.N, win0_10.index t = ![t.val, 0, 0] := (by decide +kernel : ∀ t : Fin grid0.N, _)

/-- The layer of a point. -/
abbrev layer (t : Fin cfg0.N) : Fin 4 := ⟨t.val, lt_of_lt_of_eq t.isLt N_0⟩

theorem weights (t : Fin cfg0.N) (i : Fin 128) (j : Fin 1024) :
    iblk m c 0 t (ix3 0 i j) = m ((c : Thread nD τ).loc main_arg0) (ix3 (layer t) i j) := by
  blk_ext [iblk, V, index0 t]

theorem means (t : Fin cfg0.N) (i : Fin 128) (j : Fin 1024) :
    iblk m c 1 t (ix3 0 i j) = m ((c : Thread nD τ).loc main_arg1) (ix3 (layer t) i j) := by
  blk_ext [iblk, V, index1 t]

theorem meansSq (t : Fin cfg0.N) (i : Fin 128) (j : Fin 1024) :
    iblk m c 2 t (ix3 0 i j) = m ((c : Thread nD τ).loc main_arg2) (ix3 (layer t) i j) := by
  blk_ext [iblk, V, index2 t]

/-- The four layers' parts. -/
def parts : Fin 4 → Vec Ideal S8x128x1024 .bf16 :=
  ![m ((c : Thread nD τ).loc main_arg3), m ((c : Thread nD τ).loc main_arg4), m ((c : Thread nD τ).loc main_arg5),
    m ((c : Thread nD τ).loc main_arg6)]

theorem running_eq (t : Fin cfg0.N) : running m c t = parts m c (layer t) := by
  have hN : t.val < 4 := lt_of_lt_of_eq t.isLt N_0
  unfold running
  split_ifs with h0 h1 h2
  · rw [show layer t = 0 from Fin.ext (show t.val = 0 by omega)]
    funext i
    show iblk m c 3 t i = m ((c : Thread nD τ).loc main_arg3) i
    blk_ext [iblk, V, index3 t]
  · rw [show layer t = 1 from Fin.ext (show t.val = 1 by omega)]
    funext i
    show iblk m c 4 t i = m ((c : Thread nD τ).loc main_arg4) i
    blk_ext [iblk, V, index4 t]
  · rw [show layer t = 2 from Fin.ext (show t.val = 2 by omega)]
    funext i
    show iblk m c 5 t i = m ((c : Thread nD τ).loc main_arg5) i
    blk_ext [iblk, V, index5 t]
  · rw [show layer t = 3 from Fin.ext (show t.val = 3 by omega)]
    funext i
    show iblk m c 6 t i = m ((c : Thread nD τ).loc main_arg6) i
    blk_ext [iblk, V, index6 t]

/-- The gradient that four layers' parts sum to. -/
def grad (p : Fin 4 → S8x128x1024.Idx → EReal) (y : S4x128x1024.Idx) : EReal := total (p (y 0)) (y 1) (y 2)

theorem final7 : (dats m 0 c).arrAt 7 cfg0.N = grad (parts m c) := by
  refine (dats m 0 c).arrAt_eq_of_covers 7 _ (by decide +kernel) fun t hf y => ?_
  blk_simp
  obtain ⟨i, j, rfl⟩ : ∃ (i : Fin 128) (j : Fin 1024), y = ix3 0 i j := ⟨y 1, y 2, at3 _ _ (Nat.lt_one_iff.mp (y 0).isLt) rfl rfl⟩
  have e : (win0_7.blk t).view.emb (ix3 0 i j) = ix3 (layer t) i j := by
    blk_ext [index7 t]
  rw [after0_7, (results_at m c t i j).1, running_eq, e]
  rfl

theorem final8 : (dats m 0 c).arrAt 8 cfg0.N
      = fun y => delta (m ((c : Thread nD τ).loc main_arg0) y) (grad (parts m c) y) (m ((c : Thread nD τ).loc main_arg1) y)
          (m ((c : Thread nD τ).loc main_arg2) y) := by
  refine (dats m 0 c).arrAt_eq_of_covers 8 _ (by decide +kernel) fun t hf y => ?_
  blk_simp
  obtain ⟨i, j, rfl⟩ : ∃ (i : Fin 128) (j : Fin 1024), y = ix3 0 i j := ⟨y 1, y 2, at3 _ _ (Nat.lt_one_iff.mp (y 0).isLt) rfl rfl⟩
  have e : (win0_8.blk t).view.emb (ix3 0 i j) = ix3 (layer t) i j := by
    blk_ext [index8 t]
  rw [after0_8, (results_at m c t i j).2.1, running_eq, weights, means, meansSq, e]
  rfl

theorem final9 : (dats m 0 c).arrAt 9 cfg0.N = fun y => mean (grad (parts m c) y) (m ((c : Thread nD τ).loc main_arg1) y) := by
  refine (dats m 0 c).arrAt_eq_of_covers 9 _ (by decide +kernel) fun t hf y => ?_
  blk_simp
  obtain ⟨i, j, rfl⟩ : ∃ (i : Fin 128) (j : Fin 1024), y = ix3 0 i j := ⟨y 1, y 2, at3 _ _ (Nat.lt_one_iff.mp (y 0).isLt) rfl rfl⟩
  have e : (win0_9.blk t).view.emb (ix3 0 i j) = ix3 (layer t) i j := by
    blk_ext [index9 t]
  rw [after0_9, (results_at m c t i j).2.2.1, running_eq, means, e]
  rfl

theorem final10 : (dats m 0 c).arrAt 10 cfg0.N = fun y => meanSq (grad (parts m c) y) (m ((c : Thread nD τ).loc main_arg2) y) := by
  refine (dats m 0 c).arrAt_eq_of_covers 10 _ (by decide +kernel) fun t hf y => ?_
  blk_simp
  obtain ⟨i, j, rfl⟩ : ∃ (i : Fin 128) (j : Fin 1024), y = ix3 0 i j := ⟨y 1, y 2, at3 _ _ (Nat.lt_one_iff.mp (y 0).isLt) rfl rfl⟩
  have e : (win0_10.blk t).view.emb (ix3 0 i j) = ix3 (layer t) i j := by
    blk_ext [index10 t]
  rw [after0_10, (results_at m c t i j).2.2.2, running_eq, meansSq, e]
  rfl

end arrays

section reference

open Cert.Reference20Ideal.Read

variable (w m v : S4x128x1024.Idx → EReal) (p0 p1 p2 p3 : S8x128x1024.Idx → EReal) (y : S4x128x1024.Idx)

theorem reference_grad : val_main_v12 (F := Ideal) p0 p1 p2 p3 y = grad ![p0, p1, p2, p3] y := by
  obtain ⟨l, i, j, rfl⟩ : ∃ (l : Fin 4) (i : Fin 128) (j : Fin 1024), y = ix3 l i j := ⟨y 0, y 1, y 2, eq_ix3 y⟩
  have z : ∀ s : EReal, val_main_cst (F := Ideal) (Shape.Idx.first Cert.Reference20Ideal.Gen.h_S_) + s = s :=
    fun s => (congrArg (· + s) word_zero).trans (zero_add s)
  have e0 : val_main_v8 (F := Ideal) p0 (ix3 0 i j) = total p0 i j := by
    rw [val_main_v8_apply, val_main_v1_apply]
    exact (z _).trans (Finset.sum_congr rfl fun s _ => congrArg p0 (at3 _ _ rfl rfl rfl))
  have e1 : val_main_v9 (F := Ideal) p1 (ix3 0 i j) = total p1 i j := by
    rw [val_main_v9_apply, val_main_v3_apply]
    exact (z _).trans (Finset.sum_congr rfl fun s _ => congrArg p1 (at3 _ _ rfl rfl rfl))
  have e2 : val_main_v10 (F := Ideal) p2 (ix3 0 i j) = total p2 i j := by
    rw [val_main_v10_apply, val_main_v5_apply]
    exact (z _).trans (Finset.sum_congr rfl fun s _ => congrArg p2 (at3 _ _ rfl rfl rfl))
  have e3 : val_main_v11 (F := Ideal) p3 (ix3 0 i j) = total p3 i j := by
    rw [val_main_v11_apply, val_main_v7_apply]
    exact (z _).trans (Finset.sum_congr rfl fun s _ => congrArg p3 (at3 _ _ rfl rfl rfl))
  refine (stack_four ![val_main_v8 (F := Ideal) p0, val_main_v9 (F := Ideal) p1, val_main_v10 (F := Ideal) p2, val_main_v11 (F := Ideal) p3] _ l i j).trans ?_
  match l with
  | 0 => exact e0
  | 1 => exact e1
  | 2 => exact e2
  | 3 => exact e3

theorem reference_mean : val_main_v17 (F := Ideal) m p0 p1 p2 p3 y = mean (grad ![p0, p1, p2, p3] y) (m y) := by
  rw [val_main_v17_apply, val_main_v14_apply, val_main_v16_apply, val_main_v13_apply, val_main_v15_apply, reference_grad]
  rfl

theorem reference_meanSq : val_main_v23 (F := Ideal) v p0 p1 p2 p3 y = meanSq (grad ![p0, p1, p2, p3] y) (v y) := by
  rw [val_main_v23_apply, val_main_v19_apply, val_main_v22_apply, val_main_v18_apply, val_main_v21_apply, val_main_v20_apply, reference_grad]
  rfl

theorem reference_delta : val_main_v36 (F := Ideal) w m v p0 p1 p2 p3 y = delta (w y) (grad ![p0, p1, p2, p3] y) (m y) (v y) := by
  rw [val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, reference_mean, reference_meanSq]
  rfl

end reference

/-- The reference runs, its arguments end as they were, and it has no semaphore that could be left raised. -/
theorem reference_frame : @Cert.quiescent_Reference20Ideal Cert.Reference20Ideal.Gen.facts := fun m ρ _ =>
  (θ_run Cert.Reference20Ideal.defs _ _).mono
    (fun r h => ⟨fun c => (h c).2.2.2.2, sem_eq_zero_of_no_sems (by decide) r.2⟩)
    (Cert.Reference20Ideal.Value.run (F := Ideal) m ρ)

open Cert.Reference20Ideal.Read in
/-- The kernel and the reference end with the same four arrays. -/
theorem equal : @Cert.algebraic_Kernel20Ideal_Reference20Ideal Cert.Kernel20Ideal.Gen.facts Cert.Reference20Ideal.Gen.facts := by
  intro m g m' g' _ hargs
  refine ⟨fun c => (dats m 0 c).arrAt 7 cfg0.N, fun c => (dats m 0 c).arrAt 8 cfg0.N, fun c => (dats m 0 c).arrAt 9 cfg0.N,
    fun c => (dats m 0 c).arrAt 10 cfg0.N, Cert.Kernel20Ideal.Value.run_blocks m g, ?_⟩
  refine (θ_run _ _ _).mono (fun r h c => ?_) (Cert.Reference20Ideal.Value.run m' g')
  obtain ⟨h0, h1, h2, h3, hrest⟩ := h c
  obtain ⟨e0, e1, e2, e3, e4, e5, e6⟩ := hargs c
  refine ⟨h0.trans ?_, h1.trans ?_, h2.trans ?_, h3.trans ?_, hrest⟩
  · rw [val_main_v12_eq, e3, e4, e5, e6]
    exact (funext fun y => reference_grad _ _ _ _ y).trans (final7 m c).symm
  · rw [val_main_v36_eq, e0, e1, e2, e3, e4, e5, e6]
    exact (funext fun y => reference_delta _ _ _ _ _ _ _ y).trans (final8 m c).symm
  · rw [val_main_v17_eq, e1, e3, e4, e5, e6]
    exact (funext fun y => reference_mean _ _ _ _ _ y).trans (final9 m c).symm
  · rw [val_main_v23_eq, e2, e3, e4, e5, e6]
    exact (funext fun y => reference_meanSq _ _ _ _ _ y).trans (final10 m c).symm

end Cert.Kernel20Ideal.Adam

end
-- ==== Proof.AdamSmall.lean ====
module

public import proofs.«01_k».proof.Proof.Gen.Kernel23Ideal.Value
public import proofs.«01_k».proof.Proof.Gen.Reference23Ideal.Run
public import proofs.«01_k».proof.Proof.Gen.Reference23Ideal.Read
public import proofs.«01_k».proof.Proof.Products
public import proofs.«01_k».proof.Proof.Steps
public import proofs.«01_k».proof.Defs
public import Idealize.ShloMosaic.Adequacy
public import Idealize.ShloMosaic.Init

/-! The AdamW step of the small weights, packed in one matrix. -/

@[expose] public section

set_option maxRecDepth 16384

noncomputable section

namespace Cert.Kernel23Ideal.AdamSmall

open Idealize.ShloMosaic Idealize.ShloMosaic.TcCoe Idealize.ShloMosaic.Tactic
open Idealize.SL Idealize.SL.Sem
open Cert.Loads Cert.Products Cert.Steps
open Cert.Kernel23Ideal Cert.Kernel23Ideal.Gen

section block

variable (w m v : Vec Ideal S2296x128 .f32) (p : Vec Ideal S8x2296x128 .f32)

/-- The sum of the eight parts. -/
theorem sum_at (i : Fin 2296) (j : Fin 128) : k0_pay6 w m v p (ix2 i j) = total p i j := by
  have e : ∀ u0 u1 u2 u3 u4 u5 u6 u7 : Vec Ideal S1x2296x128 .f32, k0_pay4 u0 u1 u2 u3 u4 u5 u6 u7 (ix2 i j)
      = u0 (ix3 0 i j) + u1 (ix3 0 i j) + u2 (ix3 0 i j) + u3 (ix3 0 i j) + u4 (ix3 0 i j) + u5 (ix3 0 i j) + u6 (ix3 0 i j)
        + u7 (ix3 0 i j) := fun _ _ _ _ _ _ _ _ => by
    pointwise [k0_pay4]
  have l : ∀ (s : ℕ) (hs : s < 8) (b : ∀ a, (![s, 0, 0] : Fin 3 → ℕ) a + (![1, 2296, 128] : Fin 3 → ℕ) a ≤ S8x2296x128.size a),
      View.ld (Val := Elt Ideal) p (Rect.unit (s := S8x2296x128) ![s, 0, 0] ![1, 2296, 128] b) (ix3 0 i j) = p (ix3 ⟨s, hs⟩ i j) :=
    fun s hs b => ld3 p s 0 0 b _ _ rfl (Nat.zero_add _).symm (Nat.zero_add _).symm
  rw [k0_pay6, e, total, Fin.sum_univ_eight]
  simp only [r0_0, r0_1, r0_2, r0_3, r0_4, r0_5, r0_6, r0_7]
  rw [l 0 (by omega), l 1 (by omega), l 2 (by omega), l 3 (by omega), l 4 (by omega), l 5 (by omega), l 6 (by omega), l 7 (by omega)]
  rfl

theorem mean_at (g n : Vec Ideal S2296x128 .f32) (y : S2296x128.Idx) :
    k0_pay1 g (k0_pay5 n) (Scalar.ofBits (F := Ideal) .f32 0x3DCCCCCD#32) y = mean (g y) (n y) := by
  pointwise [k0_pay1, k0_pay5, mean]

theorem meanSq_at (g n : Vec Ideal S2296x128 .f32) (y : S2296x128.Idx) : k0_pay2 g n y = meanSq (g y) (n y) := by
  pointwise [k0_pay2, meanSq]

theorem delta_at (u g n o : Vec Ideal S2296x128 .f32) (y : S2296x128.Idx) :
    k0_pay3 g u o (k0_pay5 n) (Scalar.ofBits (F := Ideal) .f32 0x3DCCCCCD#32) y = delta (u y) (g y) (n y) (o y) := by
  rw [delta, ← mean_at, ← meanSq_at]
  pointwise [k0_pay3]

/-- The four results at an entry. -/
theorem results_at (i : Fin 2296) (j : Fin 128) :
    out0_4 w m v p (ix2 i j) = total p i j
    ∧ out0_5 w m v p (ix2 i j) = delta (w (ix2 i j)) (total p i j) (m (ix2 i j)) (v (ix2 i j))
    ∧ out0_6 w m v p (ix2 i j) = mean (total p i j) (m (ix2 i j))
    ∧ out0_7 w m v p (ix2 i j) = meanSq (total p i j) (v (ix2 i j)) := by
  refine ⟨?_, ?_, ?_, ?_⟩
  · unfold out0_4
    canon_tiles z h
    obtain rfl := at2 _ z h0 h1
    exact sum_at w m v p i j
  · unfold out0_5
    canon_tiles z h
    obtain rfl := at2 _ z h0 h1
    rw [k0_pay7, ld2_all, ld2_all, ld2_all, delta_at, sum_at]
  · unfold out0_6
    canon_tiles z h
    obtain rfl := at2 _ z h0 h1
    rw [k0_pay7, ld2_all, mean_at, sum_at]
  · unfold out0_7
    canon_tiles z h
    obtain rfl := at2 _ z h0 h1
    rw [ld2_all, meanSq_at, sum_at]

end block

section arrays

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![0, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![0, 0] := (by decide +kernel : ∀ t : Fin grid0.N, _)

variable (m : (ℓ : Loc nD τ sig) → Buf (Elt Ideal) ℓ) (c : Dev nD) (t : Fin cfg0.N)

theorem parts : iblk m c 3 t = m ((c : Thread nD τ).loc main_arg3) := by
  funext i
  blk_ext [iblk, V, index3 t]

theorem weights : iblk m c 0 t = m ((c : Thread nD τ).loc main_arg0) := by
  funext i
  blk_ext [iblk, V, index0 t]

theorem means : iblk m c 1 t = m ((c : Thread nD τ).loc main_arg1) := by
  funext i
  blk_ext [iblk, V, index1 t]

theorem meansSq : iblk m c 2 t = m ((c : Thread nD τ).loc main_arg2) := by
  funext i
  blk_ext [iblk, V, index2 t]

theorem final4 : (dats m 0 c).arrAt 4 cfg0.N = fun y => total (m ((c : Thread nD τ).loc main_arg3)) (y 0) (y 1) := by
  refine (dats m 0 c).arrAt_eq_of_covers 4 _ (by decide +kernel) fun t hf y => ?_
  blk_simp
  obtain ⟨a, b, rfl⟩ : ∃ (a : Fin 2296) (b : Fin 128), y = ix2 a b := ⟨y 0, y 1, eq_ix2 y⟩
  have e : (win0_4.blk t).view.emb (ix2 a b) = ix2 a b := by
    blk_ext [index4 t]
  rw [after0_4, (results_at _ _ _ _ a b).1, parts, e]
  rfl

theorem final5 : (dats m 0 c).arrAt 5 cfg0.N
      = fun y => delta (m ((c : Thread nD τ).loc main_arg0) y) (total (m ((c : Thread nD τ).loc main_arg3)) (y 0) (y 1))
          (m ((c : Thread nD τ).loc main_arg1) y) (m ((c : Thread nD τ).loc main_arg2) y) := by
  refine (dats m 0 c).arrAt_eq_of_covers 5 _ (by decide +kernel) fun t hf y => ?_
  blk_simp
  obtain ⟨a, b, rfl⟩ : ∃ (a : Fin 2296) (b : Fin 128), y = ix2 a b := ⟨y 0, y 1, eq_ix2 y⟩
  have e : (win0_5.blk t).view.emb (ix2 a b) = ix2 a b := by
    blk_ext [index5 t]
  rw [after0_5, (results_at _ _ _ _ a b).2.1, parts, weights, means, meansSq, e]
  rfl

theorem final6 : (dats m 0 c).arrAt 6 cfg0.N
      = fun y => mean (total (m ((c : Thread nD τ).loc main_arg3)) (y 0) (y 1)) (m ((c : Thread nD τ).loc main_arg1) y) := by
  refine (dats m 0 c).arrAt_eq_of_covers 6 _ (by decide +kernel) fun t hf y => ?_
  blk_simp
  obtain ⟨a, b, rfl⟩ : ∃ (a : Fin 2296) (b : Fin 128), y = ix2 a b := ⟨y 0, y 1, eq_ix2 y⟩
  have e : (win0_6.blk t).view.emb (ix2 a b) = ix2 a b := by
    blk_ext [index6 t]
  rw [after0_6, (results_at _ _ _ _ a b).2.2.1, parts, means, e]
  rfl

theorem final7 : (dats m 0 c).arrAt 7 cfg0.N
      = fun y => meanSq (total (m ((c : Thread nD τ).loc main_arg3)) (y 0) (y 1)) (m ((c : Thread nD τ).loc main_arg2) y) := by
  refine (dats m 0 c).arrAt_eq_of_covers 7 _ (by decide +kernel) fun t hf y => ?_
  blk_simp
  obtain ⟨a, b, rfl⟩ : ∃ (a : Fin 2296) (b : Fin 128), y = ix2 a b := ⟨y 0, y 1, eq_ix2 y⟩
  have e : (win0_7.blk t).view.emb (ix2 a b) = ix2 a b := by
    blk_ext [index7 t]
  rw [after0_7, (results_at _ _ _ _ a b).2.2.2, parts, meansSq, e]
  rfl

end arrays

section reference

open Cert.Reference23Ideal.Read

variable (w m v : S2296x128.Idx → EReal) (p : S8x2296x128.Idx → EReal) (y : S2296x128.Idx)

theorem reference_grad : val_main_v0 (F := Ideal) p y = total p (y 0) (y 1) := by
  rw [val_main_v0_apply, val_main_cst_apply]
  refine (congrArg (· + _) word_zero).trans ((zero_add _).trans ?_)
  exact Finset.sum_congr rfl fun s _ => congrArg p (at3 _ _ rfl rfl rfl)

theorem reference_mean : val_main_v5 (F := Ideal) m p y = mean (total p (y 0) (y 1)) (m y) := by
  rw [val_main_v5_apply, val_main_v2_apply, val_main_v4_apply, val_main_v1_apply, val_main_v3_apply, reference_grad]
  rfl

theorem reference_meanSq : val_main_v11 (F := Ideal) v p y = meanSq (total p (y 0) (y 1)) (v y) := by
  rw [val_main_v11_apply, val_main_v7_apply, val_main_v10_apply, val_main_v6_apply, val_main_v9_apply, val_main_v8_apply, reference_grad]
  rfl

theorem reference_delta : val_main_v24 (F := Ideal) w m v p y = delta (w y) (total p (y 0) (y 1)) (m y) (v y) := by
  rw [val_main_v24_apply, val_main_v23_apply, val_main_v22_apply, val_main_v21_apply, val_main_v20_apply, val_main_v19_apply,
    val_main_v18_apply, val_main_v17_apply, val_main_v16_apply, val_main_v15_apply, val_main_v14_apply, val_main_v13_apply,
    val_main_v12_apply, reference_mean, reference_meanSq]
  rfl

end reference

/-- The reference runs, its arguments end as they were, and it has no semaphore that could be left raised. -/
theorem reference_frame : @Cert.quiescent_Reference23Ideal Cert.Reference23Ideal.Gen.facts := fun m ρ _ =>
  (θ_run Cert.Reference23Ideal.defs _ _).mono
    (fun r h => ⟨fun c => (h c).2.2.2.2, sem_eq_zero_of_no_sems (by decide) r.2⟩)
    (Cert.Reference23Ideal.Value.run (F := Ideal) m ρ)

open Cert.Reference23Ideal.Read in
/-- The kernel and the reference end with the same four arrays. -/
theorem equal : @Cert.algebraic_Kernel23Ideal_Reference23Ideal Cert.Kernel23Ideal.Gen.facts Cert.Reference23Ideal.Gen.facts := by
  intro m g m' g' _ hargs
  refine ⟨fun c => (dats m 0 c).arrAt 4 cfg0.N, fun c => (dats m 0 c).arrAt 5 cfg0.N, fun c => (dats m 0 c).arrAt 6 cfg0.N,
    fun c => (dats m 0 c).arrAt 7 cfg0.N, Cert.Kernel23Ideal.Value.run_blocks m g, ?_⟩
  refine (θ_run _ _ _).mono (fun r h c => ?_) (Cert.Reference23Ideal.Value.run m' g')
  obtain ⟨h0, h1, h2, h3, hrest⟩ := h c
  obtain ⟨e0, e1, e2, e3⟩ := hargs c
  refine ⟨h0.trans ?_, h1.trans ?_, h2.trans ?_, h3.trans ?_, hrest⟩
  · rw [val_main_v0_eq, e3]
    exact (funext fun y => reference_grad _ y).trans (final4 m c).symm
  · rw [val_main_v24_eq, e0, e1, e2, e3]
    exact (funext fun y => reference_delta _ _ _ _ y).trans (final5 m c).symm
  · rw [val_main_v5_eq, e1, e3]
    exact (funext fun y => reference_mean _ _ y).trans (final6 m c).symm
  · rw [val_main_v11_eq, e2, e3]
    exact (funext fun y => reference_meanSq _ _ y).trans (final7 m c).symm

end Cert.Kernel23Ideal.AdamSmall

end
-- ==== Proof.Memory.lean ====
module

public import proofs.«01_k».proof.Proof.Gen.Kernel24Ideal.Value
public import proofs.«01_k».proof.Proof.Gen.Reference24Ideal.Run
public import proofs.«01_k».proof.Proof.Gen.Reference24Ideal.Read
public import proofs.«01_k».proof.Proof.Products
public import proofs.«01_k».proof.Defs
public import Idealize.ShloMosaic.Adequacy
public import Idealize.ShloMosaic.Init

/-! The memory's keys and values. -/

@[expose] public section

set_option maxRecDepth 16384

noncomputable section

namespace Cert.Kernel24Ideal.Memory

open Idealize.ShloMosaic Idealize.ShloMosaic.TcCoe Idealize.ShloMosaic.Tactic
open Idealize.SL Idealize.SL.Sem
open Cert.Loads Cert.Products
open Cert.Kernel24Ideal Cert.Kernel24Ideal.Gen

/-- An entry of the product, the weights' columns being in shards of 256. -/
def entry (a : S256x1024.Idx → EReal) (w : S8x1024x256.Idx → EReal) (i : Fin 256) (j : Fin 2048) : EReal :=
  ∑ k, a (ix2 i k) * w (ix3 ⟨j.val / 256, by omega⟩ k ⟨j.val % 256, by omega⟩)

/-- The tile that shard `s` of the weights gives. -/
theorem tile_at (a : Vec Ideal S256x1024 .bf16) (w : Vec Ideal S8x1024x256 .bf16) (s : ℕ)
    (i : ∀ b, (![s, 0, 0] : Fin 3 → ℕ) b + (![1, 1024, 256] : Fin 3 → ℕ) b ≤ S8x1024x256.size b) (x : S256x256.Idx) (y : S256x2048.Idx)
    (h0 : (y 0).val = (x 0).val) (h1 : (y 1).val = s * 256 + (x 1).val) :
    k0_pay1 a (View.ld (Val := Elt Ideal) w (Rect.unit (s := S8x1024x256) ![s, 0, 0] ![1, 1024, 256] i)) x = entry a w (y 0) (y 1) := by
  obtain ⟨p, q, rfl⟩ : ∃ (p : Fin 256) (q : Fin 256), x = ix2 p q := ⟨x 0, x 1, eq_ix2 x⟩
  obtain ⟨p', j, rfl⟩ : ∃ (p' : Fin 256) (j : Fin 2048), y = ix2 p' j := ⟨y 0, y 1, eq_ix2 y⟩
  obtain rfl : p' = p := Fin.ext h0
  have hj : j.val = s * 256 + q.val := h1
  have hq := q.isLt
  have e : ∀ v : Vec Ideal S1x1024x256 .bf16, k0_pay1 a v (ix2 p' q) = ∑ k, a (ix2 p' k) * v (ix3 0 k q) := fun v => by
    pointwise [k0_pay1]
  rw [e]
  refine Finset.sum_congr rfl fun k _ => congrArg (_ * ·) (ld3 w s 0 0 i _ _ ?_ (Nat.zero_add _).symm ?_)
  · show j.val / 256 = s + 0
    omega
  · show j.val % 256 = 0 + q.val
    omega

theorem block_eq (a : Vec Ideal S256x1024 .bf16) (w : Vec Ideal S8x1024x256 .bf16) (y : S256x2048.Idx) :
    out0_2 a w y = entry a w (y 0) (y 1) := by
  unfold out0_2
  canon_tiles x h
  all_goals rw [ld2_all]
  all_goals first
    | exact tile_at a w _ _ x y h0 h1
    | exact tile_at a w 0 _ x y h0 (h1.trans (by omega))

theorem index0 : ∀ t : Fin cfg0.N, win0_0.index t = ![0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)

section arrays

variable (m : (ℓ : Loc nD τ sig) → Buf (Elt Ideal) ℓ) (c : Dev nD)

theorem rows_all (t : Fin cfg0.N) : iblk m c 0 t = m ((c : Thread nD τ).loc main_arg0) := by
  funext i
  blk_ext [iblk, V, index0 t]

theorem weights (t : Fin cfg0.N) : iblk m c 1 t = m ((c : Thread nD τ).loc main_arg1) := by
  funext i
  blk_ext [iblk, V, index1 t]

/-- The array after the run. -/
theorem final : (dats m 0 c).arrAt 2 cfg0.N
      = fun y => entry (m ((c : Thread nD τ).loc main_arg0)) (m ((c : Thread nD τ).loc main_arg1)) (y 0) (y 1) := by
  refine (dats m 0 c).arrAt_eq_of_covers 2 _ (by decide +kernel) fun t hf y => ?_
  blk_simp
  rw [after0_2, block_eq, rows_all, weights]
  have e : (win0_2.blk t).view.emb y = (y : S256x2048.Idx) := by
    blk_ext [index2 t]
  rw [e]

end arrays

open Cert.Reference24Ideal.Read in
theorem reference_eq (a : S256x1024.Idx → EReal) (w : S8x1024x256.Idx → EReal) :
    val_main_v5 (F := Ideal) a w = fun y => entry a w (y 0) (y 1) := by
  funext i
  obtain ⟨p, q, rfl⟩ : ∃ (p : Fin 256) (q : Fin 2048), i = ix2 p q := ⟨i 0, i 1, eq_ix2 i⟩
  have el : ∀ k, lidx_main_v4 (ix2 p q) k = ix2 p k := fun k => at2 _ _ rfl rfl
  rw [val_main_v5_apply, val_main_v4_apply]
  refine Finset.sum_congr rfl fun k _ => ?_
  have hk := k.isLt
  have hq := q.isLt
  rw [el, val_main_v0_apply, val_main_v3_apply, val_main_v2_apply, val_main_v1_apply]
  refine congrArg (_ * ·) (congrArg w (at3 _ _ ?_ ?_ ?_))
  · show (k.val * 2048 + q.val) / 256 % 8 = q.val / 256
    omega
  · show (k.val * 2048 + q.val) / 2048 = k.val
    omega
  · show (k.val * 2048 + q.val) % 256 = q.val % 256
    omega

/-- The reference runs, its arguments end as they were, and it has no semaphore that could be left raised. -/
theorem reference_frame : @Cert.quiescent_Reference24Ideal Cert.Reference24Ideal.Gen.facts := fun m ρ _ =>
  (θ_run Cert.Reference24Ideal.defs _ _).mono
    (fun r h => ⟨fun c => (h c).2, sem_eq_zero_of_no_sems (by decide) r.2⟩)
    (Cert.Reference24Ideal.Value.run (F := Ideal) m ρ)

open Cert.Reference24Ideal.Read in
/-- The kernel and the reference end with the same array. -/
theorem equal : @Cert.algebraic_Kernel24Ideal_Reference24Ideal Cert.Kernel24Ideal.Gen.facts Cert.Reference24Ideal.Gen.facts := by
  intro m g m' g' _ hargs
  refine ⟨fun c => (dats m 0 c).arrAt 2 cfg0.N, Cert.Kernel24Ideal.Value.run_blocks m g, ?_⟩
  refine (θ_run _ _ _).mono (fun r h c => ?_) (Cert.Reference24Ideal.Value.run m' g')
  obtain ⟨hd, hrest⟩ := h c
  obtain ⟨e0, e1⟩ := hargs c
  refine ⟨hd.trans ?_, hrest⟩
  rw [val_main_v5_eq, e0, e1]
  exact (reference_eq _ _).trans (final m c).symm

end Cert.Kernel24Ideal.Memory

end
-- ==== Proof.MemoryBack.lean ====
module

public import proofs.«01_k».proof.Proof.Gen.Kernel25Ideal.Value
public import proofs.«01_k».proof.Proof.Gen.Reference25Ideal.Run
public import proofs.«01_k».proof.Proof.Gen.Reference25Ideal.Read
public import proofs.«01_k».proof.Proof.Products
public import proofs.«01_k».proof.Defs
public import Idealize.ShloMosaic.Adequacy
public import Idealize.ShloMosaic.Init

/-! The gradient at the normed memory, from the gradient at the keys and values. -/

@[expose] public section

set_option maxRecDepth 16384

noncomputable section

namespace Cert.Kernel25Ideal.MemoryBack

open Idealize.ShloMosaic Idealize.ShloMosaic.TcCoe Idealize.ShloMosaic.Tactic
open Idealize.SL Idealize.SL.Sem
open Cert.Loads Cert.Products
open Cert.Kernel25Ideal Cert.Kernel25Ideal.Gen

/-- What the columns of shard `s` give to an entry. -/
def shard (d : S256x2048.Idx → EReal) (w : S8x1024x256.Idx → EReal) (i : Fin 256) (j : Fin 1024) (s : Fin 8) : EReal :=
  ∑ k : Fin 256, d (ix2 i ⟨s.val * 256 + k.val, by omega⟩) * w (ix3 s j k)

theorem block_eq (d : Vec Ideal S256x2048 .bf16) (w : Vec Ideal S8x1024x256 .bf16) (y : S256x1024.Idx) :
    out0_2 d w y = ∑ s, shard d w (y 0) (y 1) s := by
  unfold out0_2
  canon_tiles z h
  obtain rfl := at2 y z h0 h1
  obtain ⟨i, j, rfl⟩ : ∃ (i : Fin 256) (j : Fin 1024), y = ix2 i j := ⟨y 0, y 1, eq_ix2 y⟩
  have e : ∀ (a0 a1 a2 a3 a4 a5 a6 a7 : Vec Ideal S256x256 .bf16) (b0 b1 b2 b3 b4 b5 b6 b7 : Vec Ideal S1x1024x256 .bf16),
      k0_pay1 (k0_pay2 a0 b0 a1 b1 a2 b2 a3 b3 a4 b4) a5 b5 a6 b6 a7 b7 (ix2 i j)
        = (∑ k, a0 (ix2 i k) * b0 (ix3 0 j k)) + (∑ k, a1 (ix2 i k) * b1 (ix3 0 j k)) + (∑ k, a2 (ix2 i k) * b2 (ix3 0 j k))
          + (∑ k, a3 (ix2 i k) * b3 (ix3 0 j k)) + (∑ k, a4 (ix2 i k) * b4 (ix3 0 j k)) + (∑ k, a5 (ix2 i k) * b5 (ix3 0 j k))
          + (∑ k, a6 (ix2 i k) * b6 (ix3 0 j k)) + (∑ k, a7 (ix2 i k) * b7 (ix3 0 j k)) :=
    fun _ _ _ _ _ _ _ _ _ _ _ _ _ _ _ _ => by
      pointwise [k0_pay1, k0_pay2]
  have l : ∀ (s : ℕ) (hs : s < 8) (o : ℕ) (ho : o = s * 256)
      (b : ∀ a, (![0, o] : Fin 2 → ℕ) a + (![256, 256] : Fin 2 → ℕ) a ≤ S256x2048.size a)
      (b' : ∀ a, (![s, 0, 0] : Fin 3 → ℕ) a + (![1, 1024, 256] : Fin 3 → ℕ) a ≤ S8x1024x256.size a),
      ∑ k, View.ld (Val := Elt Ideal) d (Rect.unit (s := S256x2048) ![0, o] ![256, 256] b) (ix2 i k)
          * View.ld (Val := Elt Ideal) w (Rect.unit (s := S8x1024x256) ![s, 0, 0] ![1, 1024, 256] b') (ix3 0 j k)
        = shard d w i j ⟨s, hs⟩ := fun s hs o ho b b' =>
    Finset.sum_congr rfl fun k _ => congrArg₂ (· * ·)
      (ld2 d 0 o b _ _ (Nat.zero_add _).symm (congrArg (· + k.val) ho.symm))
      (ld3 w s 0 0 b' _ _ rfl (Nat.zero_add _).symm (Nat.zero_add _).symm)
  rw [e, Fin.sum_univ_eight]
  simp only [r0_0, r0_1, r0_2, r0_3, r0_4, r0_5, r0_6, r0_7, r0_8, r0_9, r0_10, r0_11, r0_12, r0_13, r0_14, r0_15]
  rw [l 0 (by omega) _ rfl, l 1 (by omega) _ rfl, l 2 (by omega) _ rfl, l 3 (by omega) _ rfl, l 4 (by omega) _ rfl, l 5 (by omega) _ rfl,
    l 6 (by omega) _ rfl, l 7 (by omega) _ rfl]
  rfl

theorem index0 : ∀ t : Fin cfg0.N, win0_0.index t = ![0, 0] := (by decide +kernel : ∀ t : Fin grid0.N, _)
theorem index1 : ∀ t : Fin cfg0.N, win0_1.index t = ![0, 0, 0] := (by decide +kernel : ∀ t : Fin grid0.N, _)
theorem index2 : ∀ t : Fin cfg0.N, win0_2.index t = ![0, 0] := (by decide +kernel : ∀ t : Fin grid0.N, _)

section arrays

variable (m : (ℓ : Loc nD τ sig) → Buf (Elt Ideal) ℓ) (c : Dev nD)

theorem grads (t : Fin cfg0.N) : iblk m c 0 t = m ((c : Thread nD τ).loc main_arg0) := by
  funext i
  blk_ext [iblk, V, index0 t]

theorem weights (t : Fin cfg0.N) : iblk m c 1 t = m ((c : Thread nD τ).loc main_arg1) := by
  funext i
  blk_ext [iblk, V, index1 t]

/-- The array after the run. -/
theorem final : (dats m 0 c).arrAt 2 cfg0.N
      = fun y => ∑ s, shard (m ((c : Thread nD τ).loc main_arg0)) (m ((c : Thread nD τ).loc main_arg1)) (y 0) (y 1) s := by
  refine (dats m 0 c).arrAt_eq_of_covers 2 _ (by decide +kernel) fun t hf y => ?_
  blk_simp
  rw [after0_2, block_eq, grads, weights]
  have e : (win0_2.blk t).view.emb y = (y : S256x1024.Idx) := by
    blk_ext [index2 t]
  rw [e]

end arrays

open Cert.Reference25Ideal.Read in
theorem reference_eq (d : S256x2048.Idx → EReal) (w : S8x1024x256.Idx → EReal) :
    val_main_v6 (F := Ideal) d w = fun y => ∑ s, shard d w (y 0) (y 1) s := by
  funext i
  obtain ⟨p, q, rfl⟩ : ∃ (p : Fin 256) (q : Fin 1024), i = ix2 p q := ⟨i 0, i 1, eq_ix2 i⟩
  have hq := q.isLt
  rw [val_main_v6_apply, Fin.sum_univ_tiles 8 256 rfl]
  refine Finset.sum_congr rfl fun s _ => Finset.sum_congr rfl fun k _ => ?_
  have hk := k.isLt
  have hs := s.isLt
  rw [val_main_v5_apply, val_main_v3_apply, val_main_v2_apply, val_main_v1_apply]
  refine congrArg₂ (· * ·) (congrArg d (at2 _ _ rfl rfl)) (congrArg w (at3 _ _ ?_ ?_ ?_))
  · show (q.val * 2048 + (s.val * 256 + k.val)) / 256 % 8 = s.val
    omega
  · show (q.val * 2048 + (s.val * 256 + k.val)) / 2048 = q.val
    omega
  · show (q.val * 2048 + (s.val * 256 + k.val)) % 256 = k.val
    omega

/-- The reference runs, its arguments end as they were, and it has no semaphore that could be left raised. -/
theorem reference_frame : @Cert.quiescent_Reference25Ideal Cert.Reference25Ideal.Gen.facts := fun m ρ _ =>
  (θ_run Cert.Reference25Ideal.defs _ _).mono
    (fun r h => ⟨fun c => (h c).2, sem_eq_zero_of_no_sems (by decide) r.2⟩)
    (Cert.Reference25Ideal.Value.run (F := Ideal) m ρ)

open Cert.Reference25Ideal.Read in
/-- The kernel and the derivative end with the same array. -/
theorem equal : @Cert.algebraic_Kernel25Ideal_Reference25Ideal Cert.Kernel25Ideal.Gen.facts Cert.Reference25Ideal.Gen.facts := by
  intro m g m' g' _ hargs
  refine ⟨fun c => (dats m 0 c).arrAt 2 cfg0.N, Cert.Kernel25Ideal.Value.run_blocks m g, ?_⟩
  refine (θ_run _ _ _).mono (fun r h c => ?_) (Cert.Reference25Ideal.Value.run m' g')
  obtain ⟨hd, hrest⟩ := h c
  obtain ⟨e0, e1⟩ := hargs c
  refine ⟨hd.trans ?_, hrest⟩
  rw [val_main_v6_eq, e0, e1]
  exact (reference_eq _ _).trans (final m c).symm

end Cert.Kernel25Ideal.MemoryBack

end
-- ==== Proof.MemoryGrad.lean ====
module

public import proofs.«01_k».proof.Proof.Gen.Kernel26Ideal.Value
public import proofs.«01_k».proof.Proof.Gen.Reference26Ideal.Run
public import proofs.«01_k».proof.Proof.Gen.Reference26Ideal.Read
public import proofs.«01_k».proof.Proof.Loads
public import proofs.«01_k».proof.Defs
public import Idealize.ShloMosaic.Lib.Pipeline.ReadBack
public import Idealize.ShloMosaic.Adequacy
public import Idealize.ShloMosaic.Init

/-! The gradient of the memory's key and value weights: the normed memory's transpose times the gradient at the keys and values,
written as the eight shards of columns that the devices hold. -/

@[expose] public section

set_option maxRecDepth 16384

noncomputable section

namespace Cert.Kernel26Ideal.MemoryGrad

open Idealize.ShloMosaic Idealize.ShloMosaic.TcCoe Idealize.ShloMosaic.Tactic
open Idealize.SL Idealize.SL.Sem
open Cert.Loads
open Cert.Kernel26Ideal Cert.Kernel26Ideal.Gen

/-- An entry of the whole gradient. -/
def whole (a : S256x1024.Idx → EReal) (d : S256x2048.Idx → EReal) (y : S1024x2048.Idx) : EReal :=
  ∑ k, a (ix2 k (y 0)) * d (ix2 k (y 1))

/-- The tile whose columns begin at `o`, added to zeros. -/
theorem tile_at (a : Vec Ideal S256x1024 .bf16) (d : Vec Ideal S256x2048 .bf16) (old : Vec Ideal S1024x256 .f32) (o : ℕ)
    (i : ∀ b, (![0, o] : Fin 2 → ℕ) b + (![256, 256] : Fin 2 → ℕ) b ≤ S256x2048.size b) (x : S1024x256.Idx) (y : S1024x2048.Idx)
    (hold : old x = 0) (h0 : (y 0).val = (x 0).val) (h1 : (y 1).val = o + (x 1).val) :
    k0_pay13 a old (View.ld (Val := Elt Ideal) d (Rect.unit (s := S256x2048) ![0, o] ![256, 256] i)) x = whole a d y := by
  obtain ⟨p, q, rfl⟩ : ∃ (p : Fin 1024) (q : Fin 256), x = ix2 p q := ⟨x 0, x 1, eq_ix2 x⟩
  have e : ∀ b : Vec Ideal S256x256 .bf16, k0_pay13 a old b (ix2 p q) = old (ix2 p q) + ∑ k, a (ix2 k p) * b (ix2 k q) := fun b => by
    pointwise [k0_pay13, k0_pay12]
  rw [e, hold, zero_add, whole]
  exact Finset.sum_congr rfl fun k _ => congrArg₂ (· * ·) (congrArg a (at2 _ _ rfl h0.symm))
    (ld2 d 0 o i _ (ix2 k (y 1)) (Nat.zero_add _).symm h1)

/-- The entry of the matrix that a shard's entry is. -/
abbrev column (y : S8x1024x256.Idx) : S1024x2048.Idx :=
  ix2 (y 1) ⟨(y 0).val * 256 + (y 2).val, by have h0 : (y 0).val < 8 := (y 0).isLt; have h2 : (y 2).val < 256 := (y 2).isLt; omega⟩

theorem column_val (y : S8x1024x256.Idx) (o q : ℕ) (h : o = (y 0).val * 256) (h2 : (y 2).val = q) : (column y 1).val = o + q :=
  congrArg₂ (· + ·) h.symm h2

/-- A shard is a tile, stood up as a stack of one. -/
theorem shard_apply (v : Vec Ideal S1024x256 .f32) (x : S1x1024x256.Idx) : k0_pay4 v x = v (ix2 (x 1) (x 2)) := by
  obtain ⟨s, p, q, rfl⟩ : ∃ (s : Fin 1) (p : Fin 1024) (q : Fin 256), x = ix3 s p q := ⟨x 0, x 1, x 2, eq_ix3 x⟩
  pointwise [k0_pay4]

variable (m : (ℓ : Loc nD τ sig) → Buf (Elt Ideal) ℓ) (c : Dev nD) (t : Fin cfg0.N)

theorem written (y : S8x1024x256.Idx) : outsAt0 m c t y = whole (iblk m c 0 t) (iblk m c 1 t) (column y) := by
  unfold outsAt0
  frame_open
  simp (disch := decide) only [↓ View.readCov_skip, ↓ View.readCov_cons_toLoadRect, ↓ View.readCov_fill]
  frame_out
  generalize e0 : View.read (Elt Ideal) (ms0_0 t).view ((hs0_0 t).unread (iblk m c 0 t)) = b0
  generalize e1 : View.read (Elt Ideal) (ms0_1 t).view ((hs0_1 t).unread (iblk m c 1 t)) = b1
  obtain rfl : b0 = iblk m c 0 t := e0.symm.trans (Memref.IsWhole.read_unread _ _)
  obtain rfl : b1 = iblk m c 1 t := e1.symm.trans (Memref.IsWhole.read_unread _ _)
  clear e0 e1
  canon_tiles x h
  all_goals exact (shard_apply _ x).trans (tile_at _ _ _ _ _ (ix2 (x 1) (x 2)) (column y) word_zero h1 (column_val y _ _ (by omega) h2))

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0, 0] := (by decide +kernel : ∀ t : Fin grid0.N, _)

theorem rows_all : iblk m c 0 t = m ((c : Thread nD τ).loc main_arg0) := by
  funext i
  blk_ext [iblk, V, index0 t]

theorem grads_all : iblk m c 1 t = m ((c : Thread nD τ).loc main_arg1) := by
  funext i
  blk_ext [iblk, V, index1 t]

/-- The array after the run. -/
theorem final :
    (dats m 0 c).arrAt 2 cfg0.N
      = fun y => whole (m ((c : Thread nD τ).loc main_arg0)) (m ((c : Thread nD τ).loc main_arg1)) (column y) := by
  refine (dats m 0 c).arrAt_eq_of_covers 2 _ (by decide +kernel) fun t hf y => ?_
  blk_simp
  rw [after0_2, written, rows_all, grads_all]
  have e : (win0_2.blk t).view.emb y = (y : S8x1024x256.Idx) := by
    blk_ext [index2 t]
  rw [e]

open Cert.Reference26Ideal.Read

/-- The derivative, entry by entry. -/
theorem reference_eq (a : S256x1024.Idx → EReal) (d : S256x2048.Idx → EReal) :
    val_main_v8 (F := Ideal) a d = fun y => whole a d (column y) := by
  funext i
  obtain ⟨s, p, q, rfl⟩ : ∃ (s : Fin 8) (p : Fin 1024) (q : Fin 256), i = ix3 s p q := ⟨i 0, i 1, i 2, eq_ix3 i⟩
  have hs := s.isLt
  have hp := p.isLt
  have hq := q.isLt
  have et : idx_main_v5 (idx_main_v6 (idx_main_v7 (ix3 s p q))) = ix2 ⟨s.val * 256 + q.val, by omega⟩ p :=
    at2 _ _ (show ((p.val * 8 + s.val) * 256 + q.val) % 2048 = s.val * 256 + q.val by omega)
      (show ((p.val * 8 + s.val) * 256 + q.val) / 2048 = p.val by omega)
  have el : ∀ j k, lidx_main_v4 (ix2 j p) k = ix2 k j := fun j k => at2 _ _ rfl rfl
  have er : ∀ j k, ridx_main_v4 (ix2 j p) k = ix2 k p := fun j k => at2 _ _ rfl rfl
  rw [val_main_v8_apply, val_main_v7_apply, val_main_v6_apply, val_main_v5_apply, et, val_main_v4_apply]
  simp only [el, er, val_main_v3_apply, val_main_v0_apply]
  exact Finset.sum_congr rfl fun k _ => mul_comm _ _

/-- The reference runs, its arguments end as they were, and it has no semaphore that could be left raised. -/
theorem reference_frame : @Cert.quiescent_Reference26Ideal Cert.Reference26Ideal.Gen.facts := fun m ρ _ =>
  (θ_run Cert.Reference26Ideal.defs _ _).mono
    (fun r h => ⟨fun c => (h c).2, sem_eq_zero_of_no_sems (by decide) r.2⟩)
    (Cert.Reference26Ideal.Value.run (F := Ideal) m ρ)

/-- The kernel and the derivative end with the same array. -/
theorem equal : @Cert.algebraic_Kernel26Ideal_Reference26Ideal Cert.Kernel26Ideal.Gen.facts Cert.Reference26Ideal.Gen.facts := by
  intro m g m' g' _ hargs
  refine ⟨fun c => (dats m 0 c).arrAt 2 cfg0.N, Cert.Kernel26Ideal.Value.run_blocks m g, ?_⟩
  refine (θ_run _ _ _).mono (fun r h c => ?_) (Cert.Reference26Ideal.Value.run m' g')
  obtain ⟨hd, hrest⟩ := h c
  obtain ⟨e0, e1⟩ := hargs c
  refine ⟨hd.trans ?_, hrest⟩
  rw [val_main_v8_eq, e0, e1]
  exact (reference_eq _ _).trans (final m c).symm

end Cert.Kernel26Ideal.MemoryGrad

end
-- ==== Proof.lean ====
module

public import proofs.«01_k».proof.Defs
public import proofs.«01_k».proof.Proof.Inputs
public import proofs.«01_k».proof.Proof.Answer
public import proofs.«01_k».proof.Proof.Dup
public import proofs.«01_k».proof.Proof.DownGrad
public import proofs.«01_k».proof.Proof.UpGrad
public import proofs.«01_k».proof.Proof.UpBack
public import proofs.«01_k».proof.Proof.SquareGrad
public import proofs.«01_k».proof.Proof.Square
public import proofs.«01_k».proof.Proof.QueryBack
public import proofs.«01_k».proof.Proof.Up
public import proofs.«01_k».proof.Proof.Down
public import proofs.«01_k».proof.Proof.Mix
public import proofs.«01_k».proof.Proof.Halves
public import proofs.«01_k».proof.Proof.Queries
public import proofs.«01_k».proof.Proof.Project
public import proofs.«01_k».proof.Proof.InGrad
public import proofs.«01_k».proof.Proof.DownLast
public import proofs.«01_k».proof.Proof.InputBack
public import proofs.«01_k».proof.Proof.FirstBack
public import proofs.«01_k».proof.Proof.Attend
public import proofs.«01_k».proof.Proof.Adam
public import proofs.«01_k».proof.Proof.AdamSmall
public import proofs.«01_k».proof.Proof.Memory
public import proofs.«01_k».proof.Proof.MemoryBack
public import proofs.«01_k».proof.Proof.MemoryGrad
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Reference5Ideal
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Reference6Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Reference12Ideal
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Reference13Ideal
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Reference14Ideal
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal.Run
public import proofs.«01_k».proof.Proof.Gen.Reference15Ideal.Read
public import proofs.«01_k».proof.Proof.Gen.Reference15Ideal
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal.Run
public import proofs.«01_k».proof.Proof.Gen.Reference16Ideal.Read
public import proofs.«01_k».proof.Proof.Gen.Reference16Ideal
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal.Run
public import proofs.«01_k».proof.Proof.Gen.Reference17Ideal.Read
public import proofs.«01_k».proof.Proof.Gen.Reference17Ideal
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal.Run
public import proofs.«01_k».proof.Proof.Gen.Reference18Ideal.Read
public import proofs.«01_k».proof.Proof.Gen.Reference18Ideal
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal.Run
public import proofs.«01_k».proof.Proof.Gen.Reference19Ideal.Read
public import proofs.«01_k».proof.Proof.Gen.Reference19Ideal
public import Idealize.ShloMosaic.Adequacy
public import Idealize.ShloMosaic.Init
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal.Run
public import proofs.«01_k».proof.Proof.Gen.Reference20Ideal.Read
public import proofs.«01_k».proof.Proof.Gen.Reference20Ideal
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal.Run
public import proofs.«01_k».proof.Proof.Gen.Reference23Ideal.Read
public import proofs.«01_k».proof.Proof.Gen.Reference23Ideal
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal.Run
public import proofs.«01_k».proof.Proof.Gen.Reference24Ideal.Read
public import proofs.«01_k».proof.Proof.Gen.Reference24Ideal
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal.Run
public import proofs.«01_k».proof.Proof.Gen.Reference25Ideal.Read
public import proofs.«01_k».proof.Proof.Gen.Reference25Ideal
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal.Run
public import proofs.«01_k».proof.Proof.Gen.Reference26Ideal.Read
public import proofs.«01_k».proof.Proof.Gen.Reference26Ideal

@[expose] public section

noncomputable section

namespace Cert.Proof

open Idealize.ShloMosaic Idealize.SL.Sem Cert.Kernel

/-- The reference runs, its arguments end as they were, and it has no semaphore that could be left raised. -/
theorem reference_frame : @Cert.quiescent_ReferenceIdeal Cert.ReferenceIdeal.Gen.facts := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

/-- The kernel and the reference end with the same gradients. -/
theorem gradient : @Cert.algebraic_KernelIdeal_ReferenceIdeal_pre_scores_finite Cert.KernelIdeal.Gen.facts Cert.ReferenceIdeal.Gen.facts
    Cert.Pre_scores_finite.Read.facts := by
  intro m g m' g' pre hargs
  refine ⟨fun c => (Cert.KernelIdeal.Gen.dats m 0 c).arrAt 3 Cert.KernelIdeal.cfg0.N,
    fun c => (Cert.KernelIdeal.Gen.dats m 0 c).arrAt 4 Cert.KernelIdeal.cfg0.N,
    Cert.KernelIdeal.Value.run_blocks m g, ?_⟩
  refine (θ_run _ _ _).mono (fun r h c => ?_) (Cert.ReferenceIdeal.Value.run m' g')
  obtain ⟨hq, hkv, hrest⟩ := h c
  obtain ⟨e0, e1, e2⟩ := hargs c
  have fq := Cert.Pre_scores_finite.Read.query_finite _ _ _ (pre c)
  have fk := Cert.Pre_scores_finite.Read.key_finite _ _ _ (pre c)
  refine ⟨hq.trans ?_, hkv.trans ?_, hrest⟩
  · rw [Cert.ReferenceIdeal.Read.val_main_v73_eq, e0, e1, e2]
    exact (Cert.KernelIdeal.Answer.queries_eq _ _ _ fq fk).symm.trans (Cert.KernelIdeal.Whole.queries_final m c).symm
  · rw [Cert.ReferenceIdeal.Read.val_main_v72_eq, e0, e1, e2]
    exact (Cert.KernelIdeal.Answer.memory_eq _ _ _ fq fk).symm.trans (Cert.KernelIdeal.Whole.memory_final m c).symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Kernel26.Gen.facts, Cert.Kernel26Ideal.Gen.facts, Cert.Reference26Ideal.Gen.facts,
    Cert.Pre_scores_finite.Read.facts,
    fun m ρ _ => Cert.Kernel.Gen.frame m ρ,
    fun m ρ _ => Cert.KernelIdeal.Gen.frame m ρ,
    fun m ρ _ => Cert.KernelIdeal.Gen.frame m ρ,
    reference_frame,
    fun m ρ _ => reference_frame m ρ trivial,
    fun m ρ _ => Cert.Kernel2.Gen.frame m ρ,
    fun m ρ _ => Cert.Kernel2Ideal.Gen.frame m ρ,
    Cert.Kernel2Ideal.Dup.reference_frame,
    fun m ρ _ => Cert.Kernel3.Gen.frame m ρ,
    fun m ρ _ => Cert.Kernel3Ideal.Gen.frame m ρ,
    Cert.Kernel3Ideal.DownGrad.reference_frame,
    fun m ρ _ => Cert.Kernel4.Gen.frame m ρ,
    fun m ρ _ => Cert.Kernel4Ideal.Gen.frame m ρ,
    Cert.Kernel4Ideal.UpGrad.reference_frame,
    fun m ρ _ => Cert.Kernel5.Gen.frame m ρ,
    fun m ρ _ => Cert.Kernel5Ideal.Gen.frame m ρ,
    Cert.Kernel5Ideal.UpBack.reference_frame,
    fun m ρ _ => Cert.Kernel6.Gen.frame m ρ,
    fun m ρ _ => Cert.Kernel6Ideal.Gen.frame m ρ,
    Cert.Kernel6Ideal.SquareGrad.reference_frame,
    fun m ρ _ => Cert.Kernel7.Gen.frame m ρ,
    fun m ρ _ => Cert.Kernel7Ideal.Gen.frame m ρ,
    Cert.Kernel7Ideal.Square.reference_frame,
    fun m ρ _ => Cert.Kernel8.Gen.frame m ρ,
    fun m ρ _ => Cert.Kernel8Ideal.Gen.frame m ρ,
    Cert.Kernel8Ideal.QueryBack.reference_frame,
    fun m ρ _ => Cert.Kernel9.Gen.frame m ρ,
    fun m ρ _ => Cert.Kernel9Ideal.Gen.frame m ρ,
    Cert.Kernel9Ideal.Up.reference_frame,
    fun m ρ _ => Cert.Kernel10.Gen.frame m ρ,
    fun m ρ _ => Cert.Kernel10Ideal.Gen.frame m ρ,
    Cert.Kernel10Ideal.Down.reference_frame,
    fun m ρ _ => Cert.Kernel11.Gen.frame m ρ,
    fun m ρ _ => Cert.Kernel11Ideal.Gen.frame m ρ,
    Cert.Kernel11Ideal.Mix.reference_frame,
    fun m ρ _ => Cert.Kernel12.Gen.frame m ρ,
    fun m ρ _ => Cert.Kernel12Ideal.Gen.frame m ρ,
    Cert.Kernel12Ideal.Halves.reference_frame,
    fun m ρ _ => Cert.Kernel13.Gen.frame m ρ,
    fun m ρ _ => Cert.Kernel13Ideal.Gen.frame m ρ,
    Cert.Kernel13Ideal.Queries.reference_frame,
    fun m ρ _ => Cert.Kernel14.Gen.frame m ρ,
    fun m ρ _ => Cert.Kernel14Ideal.Gen.frame m ρ,
    Cert.Kernel14Ideal.Project.reference_frame,
    fun m ρ _ => Cert.Kernel15.Gen.frame m ρ,
    fun m ρ _ => Cert.Kernel15Ideal.Gen.frame m ρ,
    Cert.Kernel15Ideal.InGrad.reference_frame,
    fun m ρ _ => Cert.Kernel16.Gen.frame m ρ,
    fun m ρ _ => Cert.Kernel16Ideal.Gen.frame m ρ,
    Cert.Kernel16Ideal.DownLast.reference_frame,
    fun m ρ _ => Cert.Kernel17.Gen.frame m ρ,
    fun m ρ _ => Cert.Kernel17Ideal.Gen.frame m ρ,
    Cert.Kernel17Ideal.InputBack.reference_frame,
    fun m ρ _ => Cert.Kernel18.Gen.frame m ρ,
    fun m ρ _ => Cert.Kernel18Ideal.Gen.frame m ρ,
    Cert.Kernel18Ideal.FirstBack.reference_frame,
    fun m ρ _ => Cert.Kernel19.Gen.frame m ρ,
    fun m ρ _ => Cert.Kernel19Ideal.Gen.frame m ρ,
    Cert.Reference19Ideal.Attend.reference_frame,
    fun m ρ _ => Cert.Kernel20.Gen.frame m ρ,
    fun m ρ _ => Cert.Kernel20Ideal.Gen.frame m ρ,
    Cert.Kernel20Ideal.Adam.reference_frame,
    fun m ρ _ => Cert.Kernel23.Gen.frame m ρ,
    fun m ρ _ => Cert.Kernel23Ideal.Gen.frame m ρ,
    Cert.Kernel23Ideal.AdamSmall.reference_frame,
    fun m ρ _ => Cert.Kernel24.Gen.frame m ρ,
    fun m ρ _ => Cert.Kernel24Ideal.Gen.frame m ρ,
    Cert.Kernel24Ideal.Memory.reference_frame,
    fun m ρ _ => Cert.Kernel25.Gen.frame m ρ,
    fun m ρ _ => Cert.Kernel25Ideal.Gen.frame m ρ,
    Cert.Kernel25Ideal.MemoryBack.reference_frame,
    fun m ρ _ => Cert.Kernel26.Gen.frame m ρ,
    fun m ρ _ => Cert.Kernel26Ideal.Gen.frame m ρ,
    Cert.Kernel26Ideal.MemoryGrad.reference_frame,
    trivial, gradient,
    trivial, Cert.Kernel2Ideal.Dup.equal,
    trivial, Cert.Kernel3Ideal.DownGrad.equal,
    trivial, Cert.Kernel4Ideal.UpGrad.equal,
    trivial, Cert.Kernel5Ideal.UpBack.equal,
    trivial, Cert.Kernel6Ideal.SquareGrad.equal,
    trivial, Cert.Kernel7Ideal.Square.equal,
    trivial, Cert.Kernel8Ideal.QueryBack.equal,
    trivial, Cert.Kernel9Ideal.Up.equal,
    trivial, Cert.Kernel10Ideal.Down.equal,
    trivial, Cert.Kernel11Ideal.Mix.equal,
    trivial, Cert.Kernel12Ideal.Halves.equal,
    trivial, Cert.Kernel13Ideal.Queries.equal,
    trivial, Cert.Kernel14Ideal.Project.equal,
    trivial, Cert.Kernel15Ideal.InGrad.equal,
    trivial, Cert.Kernel16Ideal.DownLast.equal,
    trivial, Cert.Kernel17Ideal.InputBack.equal,
    trivial, Cert.Kernel18Ideal.FirstBack.equal,
    trivial, Cert.Kernel19Ideal.Attend.equal,
    trivial, Cert.Kernel20Ideal.Adam.equal,
    trivial, Cert.Kernel23Ideal.AdamSmall.equal,
    trivial, Cert.Kernel24Ideal.Memory.equal,
    trivial, Cert.Kernel25Ideal.MemoryBack.equal,
    trivial, Cert.Kernel26Ideal.MemoryGrad.equal⟩

end Cert.Proof

end
